-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v44) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)) →
    ∃ (v0 : (c : Dev Cert.Kernel4Ideal.nD) → Buf (Elt Ideal) ((c.tc : Thread Cert.Kernel4Ideal.nD Cert.Kernel4Ideal.τ).loc Cert.Kernel4Ideal.main_v26_0)) (v1 : (c : Dev Cert.Kernel4Ideal.nD) → Buf (Elt Ideal) ((c.tc : Thread Cert.Kernel4Ideal.nD Cert.Kernel4Ideal.τ).loc Cert.Kernel4Ideal.main_v26_1)) (v2 : (c : Dev Cert.Kernel4Ideal.nD) → Buf (Elt Ideal) ((c.tc : Thread Cert.Kernel4Ideal.nD Cert.Kernel4Ideal.τ).loc Cert.Kernel4Ideal.main_v26_2)) (v3 : (c : Dev Cert.Kernel4Ideal.nD) → Buf (Elt Ideal) ((c.tc : Thread Cert.Kernel4Ideal.nD Cert.Kernel4Ideal.τ).loc Cert.Kernel4Ideal.main_v26_3)) (v4 : (c : Dev Cert.Kernel4Ideal.nD) → Buf (Elt Ideal) ((c.tc : Thread Cert.Kernel4Ideal.nD Cert.Kernel4Ideal.τ).loc Cert.Kernel4Ideal.main_v26_4)) (v5 : (c : Dev Cert.Kernel4Ideal.nD) → Buf (Elt Ideal) ((c.tc : Thread Cert.Kernel4Ideal.nD Cert.Kernel4Ideal.τ).loc Cert.Kernel4Ideal.main_v26_5)) (v6 : (c : Dev Cert.Kernel4Ideal.nD) → Buf (Elt Ideal) ((c.tc : Thread Cert.Kernel4Ideal.nD Cert.Kernel4Ideal.τ).loc Cert.Kernel4Ideal.main_v26_6)) (v7 : (c : Dev Cert.Kernel4Ideal.nD) → Buf (Elt Ideal) ((c.tc : Thread Cert.Kernel4Ideal.nD Cert.Kernel4Ideal.τ).loc Cert.Kernel4Ideal.main_v26_7)) (v8 : (c : Dev Cert.Kernel4Ideal.nD) → Buf (Elt Ideal) ((c.tc : Thread Cert.Kernel4Ideal.nD Cert.Kernel4Ideal.τ).loc Cert.Kernel4Ideal.main_v26_8)) (v9 : (c : Dev Cert.Kernel4Ideal.nD) → Buf (Elt Ideal) ((c.tc : Thread Cert.Kernel4Ideal.nD Cert.Kernel4Ideal.τ).loc Cert.Kernel4Ideal.main_v26_9)) (v10 : (c : Dev Cert.Kernel4Ideal.nD) → Buf (Elt Ideal) ((c.tc : Thread Cert.Kernel4Ideal.nD Cert.Kernel4Ideal.τ).loc Cert.Kernel4Ideal.main_v26_10)) (v11 : (c : Dev Cert.Kernel4Ideal.nD) → Buf (Elt Ideal) ((c.tc : Thread Cert.Kernel4Ideal.nD Cert.Kernel4Ideal.τ).loc Cert.Kernel4Ideal.main_v26_11)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v26_0) = v0 c
          ∧ r.2.mem ((c.tc : Thread Cert.Kernel4Ideal.nD Cert.Kernel4Ideal.τ).loc Cert.Kernel4Ideal.main_v26_1) = v1 c
          ∧ r.2.mem ((c.tc : Thread Cert.Kernel4Ideal.nD Cert.Kernel4Ideal.τ).loc Cert.Kernel4Ideal.main_v26_2) = v2 c
          ∧ r.2.mem ((c.tc : Thread Cert.Kernel4Ideal.nD Cert.Kernel4Ideal.τ).loc Cert.Kernel4Ideal.main_v26_3) = v3 c
          ∧ r.2.mem ((c.tc : Thread Cert.Kernel4Ideal.nD Cert.Kernel4Ideal.τ).loc Cert.Kernel4Ideal.main_v26_4) = v4 c
          ∧ r.2.mem ((c.tc : Thread Cert.Kernel4Ideal.nD Cert.Kernel4Ideal.τ).loc Cert.Kernel4Ideal.main_v26_5) = v5 c
          ∧ r.2.mem ((c.tc : Thread Cert.Kernel4Ideal.nD Cert.Kernel4Ideal.τ).loc Cert.Kernel4Ideal.main_v26_6) = v6 c
          ∧ r.2.mem ((c.tc : Thread Cert.Kernel4Ideal.nD Cert.Kernel4Ideal.τ).loc Cert.Kernel4Ideal.main_v26_7) = v7 c
          ∧ r.2.mem ((c.tc : Thread Cert.Kernel4Ideal.nD Cert.Kernel4Ideal.τ).loc Cert.Kernel4Ideal.main_v26_8) = v8 c
          ∧ r.2.mem ((c.tc : Thread Cert.Kernel4Ideal.nD Cert.Kernel4Ideal.τ).loc Cert.Kernel4Ideal.main_v26_9) = v9 c
          ∧ r.2.mem ((c.tc : Thread Cert.Kernel4Ideal.nD Cert.Kernel4Ideal.τ).loc Cert.Kernel4Ideal.main_v26_10) = v10 c
          ∧ r.2.mem ((c.tc : Thread Cert.Kernel4Ideal.nD Cert.Kernel4Ideal.τ).loc Cert.Kernel4Ideal.main_v26_11) = v11 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v91) = v0 c
          ∧ r.2.mem ((c.tc : Thread Cert.Reference4Ideal.nD Cert.Reference4Ideal.τ).loc Cert.Reference4Ideal.main_v94) = v1 c
          ∧ r.2.mem ((c.tc : Thread Cert.Reference4Ideal.nD Cert.Reference4Ideal.τ).loc Cert.Reference4Ideal.main_v95) = v2 c
          ∧ r.2.mem ((c.tc : Thread Cert.Reference4Ideal.nD Cert.Reference4Ideal.τ).loc Cert.Reference4Ideal.main_v97) = v3 c
          ∧ r.2.mem ((c.tc : Thread Cert.Reference4Ideal.nD Cert.Reference4Ideal.τ).loc Cert.Reference4Ideal.main_v100) = v4 c
          ∧ r.2.mem ((c.tc : Thread Cert.Reference4Ideal.nD Cert.Reference4Ideal.τ).loc Cert.Reference4Ideal.main_v101) = v5 c
          ∧ r.2.mem ((c.tc : Thread Cert.Reference4Ideal.nD Cert.Reference4Ideal.τ).loc Cert.Reference4Ideal.main_v102) = v6 c
          ∧ r.2.mem ((c.tc : Thread Cert.Reference4Ideal.nD Cert.Reference4Ideal.τ).loc Cert.Reference4Ideal.main_v106) = v7 c
          ∧ r.2.mem ((c.tc : Thread Cert.Reference4Ideal.nD Cert.Reference4Ideal.τ).loc Cert.Reference4Ideal.main_v107) = v8 c
          ∧ r.2.mem ((c.tc : Thread Cert.Reference4Ideal.nD Cert.Reference4Ideal.τ).loc Cert.Reference4Ideal.main_v108) = v9 c
          ∧ r.2.mem ((c.tc : Thread Cert.Reference4Ideal.nD Cert.Reference4Ideal.τ).loc Cert.Reference4Ideal.main_v110) = v10 c
          ∧ r.2.mem ((c.tc : Thread Cert.Reference4Ideal.nD Cert.Reference4Ideal.τ).loc Cert.Reference4Ideal.main_v112) = v11 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S4x4096x8x64 : Shape := ⟨4, ![4, 4096, 8, 64]⟩
abbrev S8 : Shape := ⟨1, ![8]⟩
abbrev S16384x512 : Shape := ⟨2, ![16384, 512]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S512x512 : Shape := ⟨2, ![512, 512]⟩
abbrev S4096x512 : Shape := ⟨2, ![4096, 512]⟩
abbrev S8x512x128 : Shape := ⟨3, ![8, 512, 128]⟩
abbrev S1x128 : Shape := ⟨2, ![1, 128]⟩
abbrev S512x128 : Shape := ⟨2, ![512, 128]⟩
abbrev S1 : Shape := ⟨1, ![1]⟩
abbrev S512x256 : Shape := ⟨2, ![512, 256]⟩
abbrev S256x128 : Shape := ⟨2, ![256, 128]⟩
abbrev S1x256x128 : Shape := ⟨3, ![1, 256, 128]⟩
abbrev S256x512 : Shape := ⟨2, ![256, 512]⟩
abbrev S512x1 : Shape := ⟨2, ![512, 1]⟩
abbrev S1x512x128 : Shape := ⟨3, ![1, 512, 128]⟩

abbrev nBuf : Space → Nat
  | .hbm => 21
  | .vmem => 11
  | .smem => 1
  | _ => 0

abbrev bufTy : (tb : Table) → Fin (tcTables nBuf tb) → BufTy
  | .hbm, ⟨0, _⟩ => ⟨S4x4096x8x64, .f32⟩
  | .hbm, ⟨1, _⟩ => ⟨S4x4096x8x64, .f32⟩
  | .hbm, ⟨2, _⟩ => ⟨S4x4096x8x64, .f32⟩
  | .hbm, ⟨3, _⟩ => ⟨S8, .f32⟩
  | .hbm, ⟨4, _⟩ => ⟨S16384x512, .f32⟩
  | .hbm, ⟨5, _⟩ => ⟨S_, .f32⟩
  | .hbm, ⟨6, _⟩ => ⟨S16384x512, .f32⟩
  | .hbm, ⟨7, _⟩ => ⟨S16384x512, .f32⟩
  | .hbm, ⟨8, _⟩ => ⟨S16384x512, .bf16⟩
  | .hbm, ⟨9, _⟩ => ⟨S16384x512, .f32⟩
  | .hbm, ⟨10, _⟩ => ⟨S16384x512, .bf16⟩
  | .hbm, ⟨11, _⟩ => ⟨S16384x512, .f32⟩
  | .hbm, ⟨12, _⟩ => ⟨S16384x512, .bf16⟩
  | .hbm, ⟨13, _⟩ => ⟨S256, .i32⟩
  | .hbm, ⟨14, _⟩ => ⟨S256x1, .i32⟩
  | .hbm, ⟨15, _⟩ => ⟨S1x256, .i32⟩
  | .hbm, ⟨16, _⟩ => ⟨S256x256, .i32⟩
  | .hbm, ⟨17, _⟩ => ⟨S256x256, .i32⟩
  | .hbm, ⟨18, _⟩ => ⟨S256x256, .i1⟩
  | .hbm, ⟨19, _⟩ => ⟨S256x256, .bf16⟩
  | .hbm, ⟨20, _⟩ => ⟨S16384x512, .f32⟩
  | .local _ .vmem, ⟨0, _⟩ => ⟨S512x512, .bf16⟩
  | .local _ .vmem, ⟨1, _⟩ => ⟨S512x512, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S256x256, .bf16⟩
  | .local _ .vmem, ⟨7, _⟩ => ⟨S512x512, .f32⟩
  | .local _ .vmem, ⟨8, _⟩ => ⟨S512x512, .f32⟩
  | .local _ .vmem, ⟨9, _⟩ => ⟨S8x512x128, .f32⟩
  | .local _ .vmem, ⟨10, _⟩ => ⟨S8x512x128, .f32⟩
  | .local _ .smem, ⟨0, _⟩ => ⟨S8, .f32⟩
  | _, _ => ⟨S4x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 8], ![false, false, false]⟩

def k0_off1 (i : grid0.Coords) (c0_i32 : BitVec 32) : Fin 1 → Nat :=
  let c8_i32 : BitVec 32 := 8#32
  let arg1 : BitVec 32 := BitVec.ofNat 32 (i 1).val
  let v9 : BitVec 32 := Scalar.muli c8_i32 arg1
  let v10 : BitVec 32 := Scalar.addi v9 c0_i32
  let v11 : Index := Scalar.indexCast v10
  ![v11.toNat]
def k0_mult1 (i : grid0.Coords) : BitVec 32 :=
  let arg2 : BitVec 32 := BitVec.ofNat 32 (i 2).val
  let c512_i32 : BitVec 32 := 512#32
  let v292 : BitVec 32 := Scalar.muli arg2 c512_i32
  v292
def k0_off2 (i : grid0.Coords) : Fin 2 → Nat :=
  let arg2 : BitVec 32 := BitVec.ofNat 32 (i 2).val
  let c512_i32 : BitVec 32 := 512#32
  let v292 : BitVec 32 := Scalar.muli arg2 c512_i32
  let v293 : BitVec 32 := v292
  let v294 : Index := Scalar.indexCast v293
  let c0_78 : Index := 0#32
  ![v294.toNat, 0]
def k0_off3 (i : grid0.Coords) : Fin 2 → Nat :=
  let arg2 : BitVec 32 := BitVec.ofNat 32 (i 2).val
  let c512_i32 : BitVec 32 := 512#32
  let v292 : BitVec 32 := Scalar.muli arg2 c512_i32
  let v293 : BitVec 32 := v292
  let v302 : Index := Scalar.indexCast v293
  let c128_80 : Index := 128#32
  ![v302.toNat, 128]
def k0_off4 (i : grid0.Coords) : Fin 2 → Nat :=
  let arg2 : BitVec 32 := BitVec.ofNat 32 (i 2).val
  let c512_i32 : BitVec 32 := 512#32
  let v292 : BitVec 32 := Scalar.muli arg2 c512_i32
  let v293 : BitVec 32 := v292
  let v310 : Index := Scalar.indexCast v293
  let c256_82 : Index := 256#32
  ![v310.toNat, 256]
def k0_off5 (i : grid0.Coords) : Fin 2 → Nat :=
  let arg2 : BitVec 32 := BitVec.ofNat 32 (i 2).val
  let c512_i32 : BitVec 32 := 512#32
  let v292 : BitVec 32 := Scalar.muli arg2 c512_i32
  let v293 : BitVec 32 := v292
  let v318 : Index := Scalar.indexCast v293
  let c384_84 : Index := 384#32
  ![v318.toNat, 384]
def k0_mult2 (i : grid0.Coords) : BitVec 32 :=
  let arg2 : BitVec 32 := BitVec.ofNat 32 (i 2).val
  let c512_i32_94 : BitVec 32 := 512#32
  let v342 : BitVec 32 := Scalar.muli arg2 c512_i32_94
  v342
def k0_mult3 (i : grid0.Coords) : BitVec 32 :=
  let arg2 : BitVec 32 := BitVec.ofNat 32 (i 2).val
  let c512_i32_248 : BitVec 32 := 512#32
  let v688 : BitVec 32 := Scalar.muli arg2 c512_i32_248
  v688
def k0_off6 (i : grid0.Coords) : Fin 2 → Nat :=
  let arg2 : BitVec 32 := BitVec.ofNat 32 (i 2).val
  let c512_i32_248 : BitVec 32 := 512#32
  let v688 : BitVec 32 := Scalar.muli arg2 c512_i32_248
  let v689 : BitVec 32 := v688
  let v690 : Index := Scalar.indexCast v689
  let c0_249 : Index := 0#32
  ![v690.toNat, 0]
def k0_off7 (i : grid0.Coords) : Fin 2 → Nat :=
  let arg2 : BitVec 32 := BitVec.ofNat 32 (i 2).val
  let c512_i32_248 : BitVec 32 := 512#32
  let v688 : BitVec 32 := Scalar.muli arg2 c512_i32_248
  let v689 : BitVec 32 := v688
  let v698 : Index := Scalar.indexCast v689
  let c128_251 : Index := 128#32
  ![v698.toNat, 128]
def k0_off8 (i : grid0.Coords) : Fin 2 → Nat :=
  let arg2 : BitVec 32 := BitVec.ofNat 32 (i 2).val
  let c512_i32_248 : BitVec 32 := 512#32
  let v688 : BitVec 32 := Scalar.muli arg2 c512_i32_248
  let v689 : BitVec 32 := v688
  let v706 : Index := Scalar.indexCast v689
  let c256_253 : Index := 256#32
  ![v706.toNat, 256]
def k0_off9 (i : grid0.Coords) : Fin 2 → Nat :=
  let arg2 : BitVec 32 := BitVec.ofNat 32 (i 2).val
  let c512_i32_248 : BitVec 32 := 512#32
  let v688 : BitVec 32 := Scalar.muli arg2 c512_i32_248
  let v689 : BitVec 32 := v688
  let v714 : Index := Scalar.indexCast v689
  let c384_255 : Index := 384#32
  ![v714.toNat, 384]
def k0_mult4 (i : grid0.Coords) : BitVec 32 :=
  let arg2 : BitVec 32 := BitVec.ofNat 32 (i 2).val
  let c512_i32_265 : BitVec 32 := 512#32
  let v738 : BitVec 32 := Scalar.muli arg2 c512_i32_265
  v738
@[reducible] def k0_t1_loop (i : grid0.Coords) : Scf.Loop 32 :=
  let c0_i32_435 : BitVec 32 := 0#32
  let arg2 : BitVec 32 := BitVec.ofNat 32 (i 2).val
  let v1212 : BitVec 32 := Scalar.subi arg2 c0_i32_435
  let c1_i32_436 : BitVec 32 := 1#32
  let v1214 : BitVec 32 := Scalar.divsi v1212 c1_i32_436
  let v1215 : BitVec 32 := Scalar.muli v1214 c1_i32_436
  let v1216 : BitVec 32 := Scalar.addi c0_i32_435 v1215
  let c1_i32_437 : BitVec 32 := 1#32
  ⟨c0_i32_435, v1216, c1_i32_437⟩
def k0_mult5 (i : grid0.Coords) (k0_t1 : Fin (k0_t1_loop i).trips) : BitVec 32 :=
  let arg2 : BitVec 32 := BitVec.ofNat 32 (i 2).val
  let c1_i32_465 : BitVec 32 := 1#32
  let v1247 : BitVec 32 := Scalar.subi arg2 c1_i32_465
  let c0_i32_435 : BitVec 32 := 0#32
  let c1_i32_437 : BitVec 32 := 1#32
  let arg11 : BitVec 32 := Scf.iv c0_i32_435 c1_i32_437 k0_t1
  let v1248 : BitVec 32 := Scalar.subi v1247 arg11
  let c512_i32_466 : BitVec 32 := 512#32
  let v1249 : BitVec 32 := Scalar.muli v1248 c512_i32_466
  v1249
def k0_off10 (i : grid0.Coords) (k0_t1 : Fin (k0_t1_loop i).trips) : Fin 2 → Nat :=
  let arg2 : BitVec 32 := BitVec.ofNat 32 (i 2).val
  let c1_i32_465 : BitVec 32 := 1#32
  let v1247 : BitVec 32 := Scalar.subi arg2 c1_i32_465
  let c0_i32_435 : BitVec 32 := 0#32
  let c1_i32_437 : BitVec 32 := 1#32
  let arg11 : BitVec 32 := Scf.iv c0_i32_435 c1_i32_437 k0_t1
  let v1248 : BitVec 32 := Scalar.subi v1247 arg11
  let c512_i32_466 : BitVec 32 := 512#32
  let v1249 : BitVec 32 := Scalar.muli v1248 c512_i32_466
  let v1250 : BitVec 32 := v1249
  let v1251 : Index := Scalar.indexCast v1250
  let c0_467 : Index := 0#32
  ![v1251.toNat, 0]
def k0_off11 (i : grid0.Coords) (k0_t1 : Fin (k0_t1_loop i).trips) : Fin 2 → Nat :=
  let arg2 : BitVec 32 := BitVec.ofNat 32 (i 2).val
  let c1_i32_465 : BitVec 32 := 1#32
  let v1247 : BitVec 32 := Scalar.subi arg2 c1_i32_465
  let c0_i32_435 : BitVec 32 := 0#32
  let c1_i32_437 : BitVec 32 := 1#32
  let arg11 : BitVec 32 := Scf.iv c0_i32_435 c1_i32_437 k0_t1
  let v1248 : BitVec 32 := Scalar.subi v1247 arg11
  let c512_i32_466 : BitVec 32 := 512#32
  let v1249 : BitVec 32 := Scalar.muli v1248 c512_i32_466
  let v1250 : BitVec 32 := v1249
  let v1259 : Index := Scalar.indexCast v1250
  let c128_469 : Index := 128#32
  ![v1259.toNat, 128]
def k0_off12 (i : grid0.Coords) (k0_t1 : Fin (k0_t1_loop i).trips) : Fin 2 → Nat :=
  let arg2 : BitVec 32 := BitVec.ofNat 32 (i 2).val
  let c1_i32_465 : BitVec 32 := 1#32
  let v1247 : BitVec 32 := Scalar.subi arg2 c1_i32_465
  let c0_i32_435 : BitVec 32 := 0#32
  let c1_i32_437 : BitVec 32 := 1#32
  let arg11 : BitVec 32 := Scf.iv c0_i32_435 c1_i32_437 k0_t1
  let v1248 : BitVec 32 := Scalar.subi v1247 arg11
  let c512_i32_466 : BitVec 32 := 512#32
  let v1249 : BitVec 32 := Scalar.muli v1248 c512_i32_466
  let v1250 : BitVec 32 := v1249
  let v1267 : Index := Scalar.indexCast v1250
  let c256_471 : Index := 256#32
  ![v1267.toNat, 256]
def k0_off13 (i : grid0.Coords) (k0_t1 : Fin (k0_t1_loop i).trips) : Fin 2 → Nat :=
  let arg2 : BitVec 32 := BitVec.ofNat 32 (i 2).val
  let c1_i32_465 : BitVec 32 := 1#32
  let v1247 : BitVec 32 := Scalar.subi arg2 c1_i32_465
  let c0_i32_435 : BitVec 32 := 0#32
  let c1_i32_437 : BitVec 32 := 1#32
  let arg11 : BitVec 32 := Scf.iv c0_i32_435 c1_i32_437 k0_t1
  let v1248 : BitVec 32 := Scalar.subi v1247 arg11
  let c512_i32_466 : BitVec 32 := 512#32
  let v1249 : BitVec 32 := Scalar.muli v1248 c512_i32_466
  let v1250 : BitVec 32 := v1249
  let v1275 : Index := Scalar.indexCast v1250
  let c384_473 : Index := 384#32
  ![v1275.toNat, 384]
def k0_mult6 (i : grid0.Coords) (k0_t1 : Fin (k0_t1_loop i).trips) : BitVec 32 :=
  let arg2 : BitVec 32 := BitVec.ofNat 32 (i 2).val
  let c1_i32_465 : BitVec 32 := 1#32
  let v1247 : BitVec 32 := Scalar.subi arg2 c1_i32_465
  let c0_i32_435 : BitVec 32 := 0#32
  let c1_i32_437 : BitVec 32 := 1#32
  let arg11 : BitVec 32 := Scf.iv c0_i32_435 c1_i32_437 k0_t1
  let v1248 : BitVec 32 := Scalar.subi v1247 arg11
  let c512_i32_483 : BitVec 32 := 512#32
  let v1291 : BitVec 32 := Scalar.muli v1248 c512_i32_483
  v1291
@[reducible] def k0_t2_loop (i : grid0.Coords) : Scf.Loop 32 :=
  let c0_i32_435 : BitVec 32 := 0#32
  let arg2 : BitVec 32 := BitVec.ofNat 32 (i 2).val
  let v1212 : BitVec 32 := Scalar.subi arg2 c0_i32_435
  let c1_i32_436 : BitVec 32 := 1#32
  let v1214 : BitVec 32 := Scalar.divsi v1212 c1_i32_436
  let v1215 : BitVec 32 := Scalar.muli v1214 c1_i32_436
  let v1216 : BitVec 32 := Scalar.addi c0_i32_435 v1215
  let v1213 : BitVec 32 := Scalar.addi c0_i32_435 v1212
  let c1_i32_438 : BitVec 32 := 1#32
  ⟨v1216, v1213, c1_i32_438⟩
def k0_mult7 (i : grid0.Coords) (k0_t2 : Fin (k0_t2_loop i).trips) : BitVec 32 :=
  let arg2 : BitVec 32 := BitVec.ofNat 32 (i 2).val
  let c1_i32_465 : BitVec 32 := 1#32
  let v1247 : BitVec 32 := Scalar.subi arg2 c1_i32_465
  let c0_i32_435 : BitVec 32 := 0#32
  let v1212 : BitVec 32 := Scalar.subi arg2 c0_i32_435
  let c1_i32_436 : BitVec 32 := 1#32
  let v1214 : BitVec 32 := Scalar.divsi v1212 c1_i32_436
  let v1215 : BitVec 32 := Scalar.muli v1214 c1_i32_436
  let v1216 : BitVec 32 := Scalar.addi c0_i32_435 v1215
  let c1_i32_438 : BitVec 32 := 1#32
  let arg11 : BitVec 32 := Scf.iv v1216 c1_i32_438 k0_t2
  let v1248 : BitVec 32 := Scalar.subi v1247 arg11
  let c512_i32_466 : BitVec 32 := 512#32
  let v1249 : BitVec 32 := Scalar.muli v1248 c512_i32_466
  v1249
def k0_off14 (i : grid0.Coords) (k0_t2 : Fin (k0_t2_loop i).trips) : Fin 2 → Nat :=
  let arg2 : BitVec 32 := BitVec.ofNat 32 (i 2).val
  let c1_i32_465 : BitVec 32 := 1#32
  let v1247 : BitVec 32 := Scalar.subi arg2 c1_i32_465
  let c0_i32_435 : BitVec 32 := 0#32
  let v1212 : BitVec 32 := Scalar.subi arg2 c0_i32_435
  let c1_i32_436 : BitVec 32 := 1#32
  let v1214 : BitVec 32 := Scalar.divsi v1212 c1_i32_436
  let v1215 : BitVec 32 := Scalar.muli v1214 c1_i32_436
  let v1216 : BitVec 32 := Scalar.addi c0_i32_435 v1215
  let c1_i32_438 : BitVec 32 := 1#32
  let arg11 : BitVec 32 := Scf.iv v1216 c1_i32_438 k0_t2
  let v1248 : BitVec 32 := Scalar.subi v1247 arg11
  let c512_i32_466 : BitVec 32 := 512#32
  let v1249 : BitVec 32 := Scalar.muli v1248 c512_i32_466
  let v1250 : BitVec 32 := v1249
  let v1251 : Index := Scalar.indexCast v1250
  let c0_467 : Index := 0#32
  ![v1251.toNat, 0]
def k0_off15 (i : grid0.Coords) (k0_t2 : Fin (k0_t2_loop i).trips) : Fin 2 → Nat :=
  let arg2 : BitVec 32 := BitVec.ofNat 32 (i 2).val
  let c1_i32_465 : BitVec 32 := 1#32
  let v1247 : BitVec 32 := Scalar.subi arg2 c1_i32_465
  let c0_i32_435 : BitVec 32 := 0#32
  let v1212 : BitVec 32 := Scalar.subi arg2 c0_i32_435
  let c1_i32_436 : BitVec 32 := 1#32
  let v1214 : BitVec 32 := Scalar.divsi v1212 c1_i32_436
  let v1215 : BitVec 32 := Scalar.muli v1214 c1_i32_436
  let v1216 : BitVec 32 := Scalar.addi c0_i32_435 v1215
  let c1_i32_438 : BitVec 32 := 1#32
  let arg11 : BitVec 32 := Scf.iv v1216 c1_i32_438 k0_t2
  let v1248 : BitVec 32 := Scalar.subi v1247 arg11
  let c512_i32_466 : BitVec 32 := 512#32
  let v1249 : BitVec 32 := Scalar.muli v1248 c512_i32_466
  let v1250 : BitVec 32 := v1249
  let v1259 : Index := Scalar.indexCast v1250
  let c128_469 : Index := 128#32
  ![v1259.toNat, 128]
def k0_off16 (i : grid0.Coords) (k0_t2 : Fin (k0_t2_loop i).trips) : Fin 2 → Nat :=
  let arg2 : BitVec 32 := BitVec.ofNat 32 (i 2).val
  let c1_i32_465 : BitVec 32 := 1#32
  let v1247 : BitVec 32 := Scalar.subi arg2 c1_i32_465
  let c0_i32_435 : BitVec 32 := 0#32
  let v1212 : BitVec 32 := Scalar.subi arg2 c0_i32_435
  let c1_i32_436 : BitVec 32 := 1#32
  let v1214 : BitVec 32 := Scalar.divsi v1212 c1_i32_436
  let v1215 : BitVec 32 := Scalar.muli v1214 c1_i32_436
  let v1216 : BitVec 32 := Scalar.addi c0_i32_435 v1215
  let c1_i32_438 : BitVec 32 := 1#32
  let arg11 : BitVec 32 := Scf.iv v1216 c1_i32_438 k0_t2
  let v1248 : BitVec 32 := Scalar.subi v1247 arg11
  let c512_i32_466 : BitVec 32 := 512#32
  let v1249 : BitVec 32 := Scalar.muli v1248 c512_i32_466
  let v1250 : BitVec 32 := v1249
  let v1267 : Index := Scalar.indexCast v1250
  let c256_471 : Index := 256#32
  ![v1267.toNat, 256]
def k0_off17 (i : grid0.Coords) (k0_t2 : Fin (k0_t2_loop i).trips) : Fin 2 → Nat :=
  let arg2 : BitVec 32 := BitVec.ofNat 32 (i 2).val
  let c1_i32_465 : BitVec 32 := 1#32
  let v1247 : BitVec 32 := Scalar.subi arg2 c1_i32_465
  let c0_i32_435 : BitVec 32 := 0#32
  let v1212 : BitVec 32 := Scalar.subi arg2 c0_i32_435
  let c1_i32_436 : BitVec 32 := 1#32
  let v1214 : BitVec 32 := Scalar.divsi v1212 c1_i32_436
  let v1215 : BitVec 32 := Scalar.muli v1214 c1_i32_436
  let v1216 : BitVec 32 := Scalar.addi c0_i32_435 v1215
  let c1_i32_438 : BitVec 32 := 1#32
  let arg11 : BitVec 32 := Scf.iv v1216 c1_i32_438 k0_t2
  let v1248 : BitVec 32 := Scalar.subi v1247 arg11
  let c512_i32_466 : BitVec 32 := 512#32
  let v1249 : BitVec 32 := Scalar.muli v1248 c512_i32_466
  let v1250 : BitVec 32 := v1249
  let v1275 : Index := Scalar.indexCast v1250
  let c384_473 : Index := 384#32
  ![v1275.toNat, 384]
def k0_mult8 (i : grid0.Coords) (k0_t2 : Fin (k0_t2_loop i).trips) : BitVec 32 :=
  let arg2 : BitVec 32 := BitVec.ofNat 32 (i 2).val
  let c1_i32_465 : BitVec 32 := 1#32
  let v1247 : BitVec 32 := Scalar.subi arg2 c1_i32_465
  let c0_i32_435 : BitVec 32 := 0#32
  let v1212 : BitVec 32 := Scalar.subi arg2 c0_i32_435
  let c1_i32_436 : BitVec 32 := 1#32
  let v1214 : BitVec 32 := Scalar.divsi v1212 c1_i32_436
  let v1215 : BitVec 32 := Scalar.muli v1214 c1_i32_436
  let v1216 : BitVec 32 := Scalar.addi c0_i32_435 v1215
  let c1_i32_438 : BitVec 32 := 1#32
  let arg11 : BitVec 32 := Scf.iv v1216 c1_i32_438 k0_t2
  let v1248 : BitVec 32 := Scalar.subi v1247 arg11
  let c512_i32_483 : BitVec 32 := 512#32
  let v1291 : BitVec 32 := Scalar.muli v1248 c512_i32_483
  v1291
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S4x4096x8x64 : Shape := ⟨4, ![4, 4096, 8, 64]⟩
abbrev S8 : Shape := ⟨1, ![8]⟩
abbrev S4x8x4096x4096 : Shape := ⟨4, ![4, 8, 4096, 4096]⟩
abbrev S_ : Shape := ⟨0, ![]⟩
abbrev S1x8x1x1 : Shape := ⟨4, ![1, 8, 1, 1]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x8x64x4096 : Shape := ⟨4, ![4, 8, 64, 4096]⟩
abbrev S16384x512 : Shape := ⟨2, ![16384, 512]⟩

abbrev nBuf : Space → Nat
  | .hbm => 69
  | .vmem => 0
  | .smem => 0
  | _ => 0

abbrev bufTy : (tb : Table) → Fin (tcTables nBuf tb) → BufTy
  | .hbm, ⟨0, _⟩ => ⟨S4x4096x8x64, .f32⟩
  | .hbm, ⟨1, _⟩ => ⟨S4x4096x8x64, .f32⟩
  | .hbm, ⟨2, _⟩ => ⟨S4x4096x8x64, .f32⟩
  | .hbm, ⟨3, _⟩ => ⟨S8, .f32⟩
  | .hbm, ⟨4, _⟩ => ⟨S4x8x4096x4096, .f32⟩
  | .hbm, ⟨5, _⟩ => ⟨S_, .f32⟩
  | .hbm, ⟨6, _⟩ => ⟨S4x8x4096x4096, .f32⟩
  | .hbm, ⟨7, _⟩ => ⟨S4x8x4096x4096, .f32⟩
  | .hbm, ⟨8, _⟩ => ⟨S1x8x1x1, .f32⟩
  | .hbm, ⟨9, _⟩ => ⟨S4x8x4096x4096, .f32⟩
  | .hbm, ⟨10, _⟩ => ⟨S4x8x4096x4096, .f32⟩
  | .hbm, ⟨11, _⟩ => ⟨S4096, .i32⟩
  | .hbm, ⟨12, _⟩ => ⟨S1x4096, .i32⟩
  | .hbm, ⟨13, _⟩ => ⟨S4096x1, .i32⟩
  | .hbm, ⟨14, _⟩ => ⟨S4096x4096, .i32⟩
  | .hbm, ⟨15, _⟩ => ⟨S4096x4096, .i32⟩
  | .hbm, ⟨16, _⟩ => ⟨S4096x4096, .i1⟩
  | .hbm, ⟨17, _⟩ => ⟨S4x8x4096x4096, .f32⟩
  | .hbm, ⟨18, _⟩ => ⟨S4x8x4096x4096, .f32⟩
  | .hbm, ⟨19, _⟩ => ⟨S_, .f32⟩
  | .hbm, ⟨20, _⟩ => ⟨S4x8x4096x4096, .f32⟩
  | .hbm, ⟨21, _⟩ => ⟨S4x8x4096x4096, .f32⟩
  | .hbm, ⟨22, _⟩ => ⟨S4x8x4096x4096, .f32⟩
  | .hbm, ⟨23, _⟩ => ⟨S4x8x4096x4096, .f32⟩
  | .hbm, ⟨24, _⟩ => ⟨S4x8x4096x4096, .i1⟩
  | .hbm, ⟨25, _⟩ => ⟨S4x8x4096x4096, .f32⟩
  | .hbm, ⟨26, _⟩ => ⟨S4x8x4096x4096, .f32⟩
  | .hbm, ⟨27, _⟩ => ⟨S4x8x4096x4096, .f32⟩
  | .hbm, ⟨28, _⟩ => ⟨S4x8x4096x4096, .f32⟩
  | .hbm, ⟨29, _⟩ => ⟨S4x8x4096x4096, .f32⟩
  | .hbm, ⟨30, _⟩ => ⟨S4x8x4096x4096, .f32⟩
  | .hbm, ⟨31, _⟩ => ⟨S4x8x4096x4096, .f32⟩
  | .hbm, ⟨32, _⟩ => ⟨S4x8x4096x4096, .f32⟩
  | .hbm, ⟨33, _⟩ => ⟨S4x8x4096x4096, .f32⟩
  | .hbm, ⟨34, _⟩ => ⟨S_, .f32⟩
  | .hbm, ⟨35, _⟩ => ⟨S_, .f32⟩
  | .hbm, ⟨36, _⟩ => ⟨S4x8x4096x4096, .i1⟩
  | .hbm, ⟨37, _⟩ => ⟨S4x8x4096x4096, .f32⟩
  | .hbm, ⟨38, _⟩ => ⟨S4x8x4096x4096, .f32⟩
  | .hbm, ⟨39, _⟩ => ⟨S_, .f32⟩
  | .hbm, ⟨40, _⟩ => ⟨S_, .f32⟩
  | .hbm, ⟨41, _⟩ => ⟨S4x8x4096x4096, .f32⟩
  | .hbm, ⟨42, _⟩ => ⟨S4x8x4096x4096, .f32⟩
  | .hbm, ⟨43, _⟩ => ⟨S4x8x4096x4096, .f32⟩
  | .hbm, ⟨44, _⟩ => ⟨S_, .f32⟩
  | .hbm, ⟨45, _⟩ => ⟨S4x8x4096x4096, .f32⟩
  | .hbm, ⟨46, _⟩ => ⟨S4x8x4096x4096, .f32⟩
  | .hbm, ⟨47, _⟩ => ⟨S4x8x4096x4096, .f32⟩
  | .hbm, ⟨48, _⟩ => ⟨S4x8x4096x4096, .f32⟩
  | .hbm, ⟨49, _⟩ => ⟨S4x8x4096x4096, .i1⟩
  | .hbm, ⟨50, _⟩ => ⟨S4x8x4096x4096, .f32⟩
  | .hbm, ⟨51, _⟩ => ⟨S4x8x4096x4096, .f32⟩
  | .hbm, ⟨52, _⟩ => ⟨S4x8x4096x4096, .f32⟩
  | .hbm, ⟨53, _⟩ => ⟨S4x8x4096x4096, .f32⟩
  | .hbm, ⟨54, _⟩ => ⟨S4x8x4096x4096, .f32⟩
  | .hbm, ⟨55, _⟩ => ⟨S4x8x4096x4096, .f32⟩
  | .hbm, ⟨56, _⟩ => ⟨S4x8x4096x4096, .f32⟩
  | .hbm, ⟨57, _⟩ => ⟨S4x8x4096x4096, .f32⟩
  | .hbm, ⟨58, _⟩ => ⟨S4x8x4096x4096, .f32⟩
  | .hbm, ⟨59, _⟩ => ⟨S4x8x4096x4096, .f32⟩
  | .hbm, ⟨60, _⟩ => ⟨S4x8x4096x4096, .f32⟩
  | .hbm, ⟨61, _⟩ => ⟨S_, .f32⟩
  | .hbm, ⟨62, _⟩ => ⟨S_, .f32⟩
  | .hbm, ⟨63, _⟩ => ⟨S4x8x4096x4096, .i1⟩
  | .hbm, ⟨64, _⟩ => ⟨S4x8x4096x4096, .f32⟩
  | .hbm, ⟨65, _⟩ => ⟨S4x8x4096x4096, .f32⟩
  | .hbm, ⟨66, _⟩ => ⟨S4x8x64x4096, .f32⟩
  | .hbm, ⟨67, _⟩ => ⟨S4x4096x8x64, .f32⟩
  | .hbm, ⟨68, _⟩ => ⟨S16384x512, .f32⟩
  | _, _ => ⟨S4x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v13 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v14 : Ref sig .tc := ⟨.hbm, 38, rfl⟩
abbrev main_call2_cst : Ref sig .tc := ⟨.hbm, 39, rfl⟩
abbrev main_call2_v0 : Ref sig .tc := ⟨.hbm, 40, rfl⟩
abbrev main_v15 : Ref sig .tc := ⟨.hbm, 41, rfl⟩
abbrev main_v16 : Ref sig .tc := ⟨.hbm, 42, rfl⟩
abbrev main_call3_v0 : Ref sig .tc := ⟨.hbm, 43, rfl⟩
abbrev main_call3_call0_cst : Ref sig .tc := ⟨.hbm, 44, rfl⟩
abbrev main_call3_call0_v0 : Ref sig .tc := ⟨.hbm, 45, rfl⟩
abbrev main_call3_call0_v1 : Ref sig .tc := ⟨.hbm, 46, rfl⟩
abbrev main_call3_call0_v2 : Ref sig .tc := ⟨.hbm, 47, rfl⟩
abbrev main_call3_call0_v3 : Ref sig .tc := ⟨.hbm, 48, rfl⟩
abbrev main_call3_call0_v4 : Ref sig .tc := ⟨.hbm, 49, rfl⟩
abbrev main_call3_call0_v5 : Ref sig .tc := ⟨.hbm, 50, rfl⟩
abbrev main_call3_call0_v6 : Ref sig .tc := ⟨.hbm, 51, rfl⟩
abbrev main_call3_call0_v7 : Ref sig .tc := ⟨.hbm, 52, rfl⟩
abbrev main_call3_call0_v8 : Ref sig .tc := ⟨.hbm, 53, rfl⟩
abbrev main_call3_call0_v9 : Ref sig .tc := ⟨.hbm, 54, rfl⟩
abbrev main_call3_call0_v10 : Ref sig .tc := ⟨.hbm, 55, rfl⟩
abbrev main_call3_call0_v11 : Ref sig .tc := ⟨.hbm, 56, rfl⟩
abbrev main_call3_v1 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_cst_1 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩

abbrev nD : Nat := 1
abbrev τ : Topo := Topo.v7x

variable {F : FTy → Type} [FloatOps F]
-- ==== Kernel2.lean ====
abbrev S4x4096x1024 : Shape := ⟨3, ![4, 4096, 1024]⟩
abbrev S1024x5632 : Shape := ⟨2, ![1024, 5632]⟩
abbrev S2816x1024 : Shape := ⟨2, ![2816, 1024]⟩
abbrev S1024 : Shape := ⟨1, ![1024]⟩
abbrev S16384x1024 : Shape := ⟨2, ![16384, 1024]⟩
abbrev S1x1024 : Shape := ⟨2, ![1, 1024]⟩
abbrev S1024x1024 : Shape := ⟨2, ![1024, 1024]⟩
abbrev S1024x2816 : Shape := ⟨2, ![1024, 2816]⟩
abbrev S1024x512 : Shape := ⟨2, ![1024, 512]⟩
abbrev S1024x256 : Shape := ⟨2, ![1024, 256]⟩
abbrev S512x1024 : Shape := ⟨2, ![512, 1024]⟩
abbrev S256x1024 : Shape := ⟨2, ![256, 1024]⟩
abbrev S1024x1 : Shape := ⟨2, ![1024, 1]⟩

abbrev nBuf : Space → Nat
  | .hbm => 11
  | .vmem => 10
  | .smem => 0
  | _ => 0

abbrev bufTy : (tb : Table) → Fin (tcTables nBuf tb) → BufTy
  | .hbm, ⟨0, _⟩ => ⟨S4x4096x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S16384x1024, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S1x1024, .f32⟩
  | .hbm, ⟨10, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S4x4096x1024 : Shape := ⟨3, ![4, 4096, 1024]⟩
abbrev S1024x5632 : Shape := ⟨2, ![1024, 5632]⟩
abbrev S2816x1024 : Shape := ⟨2, ![2816, 1024]⟩
abbrev S1024 : Shape := ⟨1, ![1024]⟩
abbrev S4x4096x5632 : Shape := ⟨3, ![4, 4096, 5632]⟩
abbrev S4x4096x2816 : Shape := ⟨3, ![4, 4096, 2816]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S16384x1024 : Shape := ⟨2, ![16384, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S4x4096x5632, .f32⟩
  | .hbm, ⟨6, _⟩ => ⟨S4x4096x2816, .f32⟩
  | .hbm, ⟨7, _⟩ => ⟨S4x4096x2816, .f32⟩
  | .hbm, ⟨8, _⟩ => ⟨S_, .f32⟩
  | .hbm, ⟨9, _⟩ => ⟨S4x4096x1024, .f32⟩
  | .hbm, ⟨10, _⟩ => ⟨S4x4096x1024, .f32⟩
  | .hbm, ⟨11, _⟩ => ⟨S4x4096x2816, .f32⟩
  | .hbm, ⟨12, _⟩ => ⟨S4x4096x2816, .f32⟩
  | .hbm, ⟨13, _⟩ => ⟨S_, .f32⟩
  | .hbm, ⟨14, _⟩ => ⟨S4x4096x2816, .f32⟩
  | .hbm, ⟨15, _⟩ => ⟨S4x4096x2816, .f32⟩
  | .hbm, ⟨16, _⟩ => ⟨S_, .f32⟩
  | .hbm, ⟨17, _⟩ => ⟨S4x4096x2816, .f32⟩
  | .hbm, ⟨18, _⟩ => ⟨S4x4096x2816, .f32⟩
  | .hbm, ⟨19, _⟩ => ⟨S4x4096x2816, .f32⟩
  | .hbm, ⟨20, _⟩ => ⟨S4x4096x2816, .f32⟩
  | .hbm, ⟨21, _⟩ => ⟨S4x4096x1024, .f32⟩
  | .hbm, ⟨22, _⟩ => ⟨S_, .f32⟩
  | .hbm, ⟨23, _⟩ => ⟨S4x4096x1024, .f32⟩
  | .hbm, ⟨24, _⟩ => ⟨S4x4096x1024, .f32⟩
  | .hbm, ⟨25, _⟩ => ⟨S4x4096x1024, .f32⟩
  | .hbm, ⟨26, _⟩ => ⟨S_, .f32⟩
  | .hbm, ⟨27, _⟩ => ⟨S4x4096, .f32⟩
  | .hbm, ⟨28, _⟩ => ⟨S4x4096x1, .f32⟩
  | .hbm, ⟨29, _⟩ => ⟨S_, .f32⟩
  | .hbm, ⟨30, _⟩ => ⟨S4x4096x1, .f32⟩
  | .hbm, ⟨31, _⟩ => ⟨S4x4096x1, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S_, .f32⟩
  | .hbm, ⟨36, _⟩ => ⟨S4x4096, .f32⟩
  | .hbm, ⟨37, _⟩ => ⟨S4x4096x1, .f32⟩
  | .hbm, ⟨38, _⟩ => ⟨S_, .f32⟩
  | .hbm, ⟨39, _⟩ => ⟨S4x4096x1, .f32⟩
  | .hbm, ⟨40, _⟩ => ⟨S4x4096x1, .f32⟩
  | .hbm, ⟨41, _⟩ => ⟨S4x4096x1024, .f32⟩
  | .hbm, ⟨42, _⟩ => ⟨S4x4096x1024, .f32⟩
  | .hbm, ⟨43, _⟩ => ⟨S_, .f32⟩
  | .hbm, ⟨44, _⟩ => ⟨S4x4096x1, .f32⟩
  | .hbm, ⟨45, _⟩ => ⟨S4x4096x1, .f32⟩
  | .hbm, ⟨46, _⟩ => ⟨S4x4096x1, .f32⟩
  | .hbm, ⟨47, _⟩ => ⟨S4x4096x1024, .f32⟩
  | .hbm, ⟨48, _⟩ => ⟨S4x4096x1024, .f32⟩
  | .hbm, ⟨49, _⟩ => ⟨S1x1x1024, .f32⟩
  | .hbm, ⟨50, _⟩ => ⟨S4x4096x1024, .f32⟩
  | .hbm, ⟨51, _⟩ => ⟨S4x4096x1024, .f32⟩
  | .hbm, ⟨52, _⟩ => ⟨S1x1x1024, .f32⟩
  | .hbm, ⟨53, _⟩ => ⟨S4x4096x1024, .f32⟩
  | .hbm, ⟨54, _⟩ => ⟨S4x4096x1024, .f32⟩
  | .hbm, ⟨55, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x4096x512 : Shape := ⟨3, ![4, 4096, 512]⟩
abbrev S1024x2048 : Shape := ⟨2, ![1024, 2048]⟩
abbrev S1024x1024 : Shape := ⟨2, ![1024, 1024]⟩
abbrev S1024 : Shape := ⟨1, ![1024]⟩
abbrev S16384x1024 : Shape := ⟨2, ![16384, 1024]⟩
abbrev S16384x512 : Shape := ⟨2, ![16384, 512]⟩
abbrev S512x1024 : Shape := ⟨2, ![512, 1024]⟩
abbrev S1x1024 : Shape := ⟨2, ![1, 1024]⟩
abbrev S1024x512 : Shape := ⟨2, ![1024, 512]⟩
abbrev S1024x1 : Shape := ⟨2, ![1024, 1]⟩

abbrev nBuf : Space → Nat
  | .hbm => 20
  | .vmem => 14
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .f32⟩
  | .hbm, ⟨3, _⟩ => ⟨S1024x2048, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S16384x1024, .f32⟩
  | .hbm, ⟨9, _⟩ => ⟨S16384x512, .f32⟩
  | .hbm, ⟨10, _⟩ => ⟨S16384x512, .f32⟩
  | .hbm, ⟨11, _⟩ => ⟨S1024x2048, .bf16⟩
  | .hbm, ⟨12, _⟩ => ⟨S512x1024, .f32⟩
  | .hbm, ⟨13, _⟩ => ⟨S512x1024, .bf16⟩
  | .hbm, ⟨14, _⟩ => ⟨S512x1024, .f32⟩
  | .hbm, ⟨15, _⟩ => ⟨S512x1024, .bf16⟩
  | .hbm, ⟨16, _⟩ => ⟨S1024x1024, .bf16⟩
  | .hbm, ⟨17, _⟩ => ⟨S1x1024, .f32⟩
  | .hbm, ⟨18, _⟩ => ⟨S1x1024, .f32⟩
  | .hbm, ⟨19, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x2048, .bf16⟩
  | .local _ .vmem, ⟨7, _⟩ => ⟨S512x1024, .bf16⟩
  | .local _ .vmem, ⟨8, _⟩ => ⟨S512x1024, .bf16⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S4x4096x1024 : Shape := ⟨3, ![4, 4096, 1024]⟩
abbrev S4x4096x512 : Shape := ⟨3, ![4, 4096, 512]⟩
abbrev S1024x2048 : Shape := ⟨2, ![1024, 2048]⟩
abbrev S1024x1024 : Shape := ⟨2, ![1024, 1024]⟩
abbrev S1024 : Shape := ⟨1, ![1024]⟩
abbrev S4x4096x2048 : Shape := ⟨3, ![4, 4096, 2048]⟩
abbrev S_ : Shape := ⟨0, ![]⟩
abbrev S512x1024 : Shape := ⟨2, ![512, 1024]⟩
abbrev S4x4096 : Shape := ⟨2, ![4, 4096]⟩
abbrev S4x4096x1 : Shape := ⟨3, ![4, 4096, 1]⟩
abbrev S1x1x1024 : Shape := ⟨3, ![1, 1, 1024]⟩
abbrev S16384x1024 : Shape := ⟨2, ![16384, 1024]⟩

abbrev nBuf : Space → Nat
  | .hbm => 61
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .f32⟩
  | .hbm, ⟨3, _⟩ => ⟨S1024x2048, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S4x4096x2048, .f32⟩
  | .hbm, ⟨9, _⟩ => ⟨S4x4096x2048, .f32⟩
  | .hbm, ⟨10, _⟩ => ⟨S4x4096x2048, .f32⟩
  | .hbm, ⟨11, _⟩ => ⟨S_, .f32⟩
  | .hbm, ⟨12, _⟩ => ⟨S4x4096x2048, .f32⟩
  | .hbm, ⟨13, _⟩ => ⟨S4x4096x2048, .f32⟩
  | .hbm, ⟨14, _⟩ => ⟨S_, .f32⟩
  | .hbm, ⟨15, _⟩ => ⟨S4x4096x2048, .f32⟩
  | .hbm, ⟨16, _⟩ => ⟨S4x4096x2048, .f32⟩
  | .hbm, ⟨17, _⟩ => ⟨S4x4096x1024, .f32⟩
  | .hbm, ⟨18, _⟩ => ⟨S512x1024, .f32⟩
  | .hbm, ⟨19, _⟩ => ⟨S4x4096x1024, .f32⟩
  | .hbm, ⟨20, _⟩ => ⟨S4x4096x1024, .f32⟩
  | .hbm, ⟨21, _⟩ => ⟨S4x4096x1024, .f32⟩
  | .hbm, ⟨22, _⟩ => ⟨S512x1024, .f32⟩
  | .hbm, ⟨23, _⟩ => ⟨S4x4096x1024, .f32⟩
  | .hbm, ⟨24, _⟩ => ⟨S4x4096x1024, .f32⟩
  | .hbm, ⟨25, _⟩ => ⟨S4x4096x1024, .f32⟩
  | .hbm, ⟨26, _⟩ => ⟨S_, .f32⟩
  | .hbm, ⟨27, _⟩ => ⟨S4x4096x1024, .f32⟩
  | .hbm, ⟨28, _⟩ => ⟨S4x4096x1024, .f32⟩
  | .hbm, ⟨29, _⟩ => ⟨S4x4096x1024, .f32⟩
  | .hbm, ⟨30, _⟩ => ⟨S4x4096x1024, .f32⟩
  | .hbm, ⟨31, _⟩ => ⟨S_, .f32⟩
  | .hbm, ⟨32, _⟩ => ⟨S4x4096, .f32⟩
  | .hbm, ⟨33, _⟩ => ⟨S4x4096x1, .f32⟩
  | .hbm, ⟨34, _⟩ => ⟨S_, .f32⟩
  | .hbm, ⟨35, _⟩ => ⟨S4x4096x1, .f32⟩
  | .hbm, ⟨36, _⟩ => ⟨S4x4096x1, .f32⟩
  | .hbm, ⟨37, _⟩ => ⟨S4x4096x1024, .f32⟩
  | .hbm, ⟨38, _⟩ => ⟨S4x4096x1024, .f32⟩
  | .hbm, ⟨39, _⟩ => ⟨S4x4096x1024, .f32⟩
  | .hbm, ⟨40, _⟩ => ⟨S_, .f32⟩
  | .hbm, ⟨41, _⟩ => ⟨S4x4096, .f32⟩
  | .hbm, ⟨42, _⟩ => ⟨S4x4096x1, .f32⟩
  | .hbm, ⟨43, _⟩ => ⟨S_, .f32⟩
  | .hbm, ⟨44, _⟩ => ⟨S4x4096x1, .f32⟩
  | .hbm, ⟨45, _⟩ => ⟨S4x4096x1, .f32⟩
  | .hbm, ⟨46, _⟩ => ⟨S4x4096x1024, .f32⟩
  | .hbm, ⟨47, _⟩ => ⟨S4x4096x1024, .f32⟩
  | .hbm, ⟨48, _⟩ => ⟨S_, .f32⟩
  | .hbm, ⟨49, _⟩ => ⟨S4x4096x1, .f32⟩
  | .hbm, ⟨50, _⟩ => ⟨S4x4096x1, .f32⟩
  | .hbm, ⟨51, _⟩ => ⟨S4x4096x1, .f32⟩
  | .hbm, ⟨52, _⟩ => ⟨S4x4096x1024, .f32⟩
  | .hbm, ⟨53, _⟩ => ⟨S4x4096x1024, .f32⟩
  | .hbm, ⟨54, _⟩ => ⟨S1x1x1024, .f32⟩
  | .hbm, ⟨55, _⟩ => ⟨S4x4096x1024, .f32⟩
  | .hbm, ⟨56, _⟩ => ⟨S4x4096x1024, .f32⟩
  | .hbm, ⟨57, _⟩ => ⟨S1x1x1024, .f32⟩
  | .hbm, ⟨58, _⟩ => ⟨S4x4096x1024, .f32⟩
  | .hbm, ⟨59, _⟩ => ⟨S4x4096x1024, .f32⟩
  | .hbm, ⟨60, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== Kernel4.lean ====
abbrev S32x4x1024 : Shape := ⟨3, ![32, 4, 1024]⟩
abbrev S32x1024 : Shape := ⟨2, ![32, 1024]⟩
abbrev S1024x5120 : Shape := ⟨2, ![1024, 5120]⟩
abbrev S1536 : Shape := ⟨1, ![1536]⟩
abbrev S3x1024 : Shape := ⟨2, ![3, 1024]⟩
abbrev S512 : Shape := ⟨1, ![512]⟩
abbrev S1024x64 : Shape := ⟨2, ![1024, 64]⟩
abbrev S64x512 : Shape := ⟨2, ![64, 512]⟩
abbrev S1024x160 : Shape := ⟨2, ![1024, 160]⟩
abbrev S160x512 : Shape := ⟨2, ![160, 512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S1024x1536 : Shape := ⟨2, ![1024, 1536]⟩
abbrev S1x1536 : Shape := ⟨2, ![1, 1536]⟩
abbrev S128x1024 : Shape := ⟨2, ![128, 1024]⟩
abbrev S128x512 : Shape := ⟨2, ![128, 512]⟩
abbrev S128x1 : Shape := ⟨2, ![128, 1]⟩
abbrev S128x1536 : Shape := ⟨2, ![128, 1536]⟩
abbrev S1x1024 : Shape := ⟨2, ![1, 1024]⟩
abbrev S128x64 : Shape := ⟨2, ![128, 64]⟩
abbrev S128x160 : Shape := ⟨2, ![128, 160]⟩

abbrev nBuf : Space → Nat
  | .hbm => 70
  | .vmem => 29
  | .smem => 0
  | _ => 0

abbrev bufTy : (tb : Table) → Fin (tcTables nBuf tb) → BufTy
  | .hbm, ⟨0, _⟩ => ⟨S32x4x1024, .f32⟩
  | .hbm, ⟨1, _⟩ => ⟨S32x1024, .f32⟩
  | .hbm, ⟨2, _⟩ => ⟨S1024x5120, .f32⟩
  | .hbm, ⟨3, _⟩ => ⟨S1536, .f32⟩
  | .hbm, ⟨4, _⟩ => ⟨S3x1024, .f32⟩
  | .hbm, ⟨5, _⟩ => ⟨S512, .f32⟩
  | .hbm, ⟨6, _⟩ => ⟨S1024x64, .f32⟩
  | .hbm, ⟨7, _⟩ => ⟨S64x512, .f32⟩
  | .hbm, ⟨8, _⟩ => ⟨S512, .f32⟩
  | .hbm, ⟨9, _⟩ => ⟨S1024x64, .f32⟩
  | .hbm, ⟨10, _⟩ => ⟨S64x512, .f32⟩
  | .hbm, ⟨11, _⟩ => ⟨S1024x160, .f32⟩
  | .hbm, ⟨12, _⟩ => ⟨S160x512, .f32⟩
  | .hbm, ⟨13, _⟩ => ⟨S512, .f32⟩
  | .hbm, ⟨14, _⟩ => ⟨S512, .f32⟩
  | .hbm, ⟨15, _⟩ => ⟨S512, .i32⟩
  | .hbm, ⟨16, _⟩ => ⟨S_, .i32⟩
  | .hbm, ⟨17, _⟩ => ⟨S_, .i32⟩
  | .hbm, ⟨18, _⟩ => ⟨S512, .i32⟩
  | .hbm, ⟨19, _⟩ => ⟨S512, .i32⟩
  | .hbm, ⟨20, _⟩ => ⟨S512, .i32⟩
  | .hbm, ⟨21, _⟩ => ⟨S_, .i32⟩
  | .hbm, ⟨22, _⟩ => ⟨S512, .i32⟩
  | .hbm, ⟨23, _⟩ => ⟨S512, .i1⟩
  | .hbm, ⟨24, _⟩ => ⟨S512, .i32⟩
  | .hbm, ⟨25, _⟩ => ⟨S512, .i32⟩
  | .hbm, ⟨26, _⟩ => ⟨S_, .i32⟩
  | .hbm, ⟨27, _⟩ => ⟨S512, .i32⟩
  | .hbm, ⟨28, _⟩ => ⟨S512, .i1⟩
  | .hbm, ⟨29, _⟩ => ⟨S512, .i1⟩
  | .hbm, ⟨30, _⟩ => ⟨S_, .i32⟩
  | .hbm, ⟨31, _⟩ => ⟨S512, .i32⟩
  | .hbm, ⟨32, _⟩ => ⟨S512, .i32⟩
  | .hbm, ⟨33, _⟩ => ⟨S512, .i32⟩
  | .hbm, ⟨34, _⟩ => ⟨S512x1, .i32⟩
  | .hbm, ⟨35, _⟩ => ⟨S1x512, .i32⟩
  | .hbm, ⟨36, _⟩ => ⟨S512x512, .i32⟩
  | .hbm, ⟨37, _⟩ => ⟨S512x512, .i32⟩
  | .hbm, ⟨38, _⟩ => ⟨S512x512, .i1⟩
  | .hbm, ⟨39, _⟩ => ⟨S512x512, .bf16⟩
  | .hbm, ⟨40, _⟩ => ⟨S1024x1536, .f32⟩
  | .hbm, ⟨41, _⟩ => ⟨S1024x1536, .bf16⟩
  | .hbm, ⟨42, _⟩ => ⟨S1024x1536, .f32⟩
  | .hbm, ⟨43, _⟩ => ⟨S1024x1536, .bf16⟩
  | .hbm, ⟨44, _⟩ => ⟨S1024x64, .bf16⟩
  | .hbm, ⟨45, _⟩ => ⟨S64x512, .bf16⟩
  | .hbm, ⟨46, _⟩ => ⟨S1024x64, .bf16⟩
  | .hbm, ⟨47, _⟩ => ⟨S64x512, .bf16⟩
  | .hbm, ⟨48, _⟩ => ⟨S1024x160, .bf16⟩
  | .hbm, ⟨49, _⟩ => ⟨S160x512, .bf16⟩
  | .hbm, ⟨50, _⟩ => ⟨S1x1536, .f32⟩
  | .hbm, ⟨51, _⟩ => ⟨S1x512, .f32⟩
  | .hbm, ⟨52, _⟩ => ⟨S1x512, .f32⟩
  | .hbm, ⟨53, _⟩ => ⟨S1x512, .f32⟩
  | .hbm, ⟨54, _⟩ => ⟨S1x512, .f32⟩
  | .hbm, ⟨55, _⟩ => ⟨S128x1024, .f32⟩
  | .hbm, ⟨56, _⟩ => ⟨S32x4x1024, .f32⟩
  | .hbm, ⟨57, _⟩ => ⟨S128x1024, .f32⟩
  | .hbm, ⟨58, _⟩ => ⟨S128x512, .f32⟩
  | .hbm, ⟨59, _⟩ => ⟨S128x512, .f32⟩
  | .hbm, ⟨60, _⟩ => ⟨S128x512, .f32⟩
  | .hbm, ⟨61, _⟩ => ⟨S128x512, .f32⟩
  | .hbm, ⟨62, _⟩ => ⟨S128x512, .f32⟩
  | .hbm, ⟨63, _⟩ => ⟨S128x512, .f32⟩
  | .hbm, ⟨64, _⟩ => ⟨S128x512, .f32⟩
  | .hbm, ⟨65, _⟩ => ⟨S128x512, .bf16⟩
  | .hbm, ⟨66, _⟩ => ⟨S128x512, .f32⟩
  | .hbm, ⟨67, _⟩ => ⟨S128x512, .f32⟩
  | .hbm, ⟨68, _⟩ => ⟨S128x512, .bf16⟩
  | .hbm, ⟨69, _⟩ => ⟨S128x512, .bf16⟩
  | .local _ .vmem, ⟨0, _⟩ => ⟨S128x1024, .f32⟩
  | .local _ .vmem, ⟨1, _⟩ => ⟨S128x1024, .f32⟩
  | .local _ .vmem, ⟨2, _⟩ => ⟨S1024x1536, .bf16⟩
  | .local _ .vmem, ⟨3, _⟩ => ⟨S1024x64, .bf16⟩
  | .local _ .vmem, ⟨4, _⟩ => ⟨S64x512, .bf16⟩
  | .local _ .vmem, ⟨5, _⟩ => ⟨S1024x64, .bf16⟩
  | .local _ .vmem, ⟨6, _⟩ => ⟨S64x512, .bf16⟩
  | .local _ .vmem, ⟨7, _⟩ => ⟨S1024x160, .bf16⟩
  | .local _ .vmem, ⟨8, _⟩ => ⟨S160x512, .bf16⟩
  | .local _ .vmem, ⟨9, _⟩ => ⟨S1x1536, .f32⟩
  | .local _ .vmem, ⟨10, _⟩ => ⟨S3x1024, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S512x512, .bf16⟩
  | .local _ .vmem, ⟨16, _⟩ => ⟨S1024x1536, .bf16⟩
  | .local _ .vmem, ⟨17, _⟩ => ⟨S128x512, .f32⟩
  | .local _ .vmem, ⟨18, _⟩ => ⟨S128x512, .f32⟩
  | .local _ .vmem, ⟨19, _⟩ => ⟨S128x512, .f32⟩
  | .local _ .vmem, ⟨20, _⟩ => ⟨S128x512, .f32⟩
  | .local _ .vmem, ⟨21, _⟩ => ⟨S128x512, .f32⟩
  | .local _ .vmem, ⟨22, _⟩ => ⟨S128x512, .f32⟩
  | .local _ .vmem, ⟨23, _⟩ => ⟨S128x512, .f32⟩
  | .local _ .vmem, ⟨24, _⟩ => ⟨S128x512, .bf16⟩
  | .local _ .vmem, ⟨25, _⟩ => ⟨S128x512, .f32⟩
  | .local _ .vmem, ⟨26, _⟩ => ⟨S128x512, .f32⟩
  | .local _ .vmem, ⟨27, _⟩ => ⟨S128x512, .bf16⟩
  | .local _ .vmem, ⟨28, _⟩ => ⟨S128x512, .bf16⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26_0 : Ref sig .tc := ⟨.hbm, 58, rfl⟩
abbrev main_v26_1 : Ref sig .tc := ⟨.hbm, 59, rfl⟩
abbrev main_v26_2 : Ref sig .tc := ⟨.hbm, 60, rfl⟩
abbrev main_v26_3 : Ref sig .tc := ⟨.hbm, 61, rfl⟩
abbrev main_v26_4 : Ref sig .tc := ⟨.hbm, 62, rfl⟩
abbrev main_v26_5 : Ref sig .tc := ⟨.hbm, 63, rfl⟩
abbrev main_v26_6 : Ref sig .tc := ⟨.hbm, 64, rfl⟩
abbrev main_v26_7 : Ref sig .tc := ⟨.hbm, 65, rfl⟩
abbrev main_v26_8 : Ref sig .tc := ⟨.hbm, 66, rfl⟩
abbrev main_v26_9 : Ref sig .tc := ⟨.hbm, 67, rfl⟩
abbrev main_v26_10 : Ref sig .tc := ⟨.hbm, 68, rfl⟩
abbrev main_v26_11 : Ref sig .tc := ⟨.hbm, 69, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x160 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S160x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1536 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S128x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S128x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]

abbrev stage0_20 : Fin 1 → Memref sig .tc .vmem S128x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true]

abbrev stage0_21 : Fin 1 → Memref sig .tc .vmem S128x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![true]

abbrev stage0_22 : Fin 1 → Memref sig .tc .vmem S128x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![true]

abbrev stage0_23 : Fin 1 → Memref sig .tc .vmem S128x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![true]

abbrev stage0_24 : Fin 1 → Memref sig .tc .vmem S128x512 .bf16 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![true]

abbrev stage0_25 : Fin 1 → Memref sig .tc .vmem S128x512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![true]

abbrev stage0_26 : Fin 1 → Memref sig .tc .vmem S128x512 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![true]

abbrev stage0_27 : Fin 1 → Memref sig .tc .vmem S128x512 .bf16 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![true]

abbrev stage0_28 : Fin 1 → Memref sig .tc .vmem S128x512 .bf16 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![true]
-- ==== Reference4Ideal.lean ====
abbrev S32x4x1024 : Shape := ⟨3, ![32, 4, 1024]⟩
abbrev S32x1024 : Shape := ⟨2, ![32, 1024]⟩
abbrev S1024x5120 : Shape := ⟨2, ![1024, 5120]⟩
abbrev S1536 : Shape := ⟨1, ![1536]⟩
abbrev S3x1024 : Shape := ⟨2, ![3, 1024]⟩
abbrev S512 : Shape := ⟨1, ![512]⟩
abbrev S1024x64 : Shape := ⟨2, ![1024, 64]⟩
abbrev S64x512 : Shape := ⟨2, ![64, 512]⟩
abbrev S1024x160 : Shape := ⟨2, ![1024, 160]⟩
abbrev S160x512 : Shape := ⟨2, ![160, 512]⟩
abbrev S32x4x5120 : Shape := ⟨3, ![32, 4, 5120]⟩
abbrev S32x4x1536 : Shape := ⟨3, ![32, 4, 1536]⟩
abbrev S32x4x512 : Shape := ⟨3, ![32, 4, 512]⟩
abbrev S1024x1536 : Shape := ⟨2, ![1024, 1536]⟩
abbrev S32x1536 : Shape := ⟨2, ![32, 1536]⟩
abbrev S32x1x1536 : Shape := ⟨3, ![32, 1, 1536]⟩
abbrev S32x3x1536 : Shape := ⟨3, ![32, 3, 1536]⟩
abbrev S1x1x1536 : Shape := ⟨3, ![1, 1, 1536]⟩
abbrev S32x1x1024 : Shape := ⟨3, ![32, 1, 1024]⟩
abbrev S32x3x1024 : Shape := ⟨3, ![32, 3, 1024]⟩
abbrev S1x1024 : Shape := ⟨2, ![1, 1024]⟩
abbrev S1024 : Shape := ⟨1, ![1024]⟩
abbrev S1x1x1024 : Shape := ⟨3, ![1, 1, 1024]⟩
abbrev S32x4x64 : Shape := ⟨3, ![32, 4, 64]⟩
abbrev S1x1x512 : Shape := ⟨3, ![1, 1, 512]⟩
abbrev S_ : Shape := ⟨0, ![]⟩
abbrev S32x4x160 : Shape := ⟨3, ![32, 4, 160]⟩
abbrev S32x4x8x64 : Shape := ⟨4, ![32, 4, 8, 64]⟩
abbrev S32x4x8 : Shape := ⟨3, ![32, 4, 8]⟩
abbrev S32x4x8x1 : Shape := ⟨4, ![32, 4, 8, 1]⟩
abbrev S128x512 : Shape := ⟨2, ![128, 512]⟩

abbrev nBuf : Space → Nat
  | .hbm => 151
  | .vmem => 0
  | .smem => 0
  | _ => 0

abbrev hbmTy0_0 (i : Nat) : BufTy := match i % 128 with
  | 0 => ⟨S32x4x1024, .f32⟩
  | 1 => ⟨S32x1024, .f32⟩
  | 2 => ⟨S1024x5120, .f32⟩
  | 3 => ⟨S1536, .f32⟩
  | 4 => ⟨S3x1024, .f32⟩
  | 5 => ⟨S512, .f32⟩
  | 6 => ⟨S1024x64, .f32⟩
  | 7 => ⟨S64x512, .f32⟩
  | 8 => ⟨S512, .f32⟩
  | 9 => ⟨S1024x64, .f32⟩
  | 10 => ⟨S64x512, .f32⟩
  | 11 => ⟨S1024x160, .f32⟩
  | 12 => ⟨S160x512, .f32⟩
  | 13 => ⟨S512, .f32⟩
  | 14 => ⟨S512, .f32⟩
  | 15 => ⟨S32x4x5120, .f32⟩
  | 16 => ⟨S32x4x1536, .f32⟩
  | 17 => ⟨S32x4x1536, .f32⟩
  | 18 => ⟨S32x4x512, .f32⟩
  | 19 => ⟨S32x4x512, .f32⟩
  | 20 => ⟨S32x4x512, .f32⟩
  | 21 => ⟨S1024x1536, .f32⟩
  | 22 => ⟨S32x1536, .f32⟩
  | 23 => ⟨S32x1x1536, .f32⟩
  | 24 => ⟨S32x3x1536, .f32⟩
  | 25 => ⟨S32x4x1536, .f32⟩
  | 26 => ⟨S32x4x1536, .f32⟩
  | 27 => ⟨S1x1x1536, .f32⟩
  | 28 => ⟨S32x4x1536, .f32⟩
  | 29 => ⟨S32x4x1536, .f32⟩
  | 30 => ⟨S32x4x1536, .f32⟩
  | 31 => ⟨S32x4x512, .f32⟩
  | 32 => ⟨S32x4x512, .f32⟩
  | 33 => ⟨S32x4x512, .f32⟩
  | 34 => ⟨S32x1x1024, .f32⟩
  | 35 => ⟨S32x3x1024, .f32⟩
  | 36 => ⟨S32x4x1024, .f32⟩
  | 37 => ⟨S32x4x1024, .f32⟩
  | 38 => ⟨S1x1024, .f32⟩
  | 39 => ⟨S1024, .f32⟩
  | 40 => ⟨S1x1x1024, .f32⟩
  | 41 => ⟨S32x4x1024, .f32⟩
  | 42 => ⟨S32x4x1024, .f32⟩
  | 43 => ⟨S32x4x1024, .f32⟩
  | 44 => ⟨S1x1024, .f32⟩
  | 45 => ⟨S1024, .f32⟩
  | 46 => ⟨S1x1x1024, .f32⟩
  | 47 => ⟨S32x4x1024, .f32⟩
  | 48 => ⟨S32x4x1024, .f32⟩
  | 49 => ⟨S32x4x1024, .f32⟩
  | 50 => ⟨S1x1024, .f32⟩
  | 51 => ⟨S1024, .f32⟩
  | 52 => ⟨S1x1x1024, .f32⟩
  | 53 => ⟨S32x4x1024, .f32⟩
  | 54 => ⟨S32x4x1024, .f32⟩
  | 55 => ⟨S32x4x1024, .f32⟩
  | 56 => ⟨S32x4x64, .f32⟩
  | 57 => ⟨S32x4x64, .f32⟩
  | 58 => ⟨S32x4x512, .f32⟩
  | 59 => ⟨S1x1x512, .f32⟩
  | 60 => ⟨S32x4x512, .f32⟩
  | 61 => ⟨S32x4x512, .f32⟩
  | 62 => ⟨S32x4x512, .f32⟩
  | 63 => ⟨S_, .f32⟩
  | 64 => ⟨S32x4x512, .f32⟩
  | 65 => ⟨S32x4x512, .f32⟩
  | 66 => ⟨S32x4x512, .f32⟩
  | 67 => ⟨S32x4x512, .f32⟩
  | 68 => ⟨S32x4x512, .i1⟩
  | 69 => ⟨S32x4x512, .f32⟩
  | 70 => ⟨S32x4x512, .f32⟩
  | 71 => ⟨S32x4x512, .f32⟩
  | 72 => ⟨S32x4x512, .f32⟩
  | 73 => ⟨S32x4x512, .f32⟩
  | 74 => ⟨S32x4x512, .f32⟩
  | 75 => ⟨S32x4x512, .f32⟩
  | 76 => ⟨S32x4x512, .f32⟩
  | 77 => ⟨S32x4x512, .f32⟩
  | 78 => ⟨S_, .f32⟩
  | 79 => ⟨S32x4x512, .f32⟩
  | 80 => ⟨S32x4x512, .f32⟩
  | 81 => ⟨S32x4x64, .f32⟩
  | 82 => ⟨S32x4x512, .f32⟩
  | 83 => ⟨S1x1x512, .f32⟩
  | 84 => ⟨S32x4x512, .f32⟩
  | 85 => ⟨S32x4x512, .f32⟩
  | 86 => ⟨S32x4x512, .f32⟩
  | 87 => ⟨S32x4x512, .f32⟩
  | 88 => ⟨S_, .f32⟩
  | 89 => ⟨S32x4x512, .f32⟩
  | 90 => ⟨S32x4x512, .f32⟩
  | 91 => ⟨S_, .f32⟩
  | 92 => ⟨S32x4x512, .f32⟩
  | 93 => ⟨S32x4x512, .f32⟩
  | 94 => ⟨S32x4x160, .f32⟩
  | 95 => ⟨S32x4x160, .f32⟩
  | 96 => ⟨S32x4x160, .f32⟩
  | 97 => ⟨S_, .f32⟩
  | 98 => ⟨S32x4x160, .f32⟩
  | 99 => ⟨S32x4x160, .f32⟩
  | 100 => ⟨S_, .f32⟩
  | 101 => ⟨S32x4x160, .f32⟩
  | 102 => ⟨S32x4x160, .f32⟩
  | 103 => ⟨S32x4x512, .f32⟩
  | 104 => ⟨S1x1x512, .f32⟩
  | 105 => ⟨S32x4x512, .f32⟩
  | 106 => ⟨S32x4x512, .f32⟩
  | 107 => ⟨S32x4x8x64, .f32⟩
  | 108 => ⟨S32x4x8x64, .f32⟩
  | 109 => ⟨S_, .f32⟩
  | 110 => ⟨S32x4x8, .f32⟩
  | 111 => ⟨S32x4x8x1, .f32⟩
  | 112 => ⟨S32x4x8x1, .f32⟩
  | 113 => ⟨S_, .f32⟩
  | 114 => ⟨S32x4x8x1, .f32⟩
  | 115 => ⟨S32x4x8x1, .f32⟩
  | 116 => ⟨S32x4x8x64, .f32⟩
  | 117 => ⟨S32x4x8x64, .f32⟩
  | 118 => ⟨S_, .f32⟩
  | 119 => ⟨S32x4x512, .f32⟩
  | 120 => ⟨S32x4x512, .f32⟩
  | 121 => ⟨S1x1x512, .f32⟩
  | 122 => ⟨S32x4x512, .f32⟩
  | 123 => ⟨S32x4x512, .f32⟩
  | 124 => ⟨S_, .f32⟩
  | 125 => ⟨S32x4x512, .f32⟩
  | 126 => ⟨S32x4x512, .f32⟩
  | 127 => ⟨S32x4x512, .f32⟩
  | _ => ⟨S32x4x1024, .f32⟩

abbrev hbmTy0_1 (i : Nat) : BufTy := match i % 128 with
  | 0 => ⟨S128x512, .f32⟩
  | 1 => ⟨S32x4x512, .f32⟩
  | 2 => ⟨S32x4x512, .f32⟩
  | 3 => ⟨S128x512, .f32⟩
  | 4 => ⟨S128x512, .f32⟩
  | 5 => ⟨S32x4x8x64, .f32⟩
  | 6 => ⟨S128x512, .f32⟩
  | 7 => ⟨S32x4x8x64, .f32⟩
  | 8 => ⟨S32x4x8x64, .f32⟩
  | 9 => ⟨S128x512, .f32⟩
  | 10 => ⟨S128x512, .f32⟩
  | 11 => ⟨S128x512, .f32⟩
  | 12 => ⟨S_, .f32⟩
  | 13 => ⟨S32x4x512, .f32⟩
  | 14 => ⟨S32x4x512, .f32⟩
  | 15 => ⟨S128x512, .f32⟩
  | 16 => ⟨S128x512, .bf16⟩
  | 17 => ⟨S128x512, .f32⟩
  | 18 => ⟨S128x512, .f32⟩
  | 19 => ⟨S128x512, .f32⟩
  | 20 => ⟨S128x512, .bf16⟩
  | 21 => ⟨S128x512, .f32⟩
  | 22 => ⟨S128x512, .bf16⟩
  | _ => ⟨S32x4x1024, .f32⟩

abbrev hbmTy (i : Nat) : BufTy := match i / 128 with
  | 0 => hbmTy0_0 i
  | 1 => hbmTy0_1 i
  | _ => ⟨S32x4x1024, .f32⟩

abbrev bufTy : (tb : Table) → Fin (tcTables nBuf tb) → BufTy
  | .hbm, ⟨i, _⟩ => hbmTy i
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_call0_cst : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_call0_v5 : Ref sig .tc := ⟨.hbm, 69, rfl⟩
abbrev main_call0_v6 : Ref sig .tc := ⟨.hbm, 70, rfl⟩
abbrev main_call0_v7 : Ref sig .tc := ⟨.hbm, 71, rfl⟩
abbrev main_call0_v8 : Ref sig .tc := ⟨.hbm, 72, rfl⟩
abbrev main_call0_v9 : Ref sig .tc := ⟨.hbm, 73, rfl⟩
abbrev main_call0_v10 : Ref sig .tc := ⟨.hbm, 74, rfl⟩
abbrev main_call0_v11 : Ref sig .tc := ⟨.hbm, 75, rfl⟩
abbrev main_v48 : Ref sig .tc := ⟨.hbm, 76, rfl⟩
abbrev main_v49 : Ref sig .tc := ⟨.hbm, 77, rfl⟩
abbrev main_cst : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_0 : Ref sig .tc := ⟨.hbm, 88, rfl⟩
abbrev main_v59 : Ref sig .tc := ⟨.hbm, 89, rfl⟩
abbrev main_v60 : Ref sig .tc := ⟨.hbm, 90, rfl⟩
abbrev main_cst_1 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_2 : Ref sig .tc := ⟨.hbm, 97, rfl⟩
abbrev main_v66 : Ref sig .tc := ⟨.hbm, 98, rfl⟩
abbrev main_v67 : Ref sig .tc := ⟨.hbm, 99, rfl⟩
abbrev main_cst_3 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_4 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_5 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_6 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_7 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_8 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩

abbrev nD : Nat := 1
abbrev τ : Topo := Topo.v7x

variable {F : FTy → Type} [FloatOps F]
-- ==== Proof.Pieces.lean ====
module

public import Idealize.ShloMosaic.Lib.Pipeline.ValueKit
public import Idealize.ShloMosaic.Lib.WritesUnit
public import Idealize.ShloMosaic.Lib.Pointwise
public import proofs.«01_k».proof.Defs

@[expose] public section
set_option maxRecDepth 16384
noncomputable section
namespace Cert.KernelIdeal.Attn
open Cert.KernelIdeal
open Idealize.ShloMosaic Idealize.ShloMosaic.TcCoe

/-! A buffer of eight heads, 512 rows and 128 lanes that is written one head at a time, some of its rows each time. -/

variable {Val : EltTy → Type}

/-- The shape of one head's rows. -/
abbrev Slab (n : ℕ) : Shape := ⟨3, ![1, n, 128]⟩

theorem slab_inb (o n h : ℕ) (ho : o + n ≤ 512) (hh : h < 8) : ∀ a, (![h, o, 0] : Fin 3 → ℕ) a + (Slab n).size a ≤ S8x512x128.size a := by
  intro a; fin_cases a
  · show h + 1 ≤ 8; omega
  · exact ho
  · show 0 + 128 ≤ 128; omega

/-- The rows `o … o+n` of head `h`. -/
def slab (o n h : ℕ) (ho : o + n ≤ 512) (hh : h < 8) : Rect S8x512x128 := Rect.unit ![h, o, 0] (Slab n).size (slab_inb o n h ho hh)

/-- What is written to the rows `o … o+n` of the heads below `m`, over what was written before. -/
def stack (o n : ℕ) (ho : o + n ≤ 512) (w : Fin 8 → (Slab n).Idx → Val .f32) (L : List (View.Piece Val S8x512x128 .f32)) :
    (m : ℕ) → m ≤ 8 → List (View.Piece Val S8x512x128 .f32)
  | 0, _ => L
  | m + 1, hm => ⟨slab o n m ho hm, w ⟨m, hm⟩⟩ :: stack o n ho w L m (Nat.le_of_succ_le hm)

theorem read_stack {sig : RefSig} {κ : Kind} {sp : Space} (v : View sig κ sp S8x512x128 .f32) (f : v.ty.Contents Val) (o n : ℕ) (ho : o + n ≤ 512)
    (w : Fin 8 → (Slab n).Idx → Val .f32) (L : List (View.Piece Val S8x512x128 .f32)) (m : ℕ) (hm : m ≤ 8) (h : Fin 8) (r : Fin 512) (l : Fin 128) :
    v.read Val (v.writes Val f (stack o n ho w L m hm)) (ix3 h r l)
      = if hh : h.val < m ∧ o ≤ r.val ∧ r.val < o + n then w h (ix3 0 ⟨r.val - o, by omega⟩ l)
        else v.read Val (v.writes Val f L) (ix3 h r l) := by
  induction m with
  | zero => rw [dif_neg (by omega)]; rfl
  | succ m ih =>
    have ih := ih (by omega)
    by_cases hin : h.val = m ∧ o ≤ r.val ∧ r.val < o + n
    · rw [dif_pos (by omega)]
      obtain ⟨h1, h2, h3⟩ := hin
      have e : (⟨m, hm⟩ : Fin 8) = h := Fin.ext h1.symm
      refine (View.read_writes_cons_unit_of_mem v f (slab_inb o n m ho hm) (w ⟨m, hm⟩) _ (ix3 h r l)
        (ix3 (0 : Fin 1) (⟨r.val - o, by omega⟩ : Fin n) l : (Slab n).Idx) rfl ?_).trans (by rw [e])
      intro a; fin_cases a
      · show h.val = m + 0; omega
      · show r.val = o + (r.val - o); omega
      · show l.val = 0 + l.val; omega
    · have step : v.read Val (v.writes Val f (stack o n ho w L (m + 1) hm)) (ix3 h r l)
          = v.read Val (v.writes Val f (stack o n ho w L m (by omega))) (ix3 h r l) := by
        by_cases h1 : h.val = m
        · refine View.read_writes_cons_unit_of_not_mem v f (slab_inb o n m ho hm) (w ⟨m, hm⟩) _ (ix3 h r l) rfl (1 : Fin 3) ?_
          show r.val < o ∨ o + n ≤ r.val; omega
        · refine View.read_writes_cons_unit_of_not_mem v f (slab_inb o n m ho hm) (w ⟨m, hm⟩) _ (ix3 h r l) rfl (0 : Fin 3) ?_
          show h.val < m ∨ m + 1 ≤ h.val; omega
      rw [step, ih]
      by_cases h2 : h.val < m ∧ o ≤ r.val ∧ r.val < o + n
      · rw [dif_pos h2, dif_pos (by omega)]
      · rw [dif_neg h2, dif_neg (by omega)]

/-- A head's rows, loaded from the buffer. -/
theorem readAt_slab {sig : RefSig} {κ : Kind} {sp : Space} (v : View sig κ sp S8x512x128 .f32) (f : v.ty.Contents Val) (o n : ℕ) (ho : o + n ≤ 512)
    (h : Fin 8) (r : Fin n) (l : Fin 128) :
    v.readAt Val (slab o n h ho h.isLt).toLoadRect f (ix3 (0 : Fin 1) r l : (Slab n).Idx) = v.read Val f (ix3 h ⟨o + r.val, by omega⟩ l) := by
  show v.read Val f _ = _
  congr 1
  funext a; apply Fin.ext
  fin_cases a
  · show h.val + 1 * 0 = h.val; omega
  · show o + 1 * r.val = o + r.val; omega
  · show 0 + 1 * l.val = l.val; omega

/-- A load from a whole buffer, at an index. -/
theorem readAt_unread {F : FTy → Type} [FloatOps F] {sig : RefSig} {κ : Kind} {sp : Space} {s : Shape} {e : EltTy}
    {M : Memref sig κ sp s e} (hM : M.IsWhole) (X : Vec F s e) (off size : Fin s.rank → ℕ) (inb) (x : (Rect.unit off size inb).shape.Idx)
    (i : s.Idx) (hi : ∀ a, (i a : ℕ) = off a + x a) :
    M.view.readAt (Elt F) (Rect.unit off size inb).toLoadRect (hM.unread X) x = X i := by
  rw [View.readAt_eq_ld, hM.read_unread]
  exact View.ld_unit_apply_of X off size inb x i hi

end Cert.KernelIdeal.Attn
-- ==== Proof.Ops.lean ====
module

public import proofs.«01_k».proof.Proof.Gen.KernelIdeal.Skeleton
public import Idealize.ShloMosaic.Lib.Pointwise

@[expose] public section
set_option maxRecDepth 16384
noncomputable section
namespace Cert.KernelIdeal.Attn
open Cert.KernelIdeal Cert.KernelIdeal.Gen
open Idealize.ShloMosaic Idealize.ShloMosaic.TcCoe

/-! One head's share of a block of keys, as functions of what the block reads. `low` is the first half of the
diagonal block (256 rows, 256 keys), `high` its second half (256 rows, 512 keys), `full` an earlier block (512 rows,
512 keys). -/

section Ops
variable {F : FTy → Type} [FloatOps F]

/-- Scores of the first 256 rows against the first 256 keys of the diagonal block. -/
def lowScore (q : FVec F S512x256 .bf16) (e : FVec F S256x128 .bf16) (k : Vec F S256x128 .bf16) : FVec F S256x256 .f32 :=
  k0_pay287 q (k0_pay282 e k)
/-- What each key costs a row, zero at the keys that are not earlier. -/
def lowCost (z : FVec F S256x256 .f32) : FVec F S256x256 .f32 := k0_pay313 k0_pay281 (k0_pay303 z)
/-- The carried cost after the first half's keys. -/
def lowCarry (z : FVec F S256x256 .f32) (u : FVec F S256x256 .bf16) (c : Vec F S1x256x128 .f32) : FVec F S1x256x128 .f32 :=
  k0_pay339 (k0_pay329 u (lowCost z)) c
/-- The attention weights of the first half. -/
def lowWeight (z : FVec F S256x256 .f32) (u : FVec F S256x256 .bf16) (c : Vec F S1x256x128 .f32) : FVec F S256x256 .f32 :=
  k0_pay340 k0_pay281 z (k0_pay303 z) (k0_pay321 u (lowCost z)) c
/-- The accumulated output after the first half's keys. -/
def lowAcc (w : FVec F S256x256 .f32) (v : Vec F S256x128 .bf16) (a : Vec F S1x256x128 .f32) : FVec F S1x256x128 .f32 :=
  k0_pay367 (k0_pay295 v) w a

/-- Scores of the last 256 rows against all keys of the diagonal block. -/
def highScore (q : FVec F S512x256 .bf16) (e : FVec F S512x128 .bf16) (k : Vec F S512x128 .bf16) : FVec F S256x512 .f32 :=
  k0_pay383 q (k0_pay376 e k)
/-- The costs of the first 256 keys. -/
def highCost0 (z : FVec F S256x512 .f32) : FVec F S256x256 .f32 := k0_pay410 (k0_pay399 z)
/-- The costs of the last 256 keys, zero at those that are not earlier. -/
def highCost1 (z : FVec F S256x512 .f32) : FVec F S256x256 .f32 := k0_pay411 k0_pay281 (k0_pay399 z)
/-- The total cost of the last 256 keys, along the lanes. -/
def highTot1 (z : FVec F S256x512 .f32) (u : FVec F S256x256 .bf16) : FVec F S256x128 .f32 :=
  k0_pay446 (highCost1 z) (k0_pay429 u (highCost1 z))
/-- The carried cost after the second half's keys. -/
def highCarry (z : FVec F S256x512 .f32) (u : FVec F S256x256 .bf16) (c : Vec F S1x256x128 .f32) : FVec F S1x256x128 .f32 :=
  k0_pay464 (k0_pay445 (highCost0 z) (k0_pay428 u (highCost0 z))) (highTot1 z u) c
/-- The attention weights of the second half. -/
def highWeight (z : FVec F S256x512 .f32) (u : FVec F S256x256 .bf16) (c : Vec F S1x256x128 .f32) : FVec F S256x512 .f32 :=
  k0_pay469 k0_pay281
    (k0_pay466 z (k0_pay399 z) (k0_pay428 u (highCost0 z)) (k0_pay429 u (highCost1 z)) (highTot1 z u) c)
    (k0_pay467 z (k0_pay399 z) (k0_pay428 u (highCost0 z)) (k0_pay429 u (highCost1 z)) (highTot1 z u) c) k0_pay468
/-- The accumulated output after the second half's keys. -/
def highAcc (w : FVec F S256x512 .f32) (v : Vec F S512x128 .bf16) (a : Vec F S1x256x128 .f32) : FVec F S1x256x128 .f32 :=
  k0_pay501 (k0_pay391 v) w a

/-- Scores of all rows against an earlier block of keys. -/
def fullScore (q : FVec F S512x256 .bf16) (e : FVec F S512x128 .bf16) (k : Vec F S512x128 .bf16) : FVec F S512x512 .f32 :=
  k0_pay3 q e k
/-- The total cost of the last 256 keys, along the lanes. -/
def fullTot1 (z : FVec F S512x512 .f32) (u : FVec F S256x256 .bf16) : FVec F S512x128 .f32 :=
  k0_pay64 (k0_pay32 (k0_pay19 z)) (k0_pay48 u (k0_pay19 z))
/-- The carried cost after an earlier block. -/
def fullCarry (z : FVec F S512x512 .f32) (u : FVec F S256x256 .bf16) (c : Vec F S1x512x128 .f32) : FVec F S1x512x128 .f32 :=
  k0_pay86 (k0_pay85 (k0_pay64 (k0_pay31 (k0_pay19 z)) (k0_pay47 u (k0_pay19 z))) (fullTot1 z u) c)
/-- The attention weights of an earlier block. -/
def fullWeight (z : FVec F S512x512 .f32) (u : FVec F S256x256 .bf16) (c : Vec F S1x512x128 .f32) : FVec F S512x512 .f32 :=
  k0_pay87 z (k0_pay19 z) (k0_pay82 (k0_pay48 u (k0_pay19 z)) c) (k0_pay84 (k0_pay47 u (k0_pay19 z)) (fullTot1 z u) c)
/-- The accumulated output after an earlier block. -/
def fullAcc (w : FVec F S512x512 .f32) (v : Vec F S512x128 .bf16) (a : Vec F S1x512x128 .f32) : FVec F S1x512x128 .f32 :=
  k0_pay117 (k0_pay11 v) w a
end Ops

end Cert.KernelIdeal.Attn
-- ==== Proof.Row.lean ====
module

public import Idealize.ShloMosaic.Lib.Pointwise

@[expose] public section
noncomputable section
namespace Cert.Row
open Idealize.ShloMosaic
open scoped BigOperators

/-! The arithmetic of one row of stick-breaking attention: row `t` of a sequence of 4096, whose score at key `s` is
the extended real number `z s`. -/

/-- `log (1 + e^x)`, as both programs compute it. -/
def sp (x : EReal) : EReal := max x 0 + Ideal.log (1 + Ideal.exp (0 - FloatOps.absf (F := Ideal) (φ := .f32) x))

/-- What key `s` takes from the stick, in logarithms: nothing unless it is earlier than the row. -/
def cost (t : ℕ) (z : ℕ → EReal) (s : ℕ) : EReal := if s < t then sp (z s) else 0

/-- The total cost of the keys from `lo` on. -/
def later (t : ℕ) (z : ℕ → EReal) (lo : ℕ) : EReal := ∑ j ∈ Finset.Ico lo 4096, cost t z j

/-- The weight of key `s`: nothing unless it is earlier than the row. -/
def weight (t : ℕ) (z : ℕ → EReal) (s : ℕ) : EReal :=
  if s < t then Ideal.exp (z s - sp (z s) - later t z (s + 1)) else 0

/-- The row's output over the keys from `lo` on. -/
def out (t : ℕ) (z : ℕ → EReal) (v : ℕ → EReal) (lo : ℕ) : EReal :=
  ∑ s ∈ Finset.Ico lo 4096, weight t z s * v s

theorem sp_fold (x : EReal) : max x 0 + Ideal.log (1 + Ideal.exp (0 - FloatOps.absf (F := Ideal) (φ := .f32) x)) = sp x := rfl

/-- The softplus of a real number. -/
def spReal (x : ℝ) : ℝ := max x 0 + Real.log (1 + Real.exp (-|x|))

theorem absf_coe (x : ℝ) : FloatOps.absf (F := Ideal) (φ := .f32) ((x : ℝ) : EReal) = ((|x| : ℝ) : EReal) := by
  rw [Ideal.absf_def]
  rcases le_total 0 x with h | h
  · rw [abs_of_nonneg h]; refine max_eq_left ?_
    rw [← EReal.coe_neg]; exact_mod_cast (by linarith)
  · rw [abs_of_nonpos h, ← EReal.coe_neg]; refine max_eq_right ?_
    exact_mod_cast (by linarith)

theorem max_coe_zero (x : ℝ) : max ((x : ℝ) : EReal) 0 = ((max x 0 : ℝ) : EReal) := by
  rcases le_total 0 x with h | h
  · rw [max_eq_left h]; exact max_eq_left (by exact_mod_cast h)
  · rw [max_eq_right h]; exact max_eq_right (by exact_mod_cast h)

theorem sp_coe (x : ℝ) : sp ((x : ℝ) : EReal) = ((spReal x : ℝ) : EReal) := by
  rw [sp, absf_coe, max_coe_zero]
  have h1 : (0 : EReal) - ((|x| : ℝ) : EReal) = ((-|x| : ℝ) : EReal) := by
    rw [zero_sub]; exact (EReal.coe_neg _).symm
  have hp := Real.exp_pos (-|x|)
  have h2 : (1 : EReal) + ((Real.exp (-|x|) : ℝ) : EReal) = ((1 + Real.exp (-|x|) : ℝ) : EReal) := by
    rw [EReal.coe_add, EReal.coe_one]
  rw [h1, Ideal.exp_coe, h2, Ideal.log_coe, if_neg (by linarith), ← EReal.coe_add]
  rfl

theorem spReal_neg (x : ℝ) : -spReal (-x) = x - spReal x := by
  have : max (-x) 0 = max x 0 - x := by
    rcases le_total x 0 with h | h
    · rw [max_eq_left (by linarith), max_eq_right h]; ring
    · rw [max_eq_right (by linarith), max_eq_left h]; ring
  rw [spReal, spReal, abs_neg, this]
  ring

theorem spReal_nonneg (x : ℝ) : 0 ≤ spReal x :=
  add_nonneg (le_max_right _ _) (Real.log_nonneg (by linarith [Real.exp_pos (-|x|)]))

theorem sp_top : sp ⊤ = ⊤ := by
  rw [sp, Ideal.absf_def, max_eq_left le_top, max_eq_left le_top, zero_sub, EReal.neg_top, Ideal.exp_bot, add_zero]
  exact EReal.top_add_of_ne_bot (by rw [← EReal.coe_one, Ideal.log_coe, if_neg (by norm_num)]; exact EReal.coe_ne_bot _)

theorem sp_bot : sp ⊥ = 0 := by
  rw [sp, Ideal.absf_def, EReal.neg_bot, max_eq_right bot_le, max_eq_right bot_le, zero_sub, EReal.neg_top, Ideal.exp_bot, add_zero, zero_add,
    ← EReal.coe_one, Ideal.log_coe, if_neg (by norm_num), Real.log_one, EReal.coe_zero]

theorem sp_nonneg (x : EReal) : 0 ≤ sp x := by
  induction x with
  | bot => rw [sp_bot]
  | top => rw [sp_top]; exact le_top
  | coe x => rw [sp_coe]; exact_mod_cast spReal_nonneg x

theorem cost_nonneg (t : ℕ) (z : ℕ → EReal) (s : ℕ) : 0 ≤ cost t z s := by
  rw [cost]; split
  · exact sp_nonneg _
  · exact le_rfl

theorem later_nonneg (t : ℕ) (z : ℕ → EReal) (lo : ℕ) : 0 ≤ later t z lo := Finset.sum_nonneg fun j _ => cost_nonneg t z j

/-- The negation of a sum of nonnegative numbers. -/
theorem neg_sum {ι : Type*} (s : Finset ι) (f : ι → EReal) (hf : ∀ i, 0 ≤ f i) : ∑ i ∈ s, -f i = -∑ i ∈ s, f i := by
  classical
  induction s using Finset.induction_on with
  | empty => simp
  | insert a s ha ih =>
    have h1 : f a ≠ ⊥ := (EReal.bot_lt_zero.trans_le (hf a)).ne'
    have h2 : ∑ i ∈ s, f i ≠ ⊥ := (EReal.bot_lt_zero.trans_le (Finset.sum_nonneg fun i _ => hf i)).ne'
    rw [Finset.sum_insert ha, Finset.sum_insert ha, ih, EReal.neg_add (.inl h1) (.inr h2), sub_eq_add_neg]

/-- The logarithm of a weight as the reference spells it: the key's own cost is taken out of the sum again. -/
theorem weight_log (x L : EReal) (hL : 0 ≤ L) : -sp (-x) + (-(L + sp x) - -sp x) = x - sp x - L := by
  induction x with
  | bot => rw [EReal.neg_bot, sp_top, EReal.neg_top, EReal.bot_add, sub_eq_add_neg, sub_eq_add_neg, EReal.bot_add, EReal.bot_add]
  | top =>
    rw [sp_top, EReal.add_top_of_ne_bot (EReal.bot_lt_zero.trans_le hL).ne', EReal.neg_top, sub_eq_add_neg, sub_eq_add_neg, sub_eq_add_neg, EReal.neg_top]
    simp
  | coe x =>
    rw [← EReal.coe_neg, sp_coe, sp_coe, ← EReal.coe_neg, spReal_neg]
    induction L with
    | bot => exact absurd hL (by simp)
    | top => rw [EReal.top_add_coe, EReal.neg_top, sub_eq_add_neg ⊥, EReal.bot_add, EReal.add_bot, sub_eq_add_neg _ ⊤, EReal.neg_top, EReal.add_bot]
    | coe L =>
      norm_cast
      ring_nf

/-- A sum over the positions of a tile, by their place in the sequence. -/
theorem sum_tile {M : Type*} [AddCommMonoid M] (f : ℕ → M) (base n : ℕ) :
    ∑ j : Fin n, f (base + j) = ∑ j ∈ Finset.Ico base (base + n), f j := by
  rw [Finset.sum_Ico_eq_sum_range, Nat.add_sub_cancel_left, Finset.sum_range]

/-- The costs behind key `l` of a tile of 256 keys: the product with the strictly lower triangle. -/
theorem tri_sum (f : ℕ → EReal) (base l : ℕ) (hl : l < 256) :
    (∑ j : Fin 256, f (base + j) * (if l < j.val then 1 else 0)) = ∑ j ∈ Finset.Ico (base + (l + 1)) (base + 256), f j := by
  have e := sum_tile (fun j => if base + l < j then f j else 0) base 256
  have e' : (∑ j : Fin 256, f (base + j) * (if l < j.val then 1 else 0))
      = ∑ j : Fin 256, (fun j => if base + l < j then f j else 0) (base + j) :=
    Finset.sum_congr rfl fun j _ => by simp
  rw [e', e, ← Finset.sum_Ico_consecutive _ (show base ≤ base + (l + 1) by omega) (show base + (l + 1) ≤ base + 256 by omega)]
  rw [Finset.sum_eq_zero, zero_add]
  · exact Finset.sum_congr rfl fun j hj => if_pos (by have := (Finset.mem_Ico.1 hj).1; omega)
  · intro j hj; exact if_neg (by have := (Finset.mem_Ico.1 hj).2; omega)

/-- The costs of a whole tile: those behind its first key and the first key's own. -/
theorem tri_total (f : ℕ → EReal) (base : ℕ) :
    (∑ j : Fin 256, (f (base + j)) * (if 0 < j.val then 1 else 0)) + (f base)
      = (∑ j ∈ Finset.Ico base (base + 256), f j) := by
  rw [tri_sum f base 0 (by omega), Finset.sum_eq_sum_Ico_succ_bot (show base < base + 256 by omega), add_comm]

theorem later_split (t : ℕ) (z : ℕ → EReal) (lo hi : ℕ) (h : lo ≤ hi) (h' : hi ≤ 4096) :
    later t z hi + ∑ j ∈ Finset.Ico lo hi, cost t z j = later t z lo := by
  unfold later; rw [add_comm]; exact Finset.sum_Ico_consecutive _ h h'

/-- No key at or behind the row costs anything. -/
theorem later_zero (t : ℕ) (z : ℕ → EReal) (lo : ℕ) (h : t ≤ lo) : later t z lo = 0 :=
  Finset.sum_eq_zero fun j hj => if_neg (by have := (Finset.mem_Ico.1 hj).1; omega)

/-- No key at or behind the row has a weight. -/
theorem out_zero (t : ℕ) (z : ℕ → EReal) (v : ℕ → EReal) (lo : ℕ) (h : t ≤ lo) : out t z v lo = 0 :=
  Finset.sum_eq_zero fun j hj => by
    rw [weight, if_neg (by have := (Finset.mem_Ico.1 hj).1; omega)]; simp

/-- The carried cost takes in a tile of 256 keys. -/
theorem carry_tile (t : ℕ) (z : ℕ → EReal) (base : ℕ) (h : base + 256 ≤ 4096) (c : EReal)
    (hc : c = later t z (base + 256)) :
    c + ((∑ j : Fin 256, (cost t z (base + j)) * (if 0 < j.val then 1 else 0)) + (cost t z base))
      = later t z base := by
  rw [hc, tri_total, later_split t z base (base + 256) (by omega) h]

/-- The costs behind a key: those in its tile and those carried in. -/
theorem behind_tile (t : ℕ) (z : ℕ → EReal) (base l : ℕ) (hl : l < 256) (h : base + 256 ≤ 4096) (c : EReal)
    (hc : c = later t z (base + 256)) :
    (∑ j : Fin 256, (cost t z (base + j)) * (if l < j.val then 1 else 0)) + c
      = later t z (base + (l + 1)) := by
  rw [hc, tri_sum _ _ _ hl, add_comm, later_split t z _ _ (by omega) h]

/-- The weight of an earlier key from the costs behind it. -/
theorem weight_eq (t : ℕ) (z : ℕ → EReal) (s : ℕ) (h : s < t) :
    Ideal.exp (z s - sp (z s) - later t z (s + 1)) = weight t z s := by
  rw [weight, if_pos h]

/-- The weight of an infinite score is nothing. -/
theorem weight_top (t : ℕ) (z : ℕ → EReal) (s : ℕ) (h : z s = ⊤ ∨ z s = ⊥) : weight t z s = 0 := by
  rw [weight]; split
  · rcases h with h | h
    · rw [h, sp_top, sub_eq_add_neg ⊤, EReal.neg_top, EReal.add_bot, sub_eq_add_neg, EReal.bot_add, Ideal.exp_bot]
    · rw [h, sub_eq_add_neg, sub_eq_add_neg, EReal.bot_add, EReal.bot_add, Ideal.exp_bot]
  · rfl

/-- The bias as the kernel adds it: its value and what is left of it after one and after two roundings, which is
nothing when it is finite. -/
def biasParts (b : EReal) : EReal := b + (b - b) + (b - b - (b - b))

theorem biasParts_coe (b : ℝ) : biasParts b = b := by
  rw [biasParts, ← EReal.coe_sub, ← EReal.coe_sub, sub_self, sub_self, EReal.coe_zero, add_zero, add_zero]

/-- The parts of the bias give the output that the bias itself gives: with an infinite bias no key has a weight. -/
theorem out_biasParts (t : ℕ) (z : ℕ → EReal) (b : EReal) (v : ℕ → EReal) (lo : ℕ) :
    out t (fun s => z s + biasParts b) v lo = out t (fun s => z s + b) v lo := by
  induction b with
  | coe b => rw [biasParts_coe]
  | bot =>
    have e : biasParts ⊥ = ⊥ := by rw [biasParts, sub_eq_add_neg ⊥, EReal.bot_add, EReal.bot_add]
    rw [e]
  | top =>
    have e : biasParts ⊤ = ⊥ := by rw [biasParts, sub_eq_add_neg ⊤, EReal.neg_top, EReal.add_bot]; simp
    refine Finset.sum_congr rfl fun s _ => ?_
    rw [weight_top _ _ _ (.inr (by rw [e, EReal.add_bot])), weight_top]
    rcases eq_or_ne (z s) ⊥ with h | h
    · exact .inr (by rw [h, EReal.bot_add])
    · exact .inl (EReal.add_top_of_ne_bot h)

/-- The output takes in a tile of keys. -/
theorem out_tile (t : ℕ) (z : ℕ → EReal) (v : ℕ → EReal) (base n : ℕ) (h : base + n ≤ 4096) (a : EReal)
    (ha : a = out t z v (base + n)) :
    a + ∑ j : Fin n, (weight t z (base + j)) * v (base + j) = out t z v base := by
  rw [ha, sum_tile (fun s => (weight t z s) * v s) base n, add_comm]
  exact Finset.sum_Ico_consecutive _ (by omega) h

end Cert.Row
-- ==== Proof.OpsValue.lean ====
module

public import proofs.«01_k».proof.Proof.Ops
public import proofs.«01_k».proof.Proof.Row
public import Idealize.ShloMosaic.Lib.WordCmp

@[expose] public section
set_option maxRecDepth 16384
noncomputable section
namespace Cert.KernelIdeal.Attn
open Cert.KernelIdeal Cert.KernelIdeal.Gen Cert.Row
open Idealize.ShloMosaic Idealize.ShloMosaic.TcCoe

/-! What the functions of Ops.lean compute, at one index, for one row's scores. -/

/-- A selection by "key `a` comes before row `b`". -/
theorem select_lt {M : Type} (a b : ℕ) (ha : a < 2 ^ 31) (hb : b < 2 ^ 31) (x y : M) :
    Scalar.select (IntOp.cmpi .slt (BitVec.ofNat 32 a) (BitVec.ofNat 32 b)) x y = if a < b then x else y := by
  rw [WordCmp.cmpi_slt_ofNat (by simpa using ha) (by simpa using hb)]
  by_cases h : a < b <;> simp [h, Scalar.select]

/-- The strictly lower triangle that the cumulative sums multiply by. -/
def IsTri (u : FVec Ideal S256x256 .bf16) : Prop := ∀ j l : Fin 256, u (ix2 j l) = if l.val < j.val then (1 : EReal) else 0

section Low
variable (z : FVec Ideal S256x256 .f32) (u : FVec Ideal S256x256 .bf16) (hu : IsTri u) (base : ℕ) (zr : ℕ → EReal) (r : Fin 256)
  (hz : ∀ s : Fin 256, z (ix2 r s) = (zr (base + s))) (c : Vec Ideal S1x256x128 .f32) (hb : base + 256 ≤ 4096)

include hz in
theorem lowCost_apply (s : Fin 256) : lowCost z (ix2 r s) = (cost (base + r) zr (base + s)) := by
  pointwise [lowCost, k0_pay313, k0_pay303, k0_pay281]
  rw [select_lt _ _ (by omega) (by omega), hz, sp_fold, cost]
  by_cases h : (s : ℕ) < r
  · rw [if_pos h, if_pos (by omega)]
  · rw [if_neg h, if_neg (by omega)]

include hz hu hb in
theorem lowCarry_apply (l : Fin 128) (hc : c (ix3 0 r l) = (later (base + r) zr (base + 256))) :
    lowCarry z u c (ix3 0 r l) = (later (base + r) zr base) := by
  have hn := lowCost_apply z base zr r hz
  rw [lowCarry]
  generalize lowCost z = n at hn
  have h0 : n (ix2 r 0) = (cost (base + r) zr base) := by simpa using hn 0
  pointwise [k0_pay339, k0_pay329, k0_pay338, k0_pay321]
  rw [h0]
  simp only [hn, hu _ _]
  exact carry_tile _ _ _ hb _ hc

include hz hu hb in
theorem lowWeight_apply (hc : ∀ l, c (ix3 0 r l) = (later (base + r) zr (base + 256))) (s : Fin 256) :
    lowWeight z u c (ix2 r s) = (weight (base + r) zr (base + s)) := by
  have hn := lowCost_apply z base zr r hz
  rw [lowWeight]
  generalize lowCost z = n at hn
  pointwise [k0_pay340, k0_pay338, k0_pay321, k0_pay303, k0_pay281]
  rw [select_lt _ _ (by omega) (by omega), hz, sp_fold]
  simp only [hn, hu _ _, hc, dite_eq_ite, ite_self]
  rw [behind_tile _ _ base s s.isLt hb _ rfl]
  by_cases h : (s : ℕ) < r
  · rw [if_pos h]; exact weight_eq _ _ _ (by omega)
  · rw [if_neg h, weight, if_neg (by omega)]

omit hz hu hb in
theorem lowAcc_apply (w : FVec Ideal S256x256 .f32) (v : Vec Ideal S256x128 .bf16) (a : Vec Ideal S1x256x128 .f32)
    (hb : base + 256 ≤ 4096)
    (hw : ∀ s : Fin 256, w (ix2 r s) = (weight (base + r) zr (base + s))) (vl : ℕ → EReal) (l : Fin 128)
    (hv : ∀ s : Fin 256, v (ix2 s l) = vl (base + s)) (ha : a (ix3 0 r l) = out (base + r) zr vl (base + 256)) :
    lowAcc w v a (ix3 0 r l) = out (base + r) zr vl base := by
  pointwise [lowAcc, k0_pay367, k0_pay295]
  simp only [hw, hv]
  exact out_tile _ _ _ _ _ hb _ ha
end Low

section High
variable (z : FVec Ideal S256x512 .f32) (u : FVec Ideal S256x256 .bf16) (hu : IsTri u) (base : ℕ) (zr : ℕ → EReal) (r : Fin 256)
  (hz : ∀ s : Fin 512, z (ix2 r s) = (zr (base + s))) (c : Vec Ideal S1x256x128 .f32) (hb : base + 512 ≤ 4096)

include hz in
theorem highCost0_apply (s : Fin 256) :
    highCost0 z (ix2 r s) = (cost (base + 256 + r) zr (base + s)) := by
  pointwise [highCost0, k0_pay410, k0_pay399]
  rw [hz, sp_fold, cost, if_pos (by omega)]

include hz in
theorem highCost1_apply (s : Fin 256) :
    highCost1 z (ix2 r s) = (cost (base + 256 + r) zr (base + 256 + s)) := by
  pointwise [highCost1, k0_pay411, k0_pay399, k0_pay281]
  rw [select_lt _ _ (by omega) (by omega), hz, sp_fold, cost]
  by_cases h : (s : ℕ) < r
  · rw [if_pos h, if_pos (by omega), add_assoc]
  · rw [if_neg h, if_neg (by omega)]

include hz hu hb in
theorem highTot1_apply (l : Fin 128) (x : EReal) (hx : x = (later (base + 256 + r) zr (base + 512))) :
    x + highTot1 z u (ix2 r l) = (later (base + 256 + r) zr (base + 256)) := by
  have hn := highCost1_apply z base zr r hz
  rw [highTot1]
  generalize highCost1 z = n at hn
  have h0 : n (ix2 r 0) = (cost (base + 256 + r) zr (base + 256)) := by simpa using hn 0
  pointwise [k0_pay446, k0_pay429]
  rw [h0]
  simp only [hn, hu _ _]
  exact carry_tile _ _ _ hb _ hx

include hz hu hb in
theorem highCarry_apply (l : Fin 128) (hc : c (ix3 0 r l) = (later (base + 256 + r) zr (base + 512))) :
    highCarry z u c (ix3 0 r l) = (later (base + 256 + r) zr base) := by
  have hn := highCost0_apply z base zr r hz
  have ht := highTot1_apply z u hu base zr r hz hb l _ hc
  rw [highCarry]
  generalize highCost0 z = n at hn
  generalize highTot1 z u = t1 at ht
  have h0 : n (ix2 r 0) = (cost (base + 256 + r) zr base) := by simpa using hn 0
  pointwise [k0_pay464, k0_pay463, k0_pay462, k0_pay445, k0_pay428]
  rw [h0]
  simp only [hn, hu _ _]
  exact carry_tile _ _ _ (by omega) _ ht

include hz hu hb in
theorem highWeight_apply (hc : ∀ l, c (ix3 0 r l) = (later (base + 256 + r) zr (base + 512))) (s : Fin 512) :
    highWeight z u c (ix2 r s) = (weight (base + 256 + r) zr (base + s)) := by
  have hn0 := highCost0_apply z base zr r hz
  have hn1 := highCost1_apply z base zr r hz
  have ht := fun l => highTot1_apply z u hu base zr r hz hb l _ rfl
  rw [highWeight]
  generalize highCost0 z = n0 at hn0
  generalize highCost1 z = n1 at hn1
  generalize highTot1 z u = t1 at ht
  pointwise [k0_pay469, k0_pay466, k0_pay467, k0_pay468, k0_pay465, k0_pay463, k0_pay462, k0_pay428, k0_pay429, k0_pay399, k0_pay281]
  simp only [hn0, hn1, hu _ _, hc, ht, dite_eq_ite, ite_self]
  by_cases h : (s : ℕ) < 256
  · simp only [h, if_true, dite_true]
    rw [hz, sp_fold, behind_tile _ _ base s h (by omega) _ rfl]
    exact weight_eq _ _ _ (by omega)
  · have e : base + (256 + (s.val - 256)) = base + s.val := by omega
    simp only [h, if_false, dite_false]
    rw [select_lt _ _ (by omega) (by omega)]
    simp only [hz, e]
    rw [sp_fold,
      behind_tile _ _ (base + 256) (s - 256) (by omega) (by omega) (later (base + 256 + r) zr (base + 512)) rfl,
      show base + 256 + (s.val - 256 + 1) = base + s.val + 1 by omega]
    by_cases h' : (s : ℕ) - 256 < r
    · rw [if_pos h']; exact weight_eq _ _ _ (by omega)
    · rw [if_neg h', weight, if_neg (by omega)]

omit hz hu hb in
theorem highAcc_apply (w : FVec Ideal S256x512 .f32) (v : Vec Ideal S512x128 .bf16) (a : Vec Ideal S1x256x128 .f32)
    (hb : base + 512 ≤ 4096)
    (hw : ∀ s : Fin 512, w (ix2 r s) = (weight (base + 256 + r) zr (base + s))) (vl : ℕ → EReal) (l : Fin 128)
    (hv : ∀ s : Fin 512, v (ix2 s l) = vl (base + s)) (ha : a (ix3 0 r l) = out (base + 256 + r) zr vl (base + 512)) :
    highAcc w v a (ix3 0 r l) = out (base + 256 + r) zr vl base := by
  pointwise [highAcc, k0_pay501, k0_pay391]
  simp only [hw, hv]
  exact out_tile _ _ _ _ _ hb _ ha
end High

section Full
variable (z : FVec Ideal S512x512 .f32) (u : FVec Ideal S256x256 .bf16) (hu : IsTri u) (base t : ℕ) (zr : ℕ → EReal) (r : Fin 512)
  (hz : ∀ s : Fin 512, z (ix2 r s) = (zr (base + s))) (c : Vec Ideal S1x512x128 .f32) (hb : base + 512 ≤ 4096)
  (ht : base + 512 ≤ t)

include hz ht in
theorem fullCost0_apply (s : Fin 256) :
    k0_pay31 (k0_pay19 z) (ix2 r s) = (cost t zr (base + s)) := by
  pointwise [k0_pay31, k0_pay19]
  rw [hz, sp_fold, cost, if_pos (by omega)]

include hz ht in
theorem fullCost1_apply (s : Fin 256) :
    k0_pay32 (k0_pay19 z) (ix2 r s) = (cost t zr (base + 256 + s)) := by
  pointwise [k0_pay32, k0_pay19]
  rw [hz, sp_fold, cost, if_pos (by omega), add_assoc]

include hz hu hb ht in
theorem fullTot1_apply (l : Fin 128) (x : EReal) (hx : x = (later t zr (base + 512))) :
    x + fullTot1 z u (ix2 r l) = (later t zr (base + 256)) := by
  have hn := fullCost1_apply z base t zr r hz ht
  rw [fullTot1, k0_pay48]
  generalize k0_pay32 (k0_pay19 z) = n at hn
  have h0 : n (ix2 r 0) = (cost t zr (base + 256)) := by simpa using hn 0
  pointwise [k0_pay64]
  rw [h0]
  simp only [hn, hu _ _]
  exact carry_tile _ _ _ hb _ hx

include hz hu hb ht in
theorem fullCarry_apply (l : Fin 128) (hc : c (ix3 0 r l) = (later t zr (base + 512))) :
    fullCarry z u c (ix3 0 r l) = (later t zr base) := by
  have hn := fullCost0_apply z base t zr r hz ht
  have ht1 := fullTot1_apply z u hu base t zr r hz hb ht l _ hc
  rw [fullCarry, k0_pay47]
  generalize k0_pay31 (k0_pay19 z) = n at hn
  generalize fullTot1 z u = t1 at ht1
  have h0 : n (ix2 r 0) = (cost t zr base) := by simpa using hn 0
  pointwise [k0_pay86, k0_pay85, k0_pay83, k0_pay81, k0_pay64]
  rw [h0]
  simp only [hn, hu _ _]
  exact carry_tile _ _ _ (by omega) _ ht1

include hz hu hb ht in
theorem fullWeight_apply (hc : ∀ l, c (ix3 0 r l) = (later t zr (base + 512))) (s : Fin 512) :
    fullWeight z u c (ix2 r s) = (weight t zr (base + s)) := by
  have hn0 := fullCost0_apply z base t zr r hz ht
  have hn1 := fullCost1_apply z base t zr r hz ht
  have ht1 := fun l => fullTot1_apply z u hu base t zr r hz hb ht l _ rfl
  rw [fullWeight, k0_pay47, k0_pay48]
  generalize k0_pay31 (k0_pay19 z) = n0 at hn0
  generalize k0_pay32 (k0_pay19 z) = n1 at hn1
  generalize fullTot1 z u = t1 at ht1
  pointwise [k0_pay87, k0_pay82, k0_pay84, k0_pay83, k0_pay81, k0_pay19]
  simp only [hn0, hn1, hu _ _, hc, ht1, dite_eq_ite, ite_self]
  rw [hz, sp_fold]
  by_cases h : (s : ℕ) < 256
  · simp only [h, if_true, dite_true]
    rw [behind_tile _ _ base s h (by omega) _ rfl]
    exact weight_eq _ _ _ (by omega)
  · simp only [h, if_false, dite_false]
    rw [behind_tile _ _ (base + 256) (s - 256) (by omega) (by omega) (later t zr (base + 512)) rfl,
      show base + 256 + (s.val - 256 + 1) = base + s.val + 1 by omega]
    exact weight_eq _ _ _ (by omega)

omit hz hu hb ht in
theorem fullAcc_apply (w : FVec Ideal S512x512 .f32) (v : Vec Ideal S512x128 .bf16) (a : Vec Ideal S1x512x128 .f32)
    (hb : base + 512 ≤ 4096)
    (hw : ∀ s : Fin 512, w (ix2 r s) = (weight t zr (base + s))) (vl : ℕ → EReal) (l : Fin 128)
    (hv : ∀ s : Fin 512, v (ix2 s l) = vl (base + s)) (ha : a (ix3 0 r l) = out t zr vl (base + 512)) :
    fullAcc w v a (ix3 0 r l) = out t zr vl base := by
  pointwise [fullAcc, k0_pay117, k0_pay11]
  simp only [hw, hv]
  exact out_tile _ _ _ _ _ hb _ ha
end Full
end Cert.KernelIdeal.Attn
-- ==== Proof.Score.lean ====
module

public import proofs.«01_k».proof.Proof.OpsValue

@[expose] public section
set_option maxRecDepth 16384
noncomputable section
namespace Cert.KernelIdeal.Attn
open Cert.KernelIdeal Cert.KernelIdeal.Gen Cert.Row
open Idealize.ShloMosaic Idealize.ShloMosaic.TcCoe
open scoped BigOperators

/-! The scores: a head's queries carry the bias in an extra lane, against keys that carry a one there. -/

section Ops
variable {F : FTy → Type} [FloatOps F]

/-- The lane numbers. -/
def lanes : IVec S1x128 32 := iota .tc S1x128 32 [1] iota_S1x128_d1_w32
/-- The queries of the first head of a pair, with its bias. -/
def headEven (q : Vec F S512x128 .bf16) (b : Elt F .f32) : FVec F S512x256 .bf16 := k0_pay252 q b
/-- The queries of the second head of a pair, with its bias. -/
def headOdd (q : Vec F S512x128 .bf16) (b : Elt F .f32) : FVec F S512x256 .bf16 := k0_pay254 lanes (k0_pay253 q) b
/-- The extra lanes of 256 keys. -/
def ones256 : FVec F S256x128 .bf16 := k0_pay274 lanes
/-- The extra lanes of 512 keys. -/
def ones512 : FVec F S512x128 .bf16 := k0_pay277 (k0_pay275 lanes) (FloatOps.ofBits .f32 0#32) k0_pay276
end Ops

/-- A row of a head's queries: the head's 64 lanes from `off` on, and in lanes 128, 129 and 130 its bias, what is left
of it after one and what is left after two roundings. -/
def IsHead (Q : Fin 256 → EReal) (off : ℕ) (qf : ℕ → EReal) (b : EReal) : Prop :=
  ∀ e : Fin 256, Q e = if e.val < 128 then (if off ≤ e.val ∧ e.val < off + 64 then qf e else 0)
    else if e.val = 128 then b else if e.val = 129 then b - b else if e.val = 130 then b - b - (b - b) else 0
/-- A row of a pair's keys: its 128 lanes, and three ones. -/
def IsKey (K : Fin 256 → EReal) (kf : ℕ → EReal) : Prop :=
  ∀ e : Fin 256, K e = if e.val < 128 then kf e else if e.val < 131 then 1 else 0

/-- A score: the product over the head's 64 lanes, and the parts of the bias. -/
def dot (off : ℕ) (qf kf : ℕ → EReal) (b : EReal) : EReal := (∑ d : Fin 64, qf (off + d) * kf (off + d)) + biasParts b

theorem head_key_sum (Q K : Fin 256 → EReal) (off : ℕ) (hoff : off = 0 ∨ off = 64) (qf kf : ℕ → EReal) (b : EReal)
    (hQ : IsHead Q off qf b) (hK : IsKey K kf) : ∑ e, Q e * K e = dot off qf kf b := by
  have h : ∀ e : Fin 256, Q e * K e
      = (fun n : ℕ => (if off ≤ n ∧ n < off + 64 then qf n * kf n else 0)
          + ((if n = 128 then b else 0) + (if n = 129 then b - b else 0) + (if n = 130 then b - b - (b - b) else 0))) e := by
    intro e
    rw [hQ, hK]
    by_cases h1 : e.val < 128
    · rw [if_pos h1, if_pos h1]
      simp only [show ¬ e.val = 128 by omega, show ¬ e.val = 129 by omega, show ¬ e.val = 130 by omega, if_false, add_zero]
      split <;> simp
    · rw [if_neg h1, if_neg h1]
      simp only [show ¬ (off ≤ e.val ∧ e.val < off + 64) by omega, if_false, zero_add]
      by_cases h2 : e.val < 131
      · rw [if_pos h2, mul_one]
        rcases (by omega : e.val = 128 ∨ e.val = 129 ∨ e.val = 130) with h3 | h3 | h3 <;> simp [h3]
      · simp only [show ¬ e.val = 128 by omega, show ¬ e.val = 129 by omega, show ¬ e.val = 130 by omega, if_false, add_zero, zero_mul]
  rw [Finset.sum_congr rfl fun e _ => h e]
  rw [← Finset.sum_range (n := 256) (f := fun n : ℕ => (if off ≤ n ∧ n < off + 64 then qf n * kf n else 0)
      + ((if n = 128 then b else 0) + (if n = 129 then b - b else 0) + (if n = 130 then b - b - (b - b) else 0))),
    Finset.sum_add_distrib, Finset.sum_add_distrib, Finset.sum_add_distrib, dot]
  congr 1
  · rw [sum_tile (fun n => qf n * kf n) off 64, ← Finset.sum_filter]
    refine Finset.sum_congr ?_ fun _ _ => rfl
    ext n; simp only [Finset.mem_filter, Finset.mem_range, Finset.mem_Ico]; omega
  · rw [Finset.sum_ite_eq' (Finset.range 256) 128 (fun _ => b), if_pos (by simp),
      Finset.sum_ite_eq' (Finset.range 256) 129 (fun _ => b - b), if_pos (by simp),
      Finset.sum_ite_eq' (Finset.range 256) 130 (fun _ => b - b - (b - b)), if_pos (by simp)]
    rfl

theorem eq_lane (a n : ℕ) (ha : a < 128) (hn : n < 128) {M : Type} (x y : M) :
    Scalar.select (IntOp.cmpi .eq (BitVec.ofNat 32 a) (BitVec.ofNat 32 n)) x y = if a = n then x else y := by
  rw [WordCmp.cmpi_eq_ofNat (by omega) (by omega)]
  by_cases h : a = n <;> simp [h, Scalar.select]

/-- The extra lanes: the bias, and what is left of it after one and after two roundings. -/
theorem ext_lane (a : ℕ) (ha : a < 128) (b : EReal) :
    Scalar.select (IntOp.cmpi .eq (BitVec.ofNat 32 a) (BitVec.ofNat 32 0)) b
      (Scalar.select (IntOp.cmpi .eq (BitVec.ofNat 32 a) (BitVec.ofNat 32 1)) (b - b)
        (Scalar.select (IntOp.cmpi .eq (BitVec.ofNat 32 a) (BitVec.ofNat 32 2)) (b - b - (b - b)) 0))
      = if a = 0 then b else if a = 1 then b - b else if a = 2 then b - b - (b - b) else 0 := by
  rw [eq_lane a 0 ha (by omega), eq_lane a 1 ha (by omega), eq_lane a 2 ha (by omega)]

theorem headEven_apply (q : Vec Ideal S512x128 .bf16) (b : EReal) (r : Fin 512) (qf : ℕ → EReal)
    (hq : ∀ e : Fin 128, q (ix2 r e) = (qf e)) :
    IsHead (fun e => headEven q b (ix2 r e)) 0 qf b := by
  intro e
  pointwise [headEven, k0_pay252, k0_pay251]
  rw [ext_lane _ (by omega)]
  by_cases h : e.val < 128
  · rw [dif_pos h, if_pos h, hq, select_lt _ _ (by omega) (by omega)]
  · rw [dif_neg h, if_neg h]
    simp only [show (e.val - 128 = 0) = (e.val = 128) from propext (by omega), show (e.val - 128 = 1) = (e.val = 129) from propext (by omega),
      show (e.val - 128 = 2) = (e.val = 130) from propext (by omega)]

theorem headOdd_apply (q : Vec Ideal S512x128 .bf16) (b : EReal) (r : Fin 512) (qf : ℕ → EReal)
    (hq : ∀ e : Fin 128, q (ix2 r e) = (qf e)) :
    IsHead (fun e => headOdd q b (ix2 r e)) 64 qf b := by
  intro e
  have hx : ∀ x y : EReal, Scalar.select (IntOp.xori (IntOp.cmpi .slt (BitVec.ofNat 32 e) 64#32) 1#1) x y = if e.val < 64 then y else x := by
    intro x y
    rw [WordCmp.cmpi_slt_ofNat (by omega) (by omega)]
    by_cases h : e.val < 64 <;> simp [h, Scalar.select, IntOp.xori]
  pointwise [headOdd, k0_pay254, k0_pay253, k0_pay251, lanes]
  rw [ext_lane _ (by omega)]
  by_cases h : e.val < 128
  · rw [dif_pos h, if_pos h, hq, hx]
    by_cases h' : e.val < 64
    · rw [if_pos h', if_neg (by omega)]
    · rw [if_neg h', if_pos (by omega)]
  · rw [dif_neg h, if_neg h]
    simp only [show (e.val - 128 = 0) = (e.val = 128) from propext (by omega), show (e.val - 128 = 1) = (e.val = 129) from propext (by omega),
      show (e.val - 128 = 2) = (e.val = 130) from propext (by omega)]

theorem key256_apply (k : Vec Ideal S256x128 .bf16) (s : Fin 256) (kf : ℕ → EReal)
    (hk : ∀ e : Fin 128, k (ix2 s e) = (kf e)) :
    IsKey (fun e => k0_pay282 ones256 k (ix2 s e)) kf := by
  intro e
  pointwise [k0_pay282, ones256, k0_pay274, lanes]
  rw [select_lt _ _ (by omega) (by omega)]
  by_cases h : e.val < 128
  · rw [dif_pos h, if_pos h, hk]
  · rw [dif_neg h, if_neg h]
    by_cases h' : e.val < 131
    · rw [if_pos h', if_pos (by omega)]
    · rw [if_neg h', if_neg (by omega)]

theorem key512_apply (k : Vec Ideal S512x128 .bf16) (s : Fin 512) (kf : ℕ → EReal)
    (hk : ∀ e : Fin 128, k (ix2 s e) = (kf e)) :
    IsKey (fun e => k0_pay376 ones512 k (ix2 s e)) kf := by
  intro e
  have hz : (FloatOps.ofBits (F := Ideal) .f32 0#32 : EReal) = 0 := by simp [Ideal.ofBits, Ideal.ieee]
  pointwise [k0_pay376, ones512, k0_pay277, k0_pay275, k0_pay276, lanes]
  rw [select_lt _ _ (by omega) (by omega)]
  by_cases h : e.val < 128
  · rw [dif_pos h, if_pos h, hk]
  · rw [dif_neg h, if_neg h]
    by_cases h' : e.val < 131
    · rw [if_pos h', if_pos (by omega)]
    · rw [if_neg h', if_neg (by omega)]

section Scores
variable (q : FVec Ideal S512x256 .bf16) (off : ℕ) (hoff : off = 0 ∨ off = 64) (qf kf : ℕ → EReal) (b : EReal)
include hoff

theorem lowScore_apply (k : Vec Ideal S256x128 .bf16) (r s : Fin 256)
    (hq : IsHead (fun e => q (ix2 ⟨r.val, by omega⟩ e)) off qf b) (hk : ∀ e : Fin 128, k (ix2 s e) = (kf e)) :
    lowScore q ones256 k (ix2 r s) = (dot off qf kf b) := by
  pointwise [lowScore, k0_pay287]
  exact head_key_sum _ _ off hoff qf kf b hq (key256_apply k s kf hk)

theorem highScore_apply (k : Vec Ideal S512x128 .bf16) (r : Fin 256) (s : Fin 512)
    (hq : IsHead (fun e => q (ix2 ⟨256 + r.val, by omega⟩ e)) off qf b) (hk : ∀ e : Fin 128, k (ix2 s e) = (kf e)) :
    highScore q ones512 k (ix2 r s) = (dot off qf kf b) := by
  pointwise [highScore, k0_pay383]
  exact head_key_sum _ _ off hoff qf kf b hq (key512_apply k s kf hk)

theorem fullScore_apply (k : Vec Ideal S512x128 .bf16) (r s : Fin 512)
    (hq : IsHead (fun e => q (ix2 r e)) off qf b) (hk : ∀ e : Fin 128, k (ix2 s e) = (kf e)) :
    fullScore q ones512 k (ix2 r s) = (dot off qf kf b) := by
  have h := head_key_sum _ _ off hoff qf kf b hq (key512_apply k s kf hk)
  rw [← h]
  show k0_pay3 q ones512 k (ix2 r s) = _
  have e : k0_pay3 q ones512 k = matmul dot_S512x256_S512x256_S512x512_1_1_0_0_n_n none q (k0_pay376 ones512 k) (constant S512x512 .f32 0x00000000#32) := rfl
  rw [e]
  pointwise
end Scores
end Cert.KernelIdeal.Attn
-- ==== Proof.Struct.lean ====
module

public import proofs.«01_k».proof.Proof.Pieces
public import proofs.«01_k».proof.Proof.Score
public import proofs.«01_k».proof.Proof.Gen.KernelIdeal.Frame.RunA

@[expose] public section
set_option maxRecDepth 16384
set_option maxHeartbeats 400000
noncomputable section
namespace Cert.KernelIdeal.Attn
open Cert.KernelIdeal Cert.KernelIdeal.Gen
open Idealize.ShloMosaic Idealize.ShloMosaic.TcCoe

/-! What a block writes before its loop, as one write for each head. -/

section Diag
variable {F : FTy → Type} [FloatOps F] (c : Dev nD) (i : grid0.Coords)
  (arg3 : Memref sig .tc .smem S8 .f32) (harg3 : arg3.IsWhole) (arg4 : Memref sig .tc .vmem S512x512 .bf16) (harg4 : arg4.IsWhole)
  (arg5 : Memref sig .tc .vmem S4096x512 .bf16) (harg5 : arg5.IsWhole) (arg6 : Memref sig .tc .vmem S4096x512 .bf16) (harg6 : arg6.IsWhole)
  (arg7 : Memref sig .tc .vmem S256x256 .bf16) (harg7 : arg7.IsWhole)
  (arg9 : Memref sig .tc .vmem S8x512x128 .f32) (arg10 : Memref sig .tc .vmem S8x512x128 .f32)
  (x0 : Vec F S8 .f32) (x1 : Vec F S512x512 .bf16) (x2 x3 : Vec F S4096x512 .bf16) (x4 : Vec F S256x256 .bf16)

/-- The queries of head `h`, masked to its lanes, with its bias. -/
def heads (h : Fin 8) : FVec F S512x256 .bf16 := ![kernelRun0_A.sl.r_1 c i arg3 harg3 arg4 harg4 x0 x1, kernelRun0_A.sl.r_5 c i arg3 harg3 arg4 harg4 x0 x1, kernelRun0_A.sl.r_11 c i arg3 harg3 arg4 harg4 x0 x1, kernelRun0_A.sl.r_12 c i arg3 harg3 arg4 harg4 x0 x1, kernelRun0_A.sl.r_16 c i arg3 harg3 arg4 harg4 x0 x1, kernelRun0_A.sl.r_22 c i arg3 harg3 arg4 harg4 x0 x1, kernelRun0_A.sl.r_23 c i arg3 harg3 arg4 harg4 x0 x1, kernelRun0_A.sl.r_25 c i arg3 harg3 arg4 harg4 x0 x1] h
def bias (h : Fin 8) : F .f32 := ![kernelRun0_A.sl.r c i arg3 harg3 x0, kernelRun0_A.sl.r_3 c i arg3 harg3 x0, kernelRun0_A.sl.r_4 c i arg3 harg3 x0, kernelRun0_A.sl.r_10 c i arg3 harg3 x0, kernelRun0_A.sl.r_14 c i arg3 harg3 x0, kernelRun0_A.sl.r_15 c i arg3 harg3 x0, kernelRun0_A.sl.r_21 c i arg3 harg3 x0, kernelRun0_A.sl.r_24 c i arg3 harg3 x0] h
def qPair (h : Fin 8) : Vec F S512x128 .bf16 := arg4.view.readAt (Elt F) (Rect.unit (s := S512x512) ![0, 128 * (h.val / 2)] S512x128.size (by fin_cases h <;> decide)).toLoadRect (harg4.unread x1)

theorem heads_eq (h : Fin 8) : heads c i arg3 harg3 arg4 harg4 x0 x1 h = if h.val % 2 = 0 then headEven (qPair arg4 harg4 x1 h) (bias c i arg3 harg3 x0 h) else headOdd (qPair arg4 harg4 x1 h) (bias c i arg3 harg3 x0 h) := by
  fin_cases h <;> rfl

/-- Head `h`'s columns of the first 256 keys (or values) of the diagonal block. -/
def lowRows (M : Memref sig .tc .vmem S4096x512 .bf16) (hM : M.IsWhole) (X : Vec F S4096x512 .bf16) (h : Fin 8) : Vec F S256x128 .bf16 :=
  ![M.view.readAt (Elt F) (Rect.unit (s := S4096x512) (k0_off2 i) S256x128.size (k0_off2_inb i)).toLoadRect (hM.unread X), M.view.readAt (Elt F) (Rect.unit (s := S4096x512) (k0_off2 i) S256x128.size (k0_off2_inb i)).toLoadRect (hM.unread X), M.view.readAt (Elt F) (Rect.unit (s := S4096x512) (k0_off3 i) S256x128.size (k0_off3_inb i)).toLoadRect (hM.unread X), M.view.readAt (Elt F) (Rect.unit (s := S4096x512) (k0_off3 i) S256x128.size (k0_off3_inb i)).toLoadRect (hM.unread X), M.view.readAt (Elt F) (Rect.unit (s := S4096x512) (k0_off4 i) S256x128.size (k0_off4_inb i)).toLoadRect (hM.unread X), M.view.readAt (Elt F) (Rect.unit (s := S4096x512) (k0_off4 i) S256x128.size (k0_off4_inb i)).toLoadRect (hM.unread X), M.view.readAt (Elt F) (Rect.unit (s := S4096x512) (k0_off5 i) S256x128.size (k0_off5_inb i)).toLoadRect (hM.unread X), M.view.readAt (Elt F) (Rect.unit (s := S4096x512) (k0_off5 i) S256x128.size (k0_off5_inb i)).toLoadRect (hM.unread X)] h
/-- Head `h`'s columns of all keys (or values) of the diagonal block. -/
def highRows (M : Memref sig .tc .vmem S4096x512 .bf16) (hM : M.IsWhole) (X : Vec F S4096x512 .bf16) (h : Fin 8) : Vec F S512x128 .bf16 :=
  ![M.view.readAt (Elt F) (Rect.unit (s := S4096x512) (k0_off6 i) S512x128.size (k0_off6_inb i)).toLoadRect (hM.unread X), M.view.readAt (Elt F) (Rect.unit (s := S4096x512) (k0_off6 i) S512x128.size (k0_off6_inb i)).toLoadRect (hM.unread X), M.view.readAt (Elt F) (Rect.unit (s := S4096x512) (k0_off7 i) S512x128.size (k0_off7_inb i)).toLoadRect (hM.unread X), M.view.readAt (Elt F) (Rect.unit (s := S4096x512) (k0_off7 i) S512x128.size (k0_off7_inb i)).toLoadRect (hM.unread X), M.view.readAt (Elt F) (Rect.unit (s := S4096x512) (k0_off8 i) S512x128.size (k0_off8_inb i)).toLoadRect (hM.unread X), M.view.readAt (Elt F) (Rect.unit (s := S4096x512) (k0_off8 i) S512x128.size (k0_off8_inb i)).toLoadRect (hM.unread X), M.view.readAt (Elt F) (Rect.unit (s := S4096x512) (k0_off9 i) S512x128.size (k0_off9_inb i)).toLoadRect (hM.unread X), M.view.readAt (Elt F) (Rect.unit (s := S4096x512) (k0_off9 i) S512x128.size (k0_off9_inb i)).toLoadRect (hM.unread X)] h

/-- The triangle of ones. -/
def tri : FVec F S256x256 .bf16 := kernelRun0_A.sl.r_27 c arg7 harg7 x4
def lowZ (h : Fin 8) : FVec F S256x256 .f32 := lowScore (heads c i arg3 harg3 arg4 harg4 x0 x1 h) ones256 (lowRows i arg5 harg5 x2 h)
def highZ (h : Fin 8) : FVec F S256x512 .f32 := highScore (heads c i arg3 harg3 arg4 harg4 x0 x1 h) ones512 (highRows i arg5 harg5 x2 h)

def lowC (h : Fin 8) : Vec F S1x256x128 .f32 := ![kernelRun0_A.sl.v520 c arg10, kernelRun0_A.sl.v533 c i arg3 harg3 arg4 harg4 arg5 harg5 arg7 harg7 arg10 x0 x1 x2 x4, kernelRun0_A.sl.v546 c i arg3 harg3 arg4 harg4 arg5 harg5 arg7 harg7 arg10 x0 x1 x2 x4, kernelRun0_A.sl.v559 c i arg3 harg3 arg4 harg4 arg5 harg5 arg7 harg7 arg10 x0 x1 x2 x4, kernelRun0_A.sl.v572 c i arg3 harg3 arg4 harg4 arg5 harg5 arg7 harg7 arg10 x0 x1 x2 x4, kernelRun0_A.sl.v585 c i arg3 harg3 arg4 harg4 arg5 harg5 arg7 harg7 arg10 x0 x1 x2 x4, kernelRun0_A.sl.v598 c i arg3 harg3 arg4 harg4 arg5 harg5 arg7 harg7 arg10 x0 x1 x2 x4, kernelRun0_A.sl.v611 c i arg3 harg3 arg4 harg4 arg5 harg5 arg7 harg7 arg10 x0 x1 x2 x4] h
def lowCarries (h : Fin 8) : Vec F S1x256x128 .f32 := lowCarry (lowZ c i arg3 harg3 arg4 harg4 arg5 harg5 x0 x1 x2 h) (tri c arg7 harg7 x4) (lowC c i arg3 harg3 arg4 harg4 arg5 harg5 arg7 harg7 arg10 x0 x1 x2 x4 h)
def lowW (h : Fin 8) : FVec F S256x256 .f32 := lowWeight (lowZ c i arg3 harg3 arg4 harg4 arg5 harg5 x0 x1 x2 h) (tri c arg7 harg7 x4) (lowC c i arg3 harg3 arg4 harg4 arg5 harg5 arg7 harg7 arg10 x0 x1 x2 x4 h)
def lowA (h : Fin 8) : Vec F S1x256x128 .f32 := ![kernelRun0_A.sl.v624 c arg9, kernelRun0_A.sl.v632 c i arg3 harg3 arg4 harg4 arg5 harg5 arg6 harg6 arg7 harg7 arg9 arg10 x0 x1 x2 x3 x4, kernelRun0_A.sl.v640 c i arg3 harg3 arg4 harg4 arg5 harg5 arg6 harg6 arg7 harg7 arg9 arg10 x0 x1 x2 x3 x4, kernelRun0_A.sl.v648 c i arg3 harg3 arg4 harg4 arg5 harg5 arg6 harg6 arg7 harg7 arg9 arg10 x0 x1 x2 x3 x4, kernelRun0_A.sl.v656 c i arg3 harg3 arg4 harg4 arg5 harg5 arg6 harg6 arg7 harg7 arg9 arg10 x0 x1 x2 x3 x4, kernelRun0_A.sl.v664 c i arg3 harg3 arg4 harg4 arg5 harg5 arg6 harg6 arg7 harg7 arg9 arg10 x0 x1 x2 x3 x4, kernelRun0_A.sl.v672 c i arg3 harg3 arg4 harg4 arg5 harg5 arg6 harg6 arg7 harg7 arg9 arg10 x0 x1 x2 x3 x4, kernelRun0_A.sl.v680 c i arg3 harg3 arg4 harg4 arg5 harg5 arg6 harg6 arg7 harg7 arg9 arg10 x0 x1 x2 x3 x4] h
def lowAccs (h : Fin 8) : Vec F S1x256x128 .f32 := lowAcc (lowW c i arg3 harg3 arg4 harg4 arg5 harg5 arg7 harg7 arg10 x0 x1 x2 x4 h) (lowRows i arg6 harg6 x3 h) (lowA c i arg3 harg3 arg4 harg4 arg5 harg5 arg6 harg6 arg7 harg7 arg9 arg10 x0 x1 x2 x3 x4 h)
def highC (h : Fin 8) : Vec F S1x256x128 .f32 := ![kernelRun0_A.sl.v988 c i arg3 harg3 arg4 harg4 arg5 harg5 arg7 harg7 arg10 x0 x1 x2 x4, kernelRun0_A.sl.v1008 c i arg3 harg3 arg4 harg4 arg5 harg5 arg7 harg7 arg10 x0 x1 x2 x4, kernelRun0_A.sl.v1028 c i arg3 harg3 arg4 harg4 arg5 harg5 arg7 harg7 arg10 x0 x1 x2 x4, kernelRun0_A.sl.v1048 c i arg3 harg3 arg4 harg4 arg5 harg5 arg7 harg7 arg10 x0 x1 x2 x4, kernelRun0_A.sl.v1068 c i arg3 harg3 arg4 harg4 arg5 harg5 arg7 harg7 arg10 x0 x1 x2 x4, kernelRun0_A.sl.v1088 c i arg3 harg3 arg4 harg4 arg5 harg5 arg7 harg7 arg10 x0 x1 x2 x4, kernelRun0_A.sl.v1108 c i arg3 harg3 arg4 harg4 arg5 harg5 arg7 harg7 arg10 x0 x1 x2 x4, kernelRun0_A.sl.v1128 c i arg3 harg3 arg4 harg4 arg5 harg5 arg7 harg7 arg10 x0 x1 x2 x4] h
def highCarries (h : Fin 8) : Vec F S1x256x128 .f32 := highCarry (highZ c i arg3 harg3 arg4 harg4 arg5 harg5 x0 x1 x2 h) (tri c arg7 harg7 x4) (highC c i arg3 harg3 arg4 harg4 arg5 harg5 arg7 harg7 arg10 x0 x1 x2 x4 h)
def highW (h : Fin 8) : FVec F S256x512 .f32 := highWeight (highZ c i arg3 harg3 arg4 harg4 arg5 harg5 x0 x1 x2 h) (tri c arg7 harg7 x4) (highC c i arg3 harg3 arg4 harg4 arg5 harg5 arg7 harg7 arg10 x0 x1 x2 x4 h)
def highA (h : Fin 8) : Vec F S1x256x128 .f32 := ![kernelRun0_A.sl.v1148 c i arg3 harg3 arg4 harg4 arg5 harg5 arg6 harg6 arg7 harg7 arg9 arg10 x0 x1 x2 x3 x4, kernelRun0_A.sl.v1156 c i arg3 harg3 arg4 harg4 arg5 harg5 arg6 harg6 arg7 harg7 arg9 arg10 x0 x1 x2 x3 x4, kernelRun0_A.sl.v1164 c i arg3 harg3 arg4 harg4 arg5 harg5 arg6 harg6 arg7 harg7 arg9 arg10 x0 x1 x2 x3 x4, kernelRun0_A.sl.v1172 c i arg3 harg3 arg4 harg4 arg5 harg5 arg6 harg6 arg7 harg7 arg9 arg10 x0 x1 x2 x3 x4, kernelRun0_A.sl.v1180 c i arg3 harg3 arg4 harg4 arg5 harg5 arg6 harg6 arg7 harg7 arg9 arg10 x0 x1 x2 x3 x4, kernelRun0_A.sl.v1188 c i arg3 harg3 arg4 harg4 arg5 harg5 arg6 harg6 arg7 harg7 arg9 arg10 x0 x1 x2 x3 x4, kernelRun0_A.sl.v1196 c i arg3 harg3 arg4 harg4 arg5 harg5 arg6 harg6 arg7 harg7 arg9 arg10 x0 x1 x2 x3 x4, kernelRun0_A.sl.v1204 c i arg3 harg3 arg4 harg4 arg5 harg5 arg6 harg6 arg7 harg7 arg9 arg10 x0 x1 x2 x3 x4] h
def highAccs (h : Fin 8) : Vec F S1x256x128 .f32 := highAcc (highW c i arg3 harg3 arg4 harg4 arg5 harg5 arg7 harg7 arg10 x0 x1 x2 x4 h) (highRows i arg6 harg6 x3 h) (highA c i arg3 harg3 arg4 harg4 arg5 harg5 arg6 harg6 arg7 harg7 arg9 arg10 x0 x1 x2 x3 x4 h)

end Diag
end Cert.KernelIdeal.Attn
-- ==== Proof.StructEq.lean ====
module

public import proofs.«01_k».proof.Proof.Struct
public import proofs.«01_k».proof.Proof.Gen.KernelIdeal.Frame.RunA

@[expose] public section
set_option maxRecDepth 16384
set_option maxHeartbeats 400000
noncomputable section
namespace Cert.KernelIdeal.Attn
open Cert.KernelIdeal Cert.KernelIdeal.Gen
open Idealize.ShloMosaic Idealize.ShloMosaic.TcCoe

/-! The writes of the diagonal block, one for each head. -/

section Diag
variable {F : FTy → Type} [FloatOps F] (c : Dev nD) (i : grid0.Coords)
  (arg3 : Memref sig .tc .smem S8 .f32) (harg3 : arg3.IsWhole) (arg4 : Memref sig .tc .vmem S512x512 .bf16) (harg4 : arg4.IsWhole)
  (arg5 : Memref sig .tc .vmem S4096x512 .bf16) (harg5 : arg5.IsWhole) (arg6 : Memref sig .tc .vmem S4096x512 .bf16) (harg6 : arg6.IsWhole)
  (arg7 : Memref sig .tc .vmem S256x256 .bf16) (harg7 : arg7.IsWhole)
  (arg9 : Memref sig .tc .vmem S8x512x128 .f32) (arg10 : Memref sig .tc .vmem S8x512x128 .f32)
  (x0 : Vec F S8 .f32) (x1 : Vec F S512x512 .bf16) (x2 x3 : Vec F S4096x512 .bf16) (x4 : Vec F S256x256 .bf16)

/-- The carry buffer after the first `m` heads of the first half. -/
def lowCarryList (m : ℕ) : List (View.Piece (Elt F) S8x512x128 .f32) :=
  match m with
  | 0 => kernelRun0_A.sl.HS1_1
  | 1 => kernelRun0_A.sl.HS1_2 c i arg3 harg3 arg4 harg4 arg5 harg5 arg7 harg7 arg10 x0 x1 x2 x4
  | 2 => kernelRun0_A.sl.HS1_3 c i arg3 harg3 arg4 harg4 arg5 harg5 arg7 harg7 arg10 x0 x1 x2 x4
  | 3 => kernelRun0_A.sl.HS1_4 c i arg3 harg3 arg4 harg4 arg5 harg5 arg7 harg7 arg10 x0 x1 x2 x4
  | 4 => kernelRun0_A.sl.HS1_5 c i arg3 harg3 arg4 harg4 arg5 harg5 arg7 harg7 arg10 x0 x1 x2 x4
  | 5 => kernelRun0_A.sl.HS1_6 c i arg3 harg3 arg4 harg4 arg5 harg5 arg7 harg7 arg10 x0 x1 x2 x4
  | 6 => kernelRun0_A.sl.HS1_7 c i arg3 harg3 arg4 harg4 arg5 harg5 arg7 harg7 arg10 x0 x1 x2 x4
  | 7 => kernelRun0_A.sl.HS1_8 c i arg3 harg3 arg4 harg4 arg5 harg5 arg7 harg7 arg10 x0 x1 x2 x4
  | _ => kernelRun0_A.sl.HS1_9 c i arg3 harg3 arg4 harg4 arg5 harg5 arg7 harg7 arg10 x0 x1 x2 x4
theorem lowCarryList_succ (m : ℕ) (hm : m < 8) : lowCarryList c i arg3 harg3 arg4 harg4 arg5 harg5 arg7 harg7 arg10 x0 x1 x2 x4 (m + 1)
    = ⟨slab 0 256 m (by omega) hm, lowCarries c i arg3 harg3 arg4 harg4 arg5 harg5 arg7 harg7 arg10 x0 x1 x2 x4 ⟨m, hm⟩⟩ :: lowCarryList c i arg3 harg3 arg4 harg4 arg5 harg5 arg7 harg7 arg10 x0 x1 x2 x4 m := by
  interval_cases m <;> rfl
theorem lowCarryList_eq (m : ℕ) (hm : m ≤ 8) : lowCarryList c i arg3 harg3 arg4 harg4 arg5 harg5 arg7 harg7 arg10 x0 x1 x2 x4 m = stack 0 256 (by omega) (lowCarries c i arg3 harg3 arg4 harg4 arg5 harg5 arg7 harg7 arg10 x0 x1 x2 x4) (lowCarryList c i arg3 harg3 arg4 harg4 arg5 harg5 arg7 harg7 arg10 x0 x1 x2 x4 0) m hm := by
  induction m with
  | zero => rfl
  | succ m ih => rw [lowCarryList_succ (hm := hm), ih (by omega)]; rfl
theorem lowC_eq (h : Fin 8) : lowC c i arg3 harg3 arg4 harg4 arg5 harg5 arg7 harg7 arg10 x0 x1 x2 x4 h = arg10.view.readAt (Elt F) (slab 0 256 h (by omega) h.isLt).toLoadRect
    (arg10.view.writes (Elt F) arg10.view.junk (stack 0 256 (by omega) (lowCarries c i arg3 harg3 arg4 harg4 arg5 harg5 arg7 harg7 arg10 x0 x1 x2 x4) (lowCarryList c i arg3 harg3 arg4 harg4 arg5 harg5 arg7 harg7 arg10 x0 x1 x2 x4 0) h h.isLt.le)) := by
  rw [← lowCarryList_eq]
  fin_cases h <;> rfl
/-- The output buffer after the first `m` heads of the first half. -/
def lowAccList (m : ℕ) : List (View.Piece (Elt F) S8x512x128 .f32) :=
  match m with
  | 0 => kernelRun0_A.sl.HS0_1
  | 1 => kernelRun0_A.sl.HS0_2 c i arg3 harg3 arg4 harg4 arg5 harg5 arg6 harg6 arg7 harg7 arg9 arg10 x0 x1 x2 x3 x4
  | 2 => kernelRun0_A.sl.HS0_3 c i arg3 harg3 arg4 harg4 arg5 harg5 arg6 harg6 arg7 harg7 arg9 arg10 x0 x1 x2 x3 x4
  | 3 => kernelRun0_A.sl.HS0_4 c i arg3 harg3 arg4 harg4 arg5 harg5 arg6 harg6 arg7 harg7 arg9 arg10 x0 x1 x2 x3 x4
  | 4 => kernelRun0_A.sl.HS0_5 c i arg3 harg3 arg4 harg4 arg5 harg5 arg6 harg6 arg7 harg7 arg9 arg10 x0 x1 x2 x3 x4
  | 5 => kernelRun0_A.sl.HS0_6 c i arg3 harg3 arg4 harg4 arg5 harg5 arg6 harg6 arg7 harg7 arg9 arg10 x0 x1 x2 x3 x4
  | 6 => kernelRun0_A.sl.HS0_7 c i arg3 harg3 arg4 harg4 arg5 harg5 arg6 harg6 arg7 harg7 arg9 arg10 x0 x1 x2 x3 x4
  | 7 => kernelRun0_A.sl.HS0_8 c i arg3 harg3 arg4 harg4 arg5 harg5 arg6 harg6 arg7 harg7 arg9 arg10 x0 x1 x2 x3 x4
  | _ => kernelRun0_A.sl.HS0_9 c i arg3 harg3 arg4 harg4 arg5 harg5 arg6 harg6 arg7 harg7 arg9 arg10 x0 x1 x2 x3 x4
theorem lowAccList_succ (m : ℕ) (hm : m < 8) : lowAccList c i arg3 harg3 arg4 harg4 arg5 harg5 arg6 harg6 arg7 harg7 arg9 arg10 x0 x1 x2 x3 x4 (m + 1)
    = ⟨slab 0 256 m (by omega) hm, lowAccs c i arg3 harg3 arg4 harg4 arg5 harg5 arg6 harg6 arg7 harg7 arg9 arg10 x0 x1 x2 x3 x4 ⟨m, hm⟩⟩ :: lowAccList c i arg3 harg3 arg4 harg4 arg5 harg5 arg6 harg6 arg7 harg7 arg9 arg10 x0 x1 x2 x3 x4 m := by
  interval_cases m <;> rfl
theorem lowAccList_eq (m : ℕ) (hm : m ≤ 8) : lowAccList c i arg3 harg3 arg4 harg4 arg5 harg5 arg6 harg6 arg7 harg7 arg9 arg10 x0 x1 x2 x3 x4 m = stack 0 256 (by omega) (lowAccs c i arg3 harg3 arg4 harg4 arg5 harg5 arg6 harg6 arg7 harg7 arg9 arg10 x0 x1 x2 x3 x4) (lowAccList c i arg3 harg3 arg4 harg4 arg5 harg5 arg6 harg6 arg7 harg7 arg9 arg10 x0 x1 x2 x3 x4 0) m hm := by
  induction m with
  | zero => rfl
  | succ m ih => rw [lowAccList_succ (hm := hm), ih (by omega)]; rfl
theorem lowA_eq (h : Fin 8) : lowA c i arg3 harg3 arg4 harg4 arg5 harg5 arg6 harg6 arg7 harg7 arg9 arg10 x0 x1 x2 x3 x4 h = arg9.view.readAt (Elt F) (slab 0 256 h (by omega) h.isLt).toLoadRect
    (arg9.view.writes (Elt F) arg9.view.junk (stack 0 256 (by omega) (lowAccs c i arg3 harg3 arg4 harg4 arg5 harg5 arg6 harg6 arg7 harg7 arg9 arg10 x0 x1 x2 x3 x4) (lowAccList c i arg3 harg3 arg4 harg4 arg5 harg5 arg6 harg6 arg7 harg7 arg9 arg10 x0 x1 x2 x3 x4 0) h h.isLt.le)) := by
  rw [← lowAccList_eq]
  fin_cases h <;> rfl
/-- The carry buffer after the first `m` heads of the second half. -/
def highCarryList (m : ℕ) : List (View.Piece (Elt F) S8x512x128 .f32) :=
  match m with
  | 0 => kernelRun0_A.sl.HS1_9 c i arg3 harg3 arg4 harg4 arg5 harg5 arg7 harg7 arg10 x0 x1 x2 x4
  | 1 => kernelRun0_A.sl.HS1_10 c i arg3 harg3 arg4 harg4 arg5 harg5 arg7 harg7 arg10 x0 x1 x2 x4
  | 2 => kernelRun0_A.sl.HS1_11 c i arg3 harg3 arg4 harg4 arg5 harg5 arg7 harg7 arg10 x0 x1 x2 x4
  | 3 => kernelRun0_A.sl.HS1_12 c i arg3 harg3 arg4 harg4 arg5 harg5 arg7 harg7 arg10 x0 x1 x2 x4
  | 4 => kernelRun0_A.sl.HS1_13 c i arg3 harg3 arg4 harg4 arg5 harg5 arg7 harg7 arg10 x0 x1 x2 x4
  | 5 => kernelRun0_A.sl.HS1_14 c i arg3 harg3 arg4 harg4 arg5 harg5 arg7 harg7 arg10 x0 x1 x2 x4
  | 6 => kernelRun0_A.sl.HS1_15 c i arg3 harg3 arg4 harg4 arg5 harg5 arg7 harg7 arg10 x0 x1 x2 x4
  | 7 => kernelRun0_A.sl.HS1_16 c i arg3 harg3 arg4 harg4 arg5 harg5 arg7 harg7 arg10 x0 x1 x2 x4
  | _ => kernelRun0_A.sl.HS1_17 c i arg3 harg3 arg4 harg4 arg5 harg5 arg7 harg7 arg10 x0 x1 x2 x4
theorem highCarryList_succ (m : ℕ) (hm : m < 8) : highCarryList c i arg3 harg3 arg4 harg4 arg5 harg5 arg7 harg7 arg10 x0 x1 x2 x4 (m + 1)
    = ⟨slab 256 256 m (by omega) hm, highCarries c i arg3 harg3 arg4 harg4 arg5 harg5 arg7 harg7 arg10 x0 x1 x2 x4 ⟨m, hm⟩⟩ :: highCarryList c i arg3 harg3 arg4 harg4 arg5 harg5 arg7 harg7 arg10 x0 x1 x2 x4 m := by
  interval_cases m <;> rfl
theorem highCarryList_eq (m : ℕ) (hm : m ≤ 8) : highCarryList c i arg3 harg3 arg4 harg4 arg5 harg5 arg7 harg7 arg10 x0 x1 x2 x4 m = stack 256 256 (by omega) (highCarries c i arg3 harg3 arg4 harg4 arg5 harg5 arg7 harg7 arg10 x0 x1 x2 x4) (highCarryList c i arg3 harg3 arg4 harg4 arg5 harg5 arg7 harg7 arg10 x0 x1 x2 x4 0) m hm := by
  induction m with
  | zero => rfl
  | succ m ih => rw [highCarryList_succ (hm := hm), ih (by omega)]; rfl
theorem highC_eq (h : Fin 8) : highC c i arg3 harg3 arg4 harg4 arg5 harg5 arg7 harg7 arg10 x0 x1 x2 x4 h = arg10.view.readAt (Elt F) (slab 256 256 h (by omega) h.isLt).toLoadRect
    (arg10.view.writes (Elt F) arg10.view.junk (stack 256 256 (by omega) (highCarries c i arg3 harg3 arg4 harg4 arg5 harg5 arg7 harg7 arg10 x0 x1 x2 x4) (highCarryList c i arg3 harg3 arg4 harg4 arg5 harg5 arg7 harg7 arg10 x0 x1 x2 x4 0) h h.isLt.le)) := by
  rw [← highCarryList_eq]
  fin_cases h <;> rfl
/-- The output buffer after the first `m` heads of the second half. -/
def highAccList (m : ℕ) : List (View.Piece (Elt F) S8x512x128 .f32) :=
  match m with
  | 0 => kernelRun0_A.sl.HS0_9 c i arg3 harg3 arg4 harg4 arg5 harg5 arg6 harg6 arg7 harg7 arg9 arg10 x0 x1 x2 x3 x4
  | 1 => kernelRun0_A.sl.HS0_10 c i arg3 harg3 arg4 harg4 arg5 harg5 arg6 harg6 arg7 harg7 arg9 arg10 x0 x1 x2 x3 x4
  | 2 => kernelRun0_A.sl.HS0_11 c i arg3 harg3 arg4 harg4 arg5 harg5 arg6 harg6 arg7 harg7 arg9 arg10 x0 x1 x2 x3 x4
  | 3 => kernelRun0_A.sl.HS0_12 c i arg3 harg3 arg4 harg4 arg5 harg5 arg6 harg6 arg7 harg7 arg9 arg10 x0 x1 x2 x3 x4
  | 4 => kernelRun0_A.sl.HS0_13 c i arg3 harg3 arg4 harg4 arg5 harg5 arg6 harg6 arg7 harg7 arg9 arg10 x0 x1 x2 x3 x4
  | 5 => kernelRun0_A.sl.HS0_14 c i arg3 harg3 arg4 harg4 arg5 harg5 arg6 harg6 arg7 harg7 arg9 arg10 x0 x1 x2 x3 x4
  | 6 => kernelRun0_A.sl.HS0_15 c i arg3 harg3 arg4 harg4 arg5 harg5 arg6 harg6 arg7 harg7 arg9 arg10 x0 x1 x2 x3 x4
  | 7 => kernelRun0_A.sl.HS0_16 c i arg3 harg3 arg4 harg4 arg5 harg5 arg6 harg6 arg7 harg7 arg9 arg10 x0 x1 x2 x3 x4
  | _ => kernelRun0_A.sl.HS0_17 c i arg3 harg3 arg4 harg4 arg5 harg5 arg6 harg6 arg7 harg7 arg9 arg10 x0 x1 x2 x3 x4
theorem highAccList_succ (m : ℕ) (hm : m < 8) : highAccList c i arg3 harg3 arg4 harg4 arg5 harg5 arg6 harg6 arg7 harg7 arg9 arg10 x0 x1 x2 x3 x4 (m + 1)
    = ⟨slab 256 256 m (by omega) hm, highAccs c i arg3 harg3 arg4 harg4 arg5 harg5 arg6 harg6 arg7 harg7 arg9 arg10 x0 x1 x2 x3 x4 ⟨m, hm⟩⟩ :: highAccList c i arg3 harg3 arg4 harg4 arg5 harg5 arg6 harg6 arg7 harg7 arg9 arg10 x0 x1 x2 x3 x4 m := by
  interval_cases m <;> rfl
theorem highAccList_eq (m : ℕ) (hm : m ≤ 8) : highAccList c i arg3 harg3 arg4 harg4 arg5 harg5 arg6 harg6 arg7 harg7 arg9 arg10 x0 x1 x2 x3 x4 m = stack 256 256 (by omega) (highAccs c i arg3 harg3 arg4 harg4 arg5 harg5 arg6 harg6 arg7 harg7 arg9 arg10 x0 x1 x2 x3 x4) (highAccList c i arg3 harg3 arg4 harg4 arg5 harg5 arg6 harg6 arg7 harg7 arg9 arg10 x0 x1 x2 x3 x4 0) m hm := by
  induction m with
  | zero => rfl
  | succ m ih => rw [highAccList_succ (hm := hm), ih (by omega)]; rfl
theorem highA_eq (h : Fin 8) : highA c i arg3 harg3 arg4 harg4 arg5 harg5 arg6 harg6 arg7 harg7 arg9 arg10 x0 x1 x2 x3 x4 h = arg9.view.readAt (Elt F) (slab 256 256 h (by omega) h.isLt).toLoadRect
    (arg9.view.writes (Elt F) arg9.view.junk (stack 256 256 (by omega) (highAccs c i arg3 harg3 arg4 harg4 arg5 harg5 arg6 harg6 arg7 harg7 arg9 arg10 x0 x1 x2 x3 x4) (highAccList c i arg3 harg3 arg4 harg4 arg5 harg5 arg6 harg6 arg7 harg7 arg9 arg10 x0 x1 x2 x3 x4 0) h h.isLt.le)) := by
  rw [← highAccList_eq]
  fin_cases h <;> rfl
end Diag
end Cert.KernelIdeal.Attn
-- ==== Proof.Diag.lean ====
module

public import proofs.«01_k».proof.Proof.StructEq
public import proofs.«01_k».proof.Proof.OpsValue

@[expose] public section
set_option maxRecDepth 16384
noncomputable section
namespace Cert.KernelIdeal.Attn
open Cert.KernelIdeal Cert.KernelIdeal.Gen Cert.Row
open Idealize.ShloMosaic Idealize.ShloMosaic.TcCoe

/-! What the diagonal block leaves in the two buffers. -/

section Offsets
theorem off2 : ∀ (i : grid0.Coords) (a : Fin 2), k0_off2 i a = (![512 * (i 2).val, 0] : Fin 2 → ℕ) a := by decide +kernel
theorem off3 : ∀ (i : grid0.Coords) (a : Fin 2), k0_off3 i a = (![512 * (i 2).val, 128] : Fin 2 → ℕ) a := by decide +kernel
theorem off4 : ∀ (i : grid0.Coords) (a : Fin 2), k0_off4 i a = (![512 * (i 2).val, 256] : Fin 2 → ℕ) a := by decide +kernel
theorem off5 : ∀ (i : grid0.Coords) (a : Fin 2), k0_off5 i a = (![512 * (i 2).val, 384] : Fin 2 → ℕ) a := by decide +kernel
theorem off6 : ∀ (i : grid0.Coords) (a : Fin 2), k0_off6 i a = (![512 * (i 2).val, 0] : Fin 2 → ℕ) a := by decide +kernel
theorem off7 : ∀ (i : grid0.Coords) (a : Fin 2), k0_off7 i a = (![512 * (i 2).val, 128] : Fin 2 → ℕ) a := by decide +kernel
theorem off8 : ∀ (i : grid0.Coords) (a : Fin 2), k0_off8 i a = (![512 * (i 2).val, 256] : Fin 2 → ℕ) a := by decide +kernel
theorem off9 : ∀ (i : grid0.Coords) (a : Fin 2), k0_off9 i a = (![512 * (i 2).val, 384] : Fin 2 → ℕ) a := by decide +kernel
theorem off1 : ∀ (i : grid0.Coords) (h : Fin 8) (a : Fin 1), k0_off1 i (BitVec.ofNat 32 h) a = h := by decide +kernel
end Offsets

section Diag
variable (c : Dev nD) (i : grid0.Coords)
  (arg3 : Memref sig .tc .smem S8 .f32) (harg3 : arg3.IsWhole) (arg4 : Memref sig .tc .vmem S512x512 .bf16) (harg4 : arg4.IsWhole)
  (arg5 : Memref sig .tc .vmem S4096x512 .bf16) (harg5 : arg5.IsWhole) (arg6 : Memref sig .tc .vmem S4096x512 .bf16) (harg6 : arg6.IsWhole)
  (arg7 : Memref sig .tc .vmem S256x256 .bf16) (harg7 : arg7.IsWhole)
  (arg9 : Memref sig .tc .vmem S8x512x128 .f32) (arg10 : Memref sig .tc .vmem S8x512x128 .f32)
  (x0 : Vec Ideal S8 .f32) (x1 : Vec Ideal S512x512 .bf16) (x2 x3 : Vec Ideal S4096x512 .bf16) (x4 : Vec Ideal S256x256 .bf16)
  (bf : ℕ → EReal) (qf kf : ℕ → ℕ → EReal) (vf : ℕ → ℕ → EReal)

/-- The score of a row of the block against key `s`, for head `h`. -/
def zrow (h : Fin 8) (r s : ℕ) : EReal :=
  dot (64 * (h.val % 2)) (fun e => qf r (128 * (h.val / 2) + e)) (fun e => kf s (128 * (h.val / 2) + e)) (bf h)

theorem lowRows_apply (M : Memref sig .tc .vmem S4096x512 .bf16) (hM : M.IsWhole) (X : Vec Ideal S4096x512 .bf16) (h : Fin 8) (s : Fin 256) (e : Fin 128) :
    lowRows i M hM X h (ix2 s e) = X (ix2 ⟨512 * (i 2).val + s.val, by have := (i 2).isLt; dsimp at this; omega⟩ ⟨128 * (h.val / 2) + e.val, by omega⟩) := by
  fin_cases h <;> refine readAt_unread hM X _ _ _ (ix2 s e) (ix2 _ _) (fun a => ?_)
  · rw [off2]; fin_cases a <;> simp [ix2]
  · rw [off2]; fin_cases a <;> simp [ix2]
  · rw [off3]; fin_cases a <;> simp [ix2]
  · rw [off3]; fin_cases a <;> simp [ix2]
  · rw [off4]; fin_cases a <;> simp [ix2]
  · rw [off4]; fin_cases a <;> simp [ix2]
  · rw [off5]; fin_cases a <;> simp [ix2]
  · rw [off5]; fin_cases a <;> simp [ix2]
theorem highRows_apply (M : Memref sig .tc .vmem S4096x512 .bf16) (hM : M.IsWhole) (X : Vec Ideal S4096x512 .bf16) (h : Fin 8) (s : Fin 512) (e : Fin 128) :
    highRows i M hM X h (ix2 s e) = X (ix2 ⟨512 * (i 2).val + s.val, by have := (i 2).isLt; dsimp at this; omega⟩ ⟨128 * (h.val / 2) + e.val, by omega⟩) := by
  fin_cases h <;> refine readAt_unread hM X _ _ _ (ix2 s e) (ix2 _ _) (fun a => ?_)
  · rw [off6]; fin_cases a <;> simp [ix2]
  · rw [off6]; fin_cases a <;> simp [ix2]
  · rw [off7]; fin_cases a <;> simp [ix2]
  · rw [off7]; fin_cases a <;> simp [ix2]
  · rw [off8]; fin_cases a <;> simp [ix2]
  · rw [off8]; fin_cases a <;> simp [ix2]
  · rw [off9]; fin_cases a <;> simp [ix2]
  · rw [off9]; fin_cases a <;> simp [ix2]

theorem qPair_apply (h : Fin 8) (r : Fin 512) (e : Fin 128) :
    qPair arg4 harg4 x1 h (ix2 r e) = x1 (ix2 r ⟨128 * (h.val / 2) + e.val, by omega⟩) := by
  refine readAt_unread harg4 x1 _ _ _ (ix2 r e) (ix2 _ _) (fun a => ?_)
  fin_cases a <;> simp [ix2]

theorem bias_apply (h : Fin 8) : bias c i arg3 harg3 x0 h = x0 (ix1 h) := by
  fin_cases h <;> refine readAt_unread harg3 x0 _ _ _ _ (ix1 _) (fun a => ?_)
  · rw [show k0_off1 i 0#32 a = 0 from off1 i 0 a]; fin_cases a; rfl
  · rw [show k0_off1 i 1#32 a = 1 from off1 i 1 a]; fin_cases a; rfl
  · rw [show k0_off1 i 2#32 a = 2 from off1 i 2 a]; fin_cases a; rfl
  · rw [show k0_off1 i 3#32 a = 3 from off1 i 3 a]; fin_cases a; rfl
  · rw [show k0_off1 i 4#32 a = 4 from off1 i 4 a]; fin_cases a; rfl
  · rw [show k0_off1 i 5#32 a = 5 from off1 i 5 a]; fin_cases a; rfl
  · rw [show k0_off1 i 6#32 a = 6 from off1 i 6 a]; fin_cases a; rfl
  · rw [show k0_off1 i 7#32 a = 7 from off1 i 7 a]; fin_cases a; rfl

theorem heads_apply (hx0 : ∀ h : Fin 8, x0 (ix1 h) = (bf h)) (hx1 : ∀ r l : Fin 512, x1 (ix2 r l) = (qf r l))
    (h : Fin 8) (r : Fin 512) :
    IsHead (fun e => heads c i arg3 harg3 arg4 harg4 x0 x1 h (ix2 r e)) (64 * (h.val % 2)) (fun e => qf r (128 * (h.val / 2) + e)) (bf h) := by
  have hq : ∀ e : Fin 128, qPair arg4 harg4 x1 h (ix2 r e) = (qf r (128 * (h.val / 2) + e)) := fun e => by
    rw [qPair_apply, hx1]
  rw [heads_eq, bias_apply, hx0]
  by_cases hh : h.val % 2 = 0
  · rw [if_pos hh, hh]; exact headEven_apply _ _ r _ hq
  · rw [if_neg hh, show h.val % 2 = 1 by omega]; exact headOdd_apply _ _ r _ hq

theorem tri_apply (hx4 : IsTri x4) : IsTri (tri c arg7 harg7 x4) := by
  intro j l
  rw [← hx4 j l]
  unfold tri kernelRun0_A.sl.r_27
  pointwise [k0_pay280]
  refine readAt_unread harg7 x4 _ _ _ (ix2 j l) (ix2 j l) (fun a => ?_)
  fin_cases a <;> simp [ix2]

variable (hx0 : ∀ h : Fin 8, x0 (ix1 h) = (bf h)) (hx1 : ∀ r l : Fin 512, x1 (ix2 r l) = (qf r l))
  (hx2 : ∀ (s : Fin 4096) (l : Fin 512), x2 (ix2 s l) = (kf s l))
  (hx3 : ∀ (s : Fin 4096) (l : Fin 512), x3 (ix2 s l) = vf s l) (hx4 : IsTri x4)

include hx0 hx1 hx2 in
theorem lowZ_apply (h : Fin 8) (r s : Fin 256) :
    lowZ c i arg3 harg3 arg4 harg4 arg5 harg5 x0 x1 x2 h (ix2 r s) = (zrow bf qf kf h r (512 * (i 2).val + s)) := by
  refine lowScore_apply _ _ (by omega) _ _ _ _ r s (heads_apply c i arg3 harg3 arg4 harg4 x0 x1 bf qf hx0 hx1 h ⟨r.val, by omega⟩) fun e => ?_
  rw [lowRows_apply, hx2]
include hx0 hx1 hx2 in
theorem highZ_apply (h : Fin 8) (r : Fin 256) (s : Fin 512) :
    highZ c i arg3 harg3 arg4 harg4 arg5 harg5 x0 x1 x2 h (ix2 r s) = (zrow bf qf kf h (256 + r) (512 * (i 2).val + s)) := by
  refine highScore_apply _ _ (by omega) _ _ _ _ r s (heads_apply c i arg3 harg3 arg4 harg4 x0 x1 bf qf hx0 hx1 h ⟨256 + r.val, by omega⟩) fun e => ?_
  rw [highRows_apply, hx2]

end Diag
end Cert.KernelIdeal.Attn
-- ==== Proof.DiagValue.lean ====
module

public import proofs.«01_k».proof.Proof.Diag
public import proofs.«01_k».proof.Proof.OpsValue

@[expose] public section
set_option maxRecDepth 16384
noncomputable section
namespace Cert.KernelIdeal.Attn
open Cert.KernelIdeal Cert.KernelIdeal.Gen Cert.Row
open Idealize.ShloMosaic Idealize.ShloMosaic.TcCoe

/-! What the diagonal block leaves in the two buffers. -/

section Diag
variable (c : Dev nD) (i : grid0.Coords)
  (arg3 : Memref sig .tc .smem S8 .f32) (harg3 : arg3.IsWhole) (arg4 : Memref sig .tc .vmem S512x512 .bf16) (harg4 : arg4.IsWhole)
  (arg5 : Memref sig .tc .vmem S4096x512 .bf16) (harg5 : arg5.IsWhole) (arg6 : Memref sig .tc .vmem S4096x512 .bf16) (harg6 : arg6.IsWhole)
  (arg7 : Memref sig .tc .vmem S256x256 .bf16) (harg7 : arg7.IsWhole)
  (arg9 : Memref sig .tc .vmem S8x512x128 .f32) (arg10 : Memref sig .tc .vmem S8x512x128 .f32)
  (x0 : Vec Ideal S8 .f32) (x1 : Vec Ideal S512x512 .bf16) (x2 x3 : Vec Ideal S4096x512 .bf16) (x4 : Vec Ideal S256x256 .bf16)
  (bf : ℕ → EReal) (qf kf : ℕ → ℕ → EReal) (vf : ℕ → ℕ → EReal)

variable (hx0 : ∀ h : Fin 8, x0 (ix1 h) = (bf h)) (hx1 : ∀ r l : Fin 512, x1 (ix2 r l) = (qf r l))
  (hx2 : ∀ (s : Fin 4096) (l : Fin 512), x2 (ix2 s l) = (kf s l))
  (hx3 : ∀ (s : Fin 4096) (l : Fin 512), x3 (ix2 s l) = vf s l) (hx4 : IsTri x4)

theorem fill_apply {sp : Space} (v : View sig .tc sp S8x512x128 .f32) (f : v.ty.Contents (Elt Ideal)) (w : FVec Ideal S8x512x128 .f32) (inb) (h : Fin 8) (r : Fin 512) (l : Fin 128) :
    v.read (Elt Ideal) (v.writes (Elt Ideal) f [⟨Rect.unit ![0, 0, 0] S8x512x128.size inb, w⟩]) (ix3 h r l) = w (ix3 h r l) := by
  refine View.read_writes_cons_unit_of_mem v f inb w [] (ix3 h r l) (ix3 h r l) rfl fun a => ?_
  fin_cases a <;> simp [ix3]

theorem carry_start (h : Fin 8) (r : Fin 512) (l : Fin 128) :
    arg10.view.read (Elt Ideal) (arg10.view.writes (Elt Ideal) arg10.view.junk (lowCarryList c i arg3 harg3 arg4 harg4 arg5 harg5 arg7 harg7 arg10 x0 x1 x2 x4 0)) (ix3 h r l) = 0 := by
  refine (fill_apply _ _ _ _ h r l).trans ?_
  pointwise [k0_pay279]

theorem acc_start (h : Fin 8) (r : Fin 512) (l : Fin 128) :
    arg9.view.read (Elt Ideal) (arg9.view.writes (Elt Ideal) arg9.view.junk (lowAccList c i arg3 harg3 arg4 harg4 arg5 harg5 arg6 harg6 arg7 harg7 arg9 arg10 x0 x1 x2 x3 x4 0)) (ix3 h r l) = 0 := by
  refine (fill_apply _ _ _ _ h r l).trans ?_
  pointwise [k0_pay278]

theorem lowC_apply (h : Fin 8) (r : Fin 256) (l : Fin 128) : lowC c i arg3 harg3 arg4 harg4 arg5 harg5 arg7 harg7 arg10 x0 x1 x2 x4 h (ix3 0 r l) = 0 := by
  rw [lowC_eq]
  refine (readAt_slab _ _ 0 256 (by omega) h r l).trans ?_
  rw [read_stack, dif_neg (by omega), carry_start]
theorem lowA_apply (h : Fin 8) (r : Fin 256) (l : Fin 128) : lowA c i arg3 harg3 arg4 harg4 arg5 harg5 arg6 harg6 arg7 harg7 arg9 arg10 x0 x1 x2 x3 x4 h (ix3 0 r l) = 0 := by
  rw [lowA_eq]
  refine (readAt_slab _ _ 0 256 (by omega) h r l).trans ?_
  rw [read_stack, dif_neg (by omega), acc_start]

theorem base_le (i : grid0.Coords) : 512 * (i 2).val + 512 ≤ 4096 := by
  have := (i 2).isLt; dsimp at this; omega

include hx0 hx1 hx2 hx4 in
theorem lowCarries_apply (h : Fin 8) (r : Fin 256) (l : Fin 128) :
    lowCarries c i arg3 harg3 arg4 harg4 arg5 harg5 arg7 harg7 arg10 x0 x1 x2 x4 h (ix3 0 r l) = (later (512 * (i 2).val + r) (zrow bf qf kf h r) (512 * (i 2).val)) := by
  have hb := base_le i
  refine lowCarry_apply _ _ (tri_apply c arg7 harg7 x4 hx4) (512 * (i 2).val) (zrow bf qf kf h r) r (fun s => lowZ_apply c i arg3 harg3 arg4 harg4 arg5 harg5 x0 x1 x2 bf qf kf hx0 hx1 hx2 h r s) _ (by omega) l ?_
  rw [lowC_apply, later_zero _ _ _ (by omega)]

include hx0 hx1 hx2 hx3 hx4 in
theorem lowAccs_apply (h : Fin 8) (r : Fin 256) (l : Fin 128) :
    lowAccs c i arg3 harg3 arg4 harg4 arg5 harg5 arg6 harg6 arg7 harg7 arg9 arg10 x0 x1 x2 x3 x4 h (ix3 0 r l) = out (512 * (i 2).val + r) (zrow bf qf kf h r) (fun s => vf s (128 * (h.val / 2) + l)) (512 * (i 2).val) := by
  have hb := base_le i
  refine lowAcc_apply (512 * (i 2).val) (zrow bf qf kf h r) r _ _ _ (by omega) (fun s => lowWeight_apply _ _ (tri_apply c arg7 harg7 x4 hx4) (512 * (i 2).val) (zrow bf qf kf h r) r (fun s => lowZ_apply c i arg3 harg3 arg4 harg4 arg5 harg5 x0 x1 x2 bf qf kf hx0 hx1 hx2 h r s) _ (by omega) (fun l => ?_) s) _ l (fun s => ?_) ?_
  · rw [lowC_apply, later_zero _ _ _ (by omega)]
  · rw [lowRows_apply, hx3]
  · rw [lowA_apply, out_zero _ _ _ _ (by omega)]

theorem highC_apply (h : Fin 8) (r : Fin 256) (l : Fin 128) : highC c i arg3 harg3 arg4 harg4 arg5 harg5 arg7 harg7 arg10 x0 x1 x2 x4 h (ix3 0 r l) = 0 := by
  rw [highC_eq]
  refine (readAt_slab _ _ 256 256 (by omega) h r l).trans ?_
  rw [read_stack, dif_neg (by omega)]
  refine (congrArg (fun L => arg10.view.read (Elt Ideal) (arg10.view.writes (Elt Ideal) arg10.view.junk L) _) (lowCarryList_eq c i arg3 harg3 arg4 harg4 arg5 harg5 arg7 harg7 arg10 x0 x1 x2 x4 8 le_rfl)).trans ?_
  rw [read_stack, dif_neg (by simp only []; omega), carry_start]
theorem highA_apply (h : Fin 8) (r : Fin 256) (l : Fin 128) : highA c i arg3 harg3 arg4 harg4 arg5 harg5 arg6 harg6 arg7 harg7 arg9 arg10 x0 x1 x2 x3 x4 h (ix3 0 r l) = 0 := by
  rw [highA_eq]
  refine (readAt_slab _ _ 256 256 (by omega) h r l).trans ?_
  rw [read_stack, dif_neg (by omega)]
  refine (congrArg (fun L => arg9.view.read (Elt Ideal) (arg9.view.writes (Elt Ideal) arg9.view.junk L) _) (lowAccList_eq c i arg3 harg3 arg4 harg4 arg5 harg5 arg6 harg6 arg7 harg7 arg9 arg10 x0 x1 x2 x3 x4 8 le_rfl)).trans ?_
  rw [read_stack, dif_neg (by simp only []; omega), acc_start]

include hx0 hx1 hx2 hx4 in
theorem highCarries_apply (h : Fin 8) (r : Fin 256) (l : Fin 128) :
    highCarries c i arg3 harg3 arg4 harg4 arg5 harg5 arg7 harg7 arg10 x0 x1 x2 x4 h (ix3 0 r l) = (later (512 * (i 2).val + 256 + r) (zrow bf qf kf h (256 + r)) (512 * (i 2).val)) := by
  have hb := base_le i
  refine highCarry_apply _ _ (tri_apply c arg7 harg7 x4 hx4) (512 * (i 2).val) (zrow bf qf kf h (256 + r)) r (fun s => highZ_apply c i arg3 harg3 arg4 harg4 arg5 harg5 x0 x1 x2 bf qf kf hx0 hx1 hx2 h r s) _ hb l ?_
  rw [highC_apply, later_zero _ _ _ (by omega)]

include hx0 hx1 hx2 hx3 hx4 in
theorem highAccs_apply (h : Fin 8) (r : Fin 256) (l : Fin 128) :
    highAccs c i arg3 harg3 arg4 harg4 arg5 harg5 arg6 harg6 arg7 harg7 arg9 arg10 x0 x1 x2 x3 x4 h (ix3 0 r l) = out (512 * (i 2).val + 256 + r) (zrow bf qf kf h (256 + r)) (fun s => vf s (128 * (h.val / 2) + l)) (512 * (i 2).val) := by
  have hb := base_le i
  refine highAcc_apply (512 * (i 2).val) (zrow bf qf kf h (256 + r)) r _ _ _ hb (fun s => highWeight_apply _ _ (tri_apply c arg7 harg7 x4 hx4) (512 * (i 2).val) (zrow bf qf kf h (256 + r)) r (fun s => highZ_apply c i arg3 harg3 arg4 harg4 arg5 harg5 x0 x1 x2 bf qf kf hx0 hx1 hx2 h r s) _ hb (fun l => ?_) s) _ l (fun s => ?_) ?_
  · rw [highC_apply, later_zero _ _ _ (by omega)]
  · rw [highRows_apply, hx3]
  · rw [highA_apply, out_zero _ _ _ _ (by omega)]

include hx0 hx1 hx2 hx4 in
/-- After the diagonal block the carry of a row is the cost of the block's keys. -/
theorem carry_diag (h : Fin 8) (r : Fin 512) (l : Fin 128) :
    arg10.view.read (Elt Ideal) (arg10.view.writes (Elt Ideal) arg10.view.junk (highCarryList c i arg3 harg3 arg4 harg4 arg5 harg5 arg7 harg7 arg10 x0 x1 x2 x4 8)) (ix3 h r l)
      = (later (512 * (i 2).val + r) (zrow bf qf kf h r) (512 * (i 2).val)) := by
  rw [highCarryList_eq (hm := le_rfl), read_stack]
  by_cases hr : r.val < 256
  · rw [dif_neg (by omega)]
    refine (congrArg (fun L => arg10.view.read (Elt Ideal) (arg10.view.writes (Elt Ideal) arg10.view.junk L) _) (lowCarryList_eq c i arg3 harg3 arg4 harg4 arg5 harg5 arg7 harg7 arg10 x0 x1 x2 x4 8 le_rfl)).trans ?_
    rw [read_stack, dif_pos (by omega)]
    exact lowCarries_apply c i arg3 harg3 arg4 harg4 arg5 harg5 arg7 harg7 arg10 x0 x1 x2 x4 bf qf kf hx0 hx1 hx2 hx4 h ⟨r.val, hr⟩ l
  · rw [dif_pos (by omega), highCarries_apply c i arg3 harg3 arg4 harg4 arg5 harg5 arg7 harg7 arg10 x0 x1 x2 x4 bf qf kf hx0 hx1 hx2 hx4]
    simp only [show 512 * (i 2).val + 256 + (r.val - 256) = 512 * (i 2).val + r.val by omega, show 256 + (r.val - 256) = r.val by omega]

include hx0 hx1 hx2 hx3 hx4 in
/-- After the diagonal block the output of a row is that of the block's keys. -/
theorem acc_diag (h : Fin 8) (r : Fin 512) (l : Fin 128) :
    arg9.view.read (Elt Ideal) (arg9.view.writes (Elt Ideal) arg9.view.junk (highAccList c i arg3 harg3 arg4 harg4 arg5 harg5 arg6 harg6 arg7 harg7 arg9 arg10 x0 x1 x2 x3 x4 8)) (ix3 h r l)
      = out (512 * (i 2).val + r) (zrow bf qf kf h r) (fun s => vf s (128 * (h.val / 2) + l)) (512 * (i 2).val) := by
  rw [highAccList_eq (hm := le_rfl), read_stack]
  by_cases hr : r.val < 256
  · rw [dif_neg (by omega)]
    refine (congrArg (fun L => arg9.view.read (Elt Ideal) (arg9.view.writes (Elt Ideal) arg9.view.junk L) _) (lowAccList_eq c i arg3 harg3 arg4 harg4 arg5 harg5 arg6 harg6 arg7 harg7 arg9 arg10 x0 x1 x2 x3 x4 8 le_rfl)).trans ?_
    rw [read_stack, dif_pos (by omega)]
    exact lowAccs_apply c i arg3 harg3 arg4 harg4 arg5 harg5 arg6 harg6 arg7 harg7 arg9 arg10 x0 x1 x2 x3 x4 bf qf kf vf hx0 hx1 hx2 hx3 hx4 h ⟨r.val, hr⟩ l
  · rw [dif_pos (by omega), highAccs_apply c i arg3 harg3 arg4 harg4 arg5 harg5 arg6 harg6 arg7 harg7 arg9 arg10 x0 x1 x2 x3 x4 bf qf kf vf hx0 hx1 hx2 hx3 hx4]
    simp only [show 512 * (i 2).val + 256 + (r.val - 256) = 512 * (i 2).val + r.val by omega, show 256 + (r.val - 256) = r.val by omega]

end Diag
end Cert.KernelIdeal.Attn
-- ==== Proof.Trip.lean ====
module

public import proofs.«01_k».proof.Proof.StructEq
public import proofs.«01_k».proof.Proof.Gen.KernelIdeal.Loops

@[expose] public section
set_option maxRecDepth 16384
set_option maxHeartbeats 400000
noncomputable section
namespace Cert.KernelIdeal.Attn
open Cert.KernelIdeal Cert.KernelIdeal.Gen
open Idealize.ShloMosaic Idealize.ShloMosaic.TcCoe

/-! What one trip of the loop over earlier blocks writes, as one write for each head. -/

theorem cons_eq {α : Type} {a b : α} {l m : List α} (h : a = b) (h' : l = m) : a :: l = b :: m := by rw [h, h']

section Trip
variable {F : FTy → Type} [FloatOps F] (𝒱 : Variants) (c : Dev nD) (bd : Option 𝒱.V) (i : grid0.Coords)
  (arg3 : Memref sig .tc .smem S8 .f32) (harg3 : arg3.IsWhole) (arg4 : Memref sig .tc .vmem S512x512 .bf16) (harg4 : arg4.IsWhole)
  (arg5 : Memref sig .tc .vmem S4096x512 .bf16) (harg5 : arg5.IsWhole) (arg6 : Memref sig .tc .vmem S4096x512 .bf16) (harg6 : arg6.IsWhole)
  (arg7 : Memref sig .tc .vmem S256x256 .bf16) (harg7 : arg7.IsWhole) (arg8 : Memref sig .tc .vmem S512x512 .f32) (harg8 : arg8.IsWhole)
  (arg9 : Memref sig .tc .vmem S8x512x128 .f32) (harg9 : arg9.IsWhole) (arg10 : Memref sig .tc .vmem S8x512x128 .f32) (harg10 : arg10.IsWhole)
  (arg2 : BitVec 32) (v2 : IVec S1x128 1) (hd : Fin 8 → FVec F S512x256 .bf16) (e : FVec F S512x128 .bf16) (u : FVec F S256x256 .bf16)
  (v760 v763 : FVec F S512x128 .bf16) (v1147 : FVec F S256x512 .f32) (v1197 : FVec F S256x128 .f32) (v1198 : FVec F S256x512 .bf16)
  (X5 : BufTy.Contents (Elt F) arg5.view.ty) (X6 : BufTy.Contents (Elt F) arg6.view.ty) (k : Fin (k0_t1_loop i).trips)
  (f9 : BufTy.Contents (Elt F) arg9.view.ty) (f10 : BufTy.Contents (Elt F) arg10.view.ty)

/-- Head `h`'s columns of the keys (or values) of trip `k`. -/
def fullRows (M : Memref sig .tc .vmem S4096x512 .bf16) (X : BufTy.Contents (Elt F) M.view.ty) (h : Fin 8) : Vec F S512x128 .bf16 :=
  ![M.view.readAt (Elt F) (Rect.unit (s := S4096x512) (k0_off10 i k) S512x128.size (k0_off10_inb i k)).toLoadRect X, M.view.readAt (Elt F) (Rect.unit (s := S4096x512) (k0_off10 i k) S512x128.size (k0_off10_inb i k)).toLoadRect X, M.view.readAt (Elt F) (Rect.unit (s := S4096x512) (k0_off11 i k) S512x128.size (k0_off11_inb i k)).toLoadRect X, M.view.readAt (Elt F) (Rect.unit (s := S4096x512) (k0_off11 i k) S512x128.size (k0_off11_inb i k)).toLoadRect X, M.view.readAt (Elt F) (Rect.unit (s := S4096x512) (k0_off12 i k) S512x128.size (k0_off12_inb i k)).toLoadRect X, M.view.readAt (Elt F) (Rect.unit (s := S4096x512) (k0_off12 i k) S512x128.size (k0_off12_inb i k)).toLoadRect X, M.view.readAt (Elt F) (Rect.unit (s := S4096x512) (k0_off13 i k) S512x128.size (k0_off13_inb i k)).toLoadRect X, M.view.readAt (Elt F) (Rect.unit (s := S4096x512) (k0_off13 i k) S512x128.size (k0_off13_inb i k)).toLoadRect X] h

def fullZ (h : Fin 8) : FVec F S512x512 .f32 := fullScore (hd h) e (fullRows i k arg5 X5 h)
def fullC (h : Fin 8) : Vec F S1x512x128 .f32 := arg10.view.readAt (Elt F) (slab 0 512 h (by omega) h.isLt).toLoadRect f10
def fullA (h : Fin 8) : Vec F S1x512x128 .f32 := arg9.view.readAt (Elt F) (slab 0 512 h (by omega) h.isLt).toLoadRect f9
def fullCarries (h : Fin 8) : Vec F S1x512x128 .f32 := fullCarry (fullZ i arg5 hd e X5 k h) u (fullC arg10 f10 h)
def fullAccs (h : Fin 8) : Vec F S1x512x128 .f32 :=
  fullAcc (fullWeight (fullZ i arg5 hd e X5 k h) u (fullC arg10 f10 h)) (fullRows i k arg6 X6 h) (fullA arg9 f9 h)

theorem trip_carries : (trip_k0_t1 (F := F) 𝒱 c bd i arg3 harg3 arg4 harg4 arg5 harg5 arg6 harg6 arg7 harg7 arg8 harg8 arg9 harg9 arg10 harg10 arg2 v2 (hd 0) (hd 1) (hd 2) (hd 3) (hd 4) (hd 5) (hd 6) (hd 7) e u v760 v763 v1147 v1197 v1198 X5 X6 k).2.1 f9 f10 = stack 0 512 (by omega) (fullCarries i arg5 arg10 hd e u X5 k f10) [] 8 (by omega) := by
  unfold trip_k0_t1
  exact cons_eq rfl (cons_eq rfl (cons_eq rfl (cons_eq rfl (cons_eq rfl (cons_eq rfl (cons_eq rfl (cons_eq rfl rfl)))))))
theorem trip_accs : (trip_k0_t1 (F := F) 𝒱 c bd i arg3 harg3 arg4 harg4 arg5 harg5 arg6 harg6 arg7 harg7 arg8 harg8 arg9 harg9 arg10 harg10 arg2 v2 (hd 0) (hd 1) (hd 2) (hd 3) (hd 4) (hd 5) (hd 6) (hd 7) e u v760 v763 v1147 v1197 v1198 X5 X6 k).1 f9 f10 = stack 0 512 (by omega) (fullAccs i arg5 arg6 arg9 arg10 hd e u X5 X6 k f9 f10) [] 8 (by omega) := by
  unfold trip_k0_t1
  exact cons_eq rfl (cons_eq rfl (cons_eq rfl (cons_eq rfl (cons_eq rfl (cons_eq rfl (cons_eq rfl (cons_eq rfl rfl)))))))
end Trip
end Cert.KernelIdeal.Attn
-- ==== Proof.Loop.lean ====
module

public import proofs.«01_k».proof.Proof.DiagValue
public import proofs.«01_k».proof.Proof.Trip

@[expose] public section
set_option maxRecDepth 16384
noncomputable section
namespace Cert.KernelIdeal.Attn
open Cert.KernelIdeal Cert.KernelIdeal.Gen Cert.Row
open Idealize.ShloMosaic Idealize.ShloMosaic.TcCoe

/-! What the loop over earlier blocks leaves in the two buffers, and the block's output. -/

section Offsets
theorem trips_eq : ∀ i : grid0.Coords, (k0_t1_loop i).trips = (i 2).val := by decide +kernel
theorem trips2_eq : ∀ i : grid0.Coords, (k0_t2_loop i).trips = 0 := by decide +kernel
theorem off10 : ∀ (i : grid0.Coords) (k : Fin (k0_t1_loop i).trips) (a : Fin 2), k0_off10 i k a = (![512 * ((i 2).val - 1 - k.val), 0] : Fin 2 → ℕ) a := by decide +kernel
theorem off11 : ∀ (i : grid0.Coords) (k : Fin (k0_t1_loop i).trips) (a : Fin 2), k0_off11 i k a = (![512 * ((i 2).val - 1 - k.val), 128] : Fin 2 → ℕ) a := by decide +kernel
theorem off12 : ∀ (i : grid0.Coords) (k : Fin (k0_t1_loop i).trips) (a : Fin 2), k0_off12 i k a = (![512 * ((i 2).val - 1 - k.val), 256] : Fin 2 → ℕ) a := by decide +kernel
theorem off13 : ∀ (i : grid0.Coords) (k : Fin (k0_t1_loop i).trips) (a : Fin 2), k0_off13 i k a = (![512 * ((i 2).val - 1 - k.val), 384] : Fin 2 → ℕ) a := by decide +kernel
end Offsets

section Loop
variable (c : Dev nD) (i : grid0.Coords)
  (arg3 : Memref sig .tc .smem S8 .f32) (harg3 : arg3.IsWhole) (arg4 : Memref sig .tc .vmem S512x512 .bf16) (harg4 : arg4.IsWhole)
  (arg5 : Memref sig .tc .vmem S4096x512 .bf16) (harg5 : arg5.IsWhole) (arg6 : Memref sig .tc .vmem S4096x512 .bf16) (harg6 : arg6.IsWhole)
  (arg7 : Memref sig .tc .vmem S256x256 .bf16) (harg7 : arg7.IsWhole) (arg8 : Memref sig .tc .vmem S512x512 .f32) (harg8 : arg8.IsWhole)
  (arg9 : Memref sig .tc .vmem S8x512x128 .f32) (harg9 : arg9.IsWhole) (arg10 : Memref sig .tc .vmem S8x512x128 .f32) (harg10 : arg10.IsWhole)
  (x0 : Vec Ideal S8 .f32) (x1 : Vec Ideal S512x512 .bf16) (x2 x3 : Vec Ideal S4096x512 .bf16) (x4 : Vec Ideal S256x256 .bf16)
  (bf : ℕ → EReal) (qf kf : ℕ → ℕ → EReal) (vf : ℕ → ℕ → EReal)

variable (hx0 : ∀ h : Fin 8, x0 (ix1 h) = (bf h)) (hx1 : ∀ r l : Fin 512, x1 (ix2 r l) = (qf r l))
  (hx2 : ∀ (s : Fin 4096) (l : Fin 512), x2 (ix2 s l) = (kf s l))
  (hx3 : ∀ (s : Fin 4096) (l : Fin 512), x3 (ix2 s l) = vf s l) (hx4 : IsTri x4)

theorem key_lt (i : grid0.Coords) (k : ℕ) (s : Fin 512) : 512 * ((i 2).val - 1 - k) + s.val < 4096 := by
  have := (i 2).isLt; dsimp at this; omega

theorem fullRows_apply (k : Fin (k0_t1_loop i).trips) (M : Memref sig .tc .vmem S4096x512 .bf16) (hM : M.IsWhole) (X : Vec Ideal S4096x512 .bf16) (h : Fin 8) (s : Fin 512) (e : Fin 128) :
    fullRows i k M (hM.unread X) h (ix2 s e) = X (ix2 ⟨512 * ((i 2).val - 1 - k.val) + s.val, key_lt i k s⟩ ⟨128 * (h.val / 2) + e.val, by omega⟩) := by
  fin_cases h <;> refine readAt_unread hM X _ _ _ (ix2 s e) (ix2 _ _) (fun a => ?_)
  · rw [off10]; fin_cases a <;> simp [ix2]
  · rw [off10]; fin_cases a <;> simp [ix2]
  · rw [off11]; fin_cases a <;> simp [ix2]
  · rw [off11]; fin_cases a <;> simp [ix2]
  · rw [off12]; fin_cases a <;> simp [ix2]
  · rw [off12]; fin_cases a <;> simp [ix2]
  · rw [off13]; fin_cases a <;> simp [ix2]
  · rw [off13]; fin_cases a <;> simp [ix2]

include hx0 hx1 hx2 in
theorem fullZ_apply (k : Fin (k0_t1_loop i).trips) (h : Fin 8) (r s : Fin 512) :
    fullZ i arg5 (heads c i arg3 harg3 arg4 harg4 x0 x1) ones512 (harg5.unread x2) k h (ix2 r s) = (zrow bf qf kf h r (512 * ((i 2).val - 1 - k.val) + s)) := by
  refine fullScore_apply _ _ (by omega) _ _ _ _ r s (heads_apply c i arg3 harg3 arg4 harg4 x0 x1 bf qf hx0 hx1 h r) fun e => ?_
  rw [fullRows_apply, hx2]

/-- What the two buffers hold before trip `k`: each row's cost and output of the keys of the blocks done so far. -/
def Held (f9 : arg9.view.ty.Contents (Elt Ideal)) (f10 : arg10.view.ty.Contents (Elt Ideal)) (k : ℕ) : Prop :=
  ∀ (h : Fin 8) (r : Fin 512) (l : Fin 128),
    arg9.view.read (Elt Ideal) f9 (ix3 h r l) = out (512 * (i 2).val + r) (zrow bf qf kf h r) (fun s => vf s (128 * (h.val / 2) + l)) (512 * ((i 2).val - k))
    ∧ arg10.view.read (Elt Ideal) f10 (ix3 h r l) = (later (512 * (i 2).val + r) (zrow bf qf kf h r) (512 * ((i 2).val - k)))

include hx0 hx1 hx2 hx3 hx4 in
theorem held_succ (k : Fin (k0_t1_loop i).trips) (f9 : arg9.view.ty.Contents (Elt Ideal)) (f10 : arg10.view.ty.Contents (Elt Ideal))
    (hH : Held i arg9 arg10 bf qf kf vf f9 f10 k.val) :
    Held i arg9 arg10 bf qf kf vf
      (arg9.view.writes (Elt Ideal) f9 (stack 0 512 (by omega) (fullAccs i arg5 arg6 arg9 arg10 (heads c i arg3 harg3 arg4 harg4 x0 x1) ones512 (tri c arg7 harg7 x4) (harg5.unread x2) (harg6.unread x3) k f9 f10) [] 8 (by omega)))
      (arg10.view.writes (Elt Ideal) f10 (stack 0 512 (by omega) (fullCarries i arg5 arg10 (heads c i arg3 harg3 arg4 harg4 x0 x1) ones512 (tri c arg7 harg7 x4) (harg5.unread x2) k f10) [] 8 (by omega)))
      (k.val + 1) := by
  intro h r l
  have hk : k.val < (i 2).val := lt_of_lt_of_eq k.isLt (trips_eq i)
  have hi := base_le i
  have e1 : 512 * ((i 2).val - k.val) = 512 * ((i 2).val - 1 - k.val) + 512 := by omega
  have e2 : 512 * ((i 2).val - (k.val + 1)) = 512 * ((i 2).val - 1 - k.val) := by omega
  have hc : ∀ l, fullC arg10 f10 h (ix3 0 r l) = (later (512 * (i 2).val + r) (zrow bf qf kf h r) (512 * ((i 2).val - 1 - k.val) + 512)) := fun l => by
    refine (readAt_slab _ _ 0 512 (by omega) h r l).trans ?_
    simp only [Nat.zero_add, Fin.eta]
    rw [(hH h r l).2, e1]
  have ha : fullA arg9 f9 h (ix3 0 r l) = out (512 * (i 2).val + r) (zrow bf qf kf h r) (fun s => vf s (128 * (h.val / 2) + l)) (512 * ((i 2).val - 1 - k.val) + 512) := by
    refine (readAt_slab _ _ 0 512 (by omega) h r l).trans ?_
    simp only [Nat.zero_add, Fin.eta]
    rw [(hH h r l).1, e1]
  have hz := fun s => fullZ_apply c i arg3 harg3 arg4 harg4 arg5 harg5 x0 x1 x2 bf qf kf hx0 hx1 hx2 k h r s
  have ht : 512 * ((i 2).val - 1 - k.val) + 512 ≤ 512 * (i 2).val + r.val := by omega
  have hb : 512 * ((i 2).val - 1 - k.val) + 512 ≤ 4096 := by omega
  rw [e2]
  constructor
  · rw [read_stack, dif_pos (by omega)]
    refine fullAcc_apply _ _ (zrow bf qf kf h r) r _ _ _ hb (fun s => fullWeight_apply _ _ (tri_apply c arg7 harg7 x4 hx4) _ _ (zrow bf qf kf h r) r hz _ hb ht hc s) _ l (fun s => ?_) ha
    rw [fullRows_apply, hx3]
  · rw [read_stack, dif_pos (by omega)]
    exact fullCarry_apply _ _ (tri_apply c arg7 harg7 x4 hx4) _ _ (zrow bf qf kf h r) r hz _ hb ht l (hc l)

/-- What the first `k` trips write to the two buffers. -/
def pieces (k : ℕ) : List (View.Piece (Elt Ideal) S8x512x128 .f32) × List (View.Piece (Elt Ideal) S8x512x128 .f32) :=
  pb_k0_t1 (F := Ideal) Variants.none c none i arg3 harg3 arg4 harg4 arg5 harg5 arg6 harg6 arg7 harg7 arg8 harg8 arg9 harg9 arg10 harg10 (BitVec.ofNat 32 (i 2).val) k0_pay251 (heads c i arg3 harg3 arg4 harg4 x0 x1 0) (heads c i arg3 harg3 arg4 harg4 x0 x1 1) (heads c i arg3 harg3 arg4 harg4 x0 x1 2) (heads c i arg3 harg3 arg4 harg4 x0 x1 3) (heads c i arg3 harg3 arg4 harg4 x0 x1 4) (heads c i arg3 harg3 arg4 harg4 x0 x1 5) (heads c i arg3 harg3 arg4 harg4 x0 x1 6) (heads c i arg3 harg3 arg4 harg4 x0 x1 7) ones512 (tri c arg7 harg7 x4) (kernelRun0_A.sl.r_117 c i arg6 harg6 x3) (kernelRun0_A.sl.r_118 c i arg6 harg6 x3) (kernelRun0_A.sl.r_194 c i arg3 harg3 arg4 harg4 arg5 harg5 arg7 harg7 arg10 x0 x1 x2 x4) (kernelRun0_A.sl.r_196 c i arg3 harg3 arg4 harg4 arg5 harg5 arg6 harg6 arg7 harg7 arg9 arg10 x0 x1 x2 x3 x4) (kernelRun0_A.sl.r_197 c i arg3 harg3 arg4 harg4 arg5 harg5 arg7 harg7 arg10 x0 x1 x2 x4) (harg5.unread x2) (harg6.unread x3) (arg9.view.writes (Elt Ideal) arg9.view.junk (highAccList c i arg3 harg3 arg4 harg4 arg5 harg5 arg6 harg6 arg7 harg7 arg9 arg10 x0 x1 x2 x3 x4 8)) (arg10.view.writes (Elt Ideal) arg10.view.junk (highCarryList c i arg3 harg3 arg4 harg4 arg5 harg5 arg7 harg7 arg10 x0 x1 x2 x4 8)) k

theorem pieces_zero : pieces c i arg3 harg3 arg4 harg4 arg5 harg5 arg6 harg6 arg7 harg7 arg8 harg8 arg9 harg9 arg10 harg10 x0 x1 x2 x3 x4 0 = ([], []) := by
  unfold pieces
  rw [pb_k0_t1]

include hx0 hx1 hx2 hx3 hx4 in
theorem held_loop (k : ℕ) (hk : k ≤ (k0_t1_loop i).trips) :
    Held i arg9 arg10 bf qf kf vf
      (arg9.view.writes (Elt Ideal) (arg9.view.writes (Elt Ideal) arg9.view.junk (highAccList c i arg3 harg3 arg4 harg4 arg5 harg5 arg6 harg6 arg7 harg7 arg9 arg10 x0 x1 x2 x3 x4 8)) (pieces c i arg3 harg3 arg4 harg4 arg5 harg5 arg6 harg6 arg7 harg7 arg8 harg8 arg9 harg9 arg10 harg10 x0 x1 x2 x3 x4 k).1)
      (arg10.view.writes (Elt Ideal) (arg10.view.writes (Elt Ideal) arg10.view.junk (highCarryList c i arg3 harg3 arg4 harg4 arg5 harg5 arg7 harg7 arg10 x0 x1 x2 x4 8)) (pieces c i arg3 harg3 arg4 harg4 arg5 harg5 arg6 harg6 arg7 harg7 arg8 harg8 arg9 harg9 arg10 harg10 x0 x1 x2 x3 x4 k).2) k := by
  induction k with
  | zero =>
    rw [pieces_zero, show ∀ f, arg9.view.writes (Elt Ideal) f [] = f from fun _ => rfl, show ∀ f, arg10.view.writes (Elt Ideal) f [] = f from fun _ => rfl]
    intro h r l
    rw [Nat.sub_zero]
    exact ⟨acc_diag c i arg3 harg3 arg4 harg4 arg5 harg5 arg6 harg6 arg7 harg7 arg9 arg10 x0 x1 x2 x3 x4 bf qf kf vf hx0 hx1 hx2 hx3 hx4 h r l,
      carry_diag c i arg3 harg3 arg4 harg4 arg5 harg5 arg7 harg7 arg10 x0 x1 x2 x4 bf qf kf hx0 hx1 hx2 hx4 h r l⟩
  | succ k ih =>
    have h1 := held_succ c i arg3 harg3 arg4 harg4 arg5 harg5 arg6 harg6 arg7 harg7 arg9 arg10 x0 x1 x2 x3 x4 bf qf kf vf hx0 hx1 hx2 hx3 hx4 ⟨k, hk⟩ _ _ (ih (by omega))
    have hs := pb_k0_t1_succ (F := Ideal) Variants.none c none i arg3 harg3 arg4 harg4 arg5 harg5 arg6 harg6 arg7 harg7 arg8 harg8 arg9 harg9 arg10 harg10 (BitVec.ofNat 32 (i 2).val) k0_pay251 (heads c i arg3 harg3 arg4 harg4 x0 x1 0) (heads c i arg3 harg3 arg4 harg4 x0 x1 1) (heads c i arg3 harg3 arg4 harg4 x0 x1 2) (heads c i arg3 harg3 arg4 harg4 x0 x1 3) (heads c i arg3 harg3 arg4 harg4 x0 x1 4) (heads c i arg3 harg3 arg4 harg4 x0 x1 5) (heads c i arg3 harg3 arg4 harg4 x0 x1 6) (heads c i arg3 harg3 arg4 harg4 x0 x1 7) ones512 (tri c arg7 harg7 x4) (kernelRun0_A.sl.r_117 c i arg6 harg6 x3) (kernelRun0_A.sl.r_118 c i arg6 harg6 x3) (kernelRun0_A.sl.r_194 c i arg3 harg3 arg4 harg4 arg5 harg5 arg7 harg7 arg10 x0 x1 x2 x4) (kernelRun0_A.sl.r_196 c i arg3 harg3 arg4 harg4 arg5 harg5 arg6 harg6 arg7 harg7 arg9 arg10 x0 x1 x2 x3 x4) (kernelRun0_A.sl.r_197 c i arg3 harg3 arg4 harg4 arg5 harg5 arg7 harg7 arg10 x0 x1 x2 x4) (harg5.unread x2) (harg6.unread x3) (arg9.view.writes (Elt Ideal) arg9.view.junk (highAccList c i arg3 harg3 arg4 harg4 arg5 harg5 arg6 harg6 arg7 harg7 arg9 arg10 x0 x1 x2 x3 x4 8)) (arg10.view.writes (Elt Ideal) arg10.view.junk (highCarryList c i arg3 harg3 arg4 harg4 arg5 harg5 arg7 harg7 arg10 x0 x1 x2 x4 8)) ⟨k, hk⟩
    rw [show pieces c i arg3 harg3 arg4 harg4 arg5 harg5 arg6 harg6 arg7 harg7 arg8 harg8 arg9 harg9 arg10 harg10 x0 x1 x2 x3 x4 (k + 1) = _ from hs]
    dsimp only
    rw [View.writes_append, View.writes_append, trip_accs, trip_carries]
    exact h1
end Loop
end Cert.KernelIdeal.Attn
-- ==== Proof.Block.lean ====
module

public import proofs.«01_k».proof.Proof.Loop
public import proofs.«01_k».proof.Proof.Gen.KernelIdeal.Frame.RunA

@[expose] public section
set_option maxRecDepth 16384
noncomputable section
namespace Cert.KernelIdeal.Attn
open Cert.KernelIdeal Cert.KernelIdeal.Gen Cert.Row
open Idealize.ShloMosaic Idealize.ShloMosaic.TcCoe

/-! The block's output: each head's columns out of its output buffer. -/

section Loop
variable (c : Dev nD) (i : grid0.Coords)
  (arg3 : Memref sig .tc .smem S8 .f32) (harg3 : arg3.IsWhole) (arg4 : Memref sig .tc .vmem S512x512 .bf16) (harg4 : arg4.IsWhole)
  (arg5 : Memref sig .tc .vmem S4096x512 .bf16) (harg5 : arg5.IsWhole) (arg6 : Memref sig .tc .vmem S4096x512 .bf16) (harg6 : arg6.IsWhole)
  (arg7 : Memref sig .tc .vmem S256x256 .bf16) (harg7 : arg7.IsWhole) (arg8 : Memref sig .tc .vmem S512x512 .f32) (harg8 : arg8.IsWhole)
  (arg9 : Memref sig .tc .vmem S8x512x128 .f32) (harg9 : arg9.IsWhole) (arg10 : Memref sig .tc .vmem S8x512x128 .f32) (harg10 : arg10.IsWhole)
  (x0 : Vec Ideal S8 .f32) (x1 : Vec Ideal S512x512 .bf16) (x2 x3 : Vec Ideal S4096x512 .bf16) (x4 : Vec Ideal S256x256 .bf16)
  (bf : ℕ → EReal) (qf kf : ℕ → ℕ → EReal) (vf : ℕ → ℕ → EReal)

variable (hx0 : ∀ h : Fin 8, x0 (ix1 h) = (bf h)) (hx1 : ∀ r l : Fin 512, x1 (ix2 r l) = (qf r l))
  (hx2 : ∀ (s : Fin 4096) (l : Fin 512), x2 (ix2 s l) = (kf s l))
  (hx3 : ∀ (s : Fin 4096) (l : Fin 512), x3 (ix2 s l) = vf s l) (hx4 : IsTri x4)

/-- Eight heads' outputs side by side, 64 lanes of each. -/
def combine (A : Fin 8 → Vec Ideal S1x512x128 .f32) : FVec Ideal S512x512 .f32 :=
  k0_pay514 k0_pay251 (k0_pay512 k0_pay251 (A 0) (A 1)) (k0_pay513 (A 2)) (A 3) (A 4) (A 5) (A 6) (A 7)

theorem combine_apply (A : Fin 8 → Vec Ideal S1x512x128 .f32) (r l : Fin 512) :
    combine A (ix2 r l) = A ⟨l.val / 64, by omega⟩ (ix3 0 r ⟨l.val % 128, by omega⟩) := by
  have hs : ∀ (a : ℕ) (ha : a < 128) (x y : EReal), Scalar.select (IntOp.cmpi .slt (BitVec.ofNat 32 a) 64#32) x y = if a < 64 then x else y :=
    fun a ha x y => select_lt a 64 (by omega) (by omega) x y
  have hA : ∀ (n m : Fin 8) (a b : ℕ) (ha : a < 128) (hb : b < 128), n.val = m.val → a = b → A n (ix3 0 r ⟨a, ha⟩) = A m (ix3 0 r ⟨b, hb⟩) := by
    intro n m a b ha hb h1 h2; cases Fin.ext h1; subst h2; rfl
  pointwise [combine, k0_pay514, k0_pay512, k0_pay513, k0_pay251]
  have hl := l.isLt
  split_ifs <;> rw [hs _ (by omega)] <;> split_ifs <;> refine hA _ _ _ _ _ _ ?_ ?_ <;> (try simp) <;> omega

/-- What the output buffer holds when the block is done. -/
def accEnd : arg9.view.ty.Contents (Elt Ideal) :=
  arg9.view.writes (Elt Ideal) (arg9.view.writes (Elt Ideal) arg9.view.junk (highAccList c i arg3 harg3 arg4 harg4 arg5 harg5 arg6 harg6 arg7 harg7 arg9 arg10 x0 x1 x2 x3 x4 8)) (pieces c i arg3 harg3 arg4 harg4 arg5 harg5 arg6 harg6 arg7 harg7 arg8 harg8 arg9 harg9 arg10 harg10 x0 x1 x2 x3 x4 (k0_t1_loop i).trips).1

/-- One head of it. -/
def accHead (h : Fin 8) : Vec Ideal S1x512x128 .f32 := arg9.view.readAt (Elt Ideal) (slab 0 512 h (by omega) h.isLt).toLoadRect (accEnd c i arg3 harg3 arg4 harg4 arg5 harg5 arg6 harg6 arg7 harg7 arg8 harg8 arg9 harg9 arg10 harg10 x0 x1 x2 x3 x4)

theorem accHead_word (h : Fin 8) : (![kernelRun0_A.sl.v1217 c i arg3 harg3 arg4 harg4 arg5 harg5 arg6 harg6 arg7 harg7 arg8 harg8 arg9 harg9 arg10 harg10 x0 x1 x2 x3 x4, kernelRun0_A.sl.v1219 c i arg3 harg3 arg4 harg4 arg5 harg5 arg6 harg6 arg7 harg7 arg8 harg8 arg9 harg9 arg10 harg10 x0 x1 x2 x3 x4, kernelRun0_A.sl.v1224 c i arg3 harg3 arg4 harg4 arg5 harg5 arg6 harg6 arg7 harg7 arg8 harg8 arg9 harg9 arg10 harg10 x0 x1 x2 x3 x4, kernelRun0_A.sl.v1226 c i arg3 harg3 arg4 harg4 arg5 harg5 arg6 harg6 arg7 harg7 arg8 harg8 arg9 harg9 arg10 harg10 x0 x1 x2 x3 x4, kernelRun0_A.sl.v1231 c i arg3 harg3 arg4 harg4 arg5 harg5 arg6 harg6 arg7 harg7 arg8 harg8 arg9 harg9 arg10 harg10 x0 x1 x2 x3 x4, kernelRun0_A.sl.v1233 c i arg3 harg3 arg4 harg4 arg5 harg5 arg6 harg6 arg7 harg7 arg8 harg8 arg9 harg9 arg10 harg10 x0 x1 x2 x3 x4, kernelRun0_A.sl.v1238 c i arg3 harg3 arg4 harg4 arg5 harg5 arg6 harg6 arg7 harg7 arg8 harg8 arg9 harg9 arg10 harg10 x0 x1 x2 x3 x4, kernelRun0_A.sl.v1240 c i arg3 harg3 arg4 harg4 arg5 harg5 arg6 harg6 arg7 harg7 arg8 harg8 arg9 harg9 arg10 harg10 x0 x1 x2 x3 x4] h) = accHead c i arg3 harg3 arg4 harg4 arg5 harg5 arg6 harg6 arg7 harg7 arg8 harg8 arg9 harg9 arg10 harg10 x0 x1 x2 x3 x4 h := by
  have ht : Scf.trips (k0_t2_loop i).lb (k0_t2_loop i).ub (k0_t2_loop i).st = 0 := trips2_eq i
  rw [accHead, accEnd, ← View.writes_append]
  fin_cases h
  · show kernelRun0_A.sl.v1217 c i arg3 harg3 arg4 harg4 arg5 harg5 arg6 harg6 arg7 harg7 arg8 harg8 arg9 harg9 arg10 harg10 x0 x1 x2 x3 x4 = _
    rw [kernelRun0_A.sl.v1217, ht, pb_k0_t2]
    rfl
  · show kernelRun0_A.sl.v1219 c i arg3 harg3 arg4 harg4 arg5 harg5 arg6 harg6 arg7 harg7 arg8 harg8 arg9 harg9 arg10 harg10 x0 x1 x2 x3 x4 = _
    rw [kernelRun0_A.sl.v1219, ht, pb_k0_t2]
    rfl
  · show kernelRun0_A.sl.v1224 c i arg3 harg3 arg4 harg4 arg5 harg5 arg6 harg6 arg7 harg7 arg8 harg8 arg9 harg9 arg10 harg10 x0 x1 x2 x3 x4 = _
    rw [kernelRun0_A.sl.v1224, ht, pb_k0_t2]
    rfl
  · show kernelRun0_A.sl.v1226 c i arg3 harg3 arg4 harg4 arg5 harg5 arg6 harg6 arg7 harg7 arg8 harg8 arg9 harg9 arg10 harg10 x0 x1 x2 x3 x4 = _
    rw [kernelRun0_A.sl.v1226, ht, pb_k0_t2]
    rfl
  · show kernelRun0_A.sl.v1231 c i arg3 harg3 arg4 harg4 arg5 harg5 arg6 harg6 arg7 harg7 arg8 harg8 arg9 harg9 arg10 harg10 x0 x1 x2 x3 x4 = _
    rw [kernelRun0_A.sl.v1231, ht, pb_k0_t2]
    rfl
  · show kernelRun0_A.sl.v1233 c i arg3 harg3 arg4 harg4 arg5 harg5 arg6 harg6 arg7 harg7 arg8 harg8 arg9 harg9 arg10 harg10 x0 x1 x2 x3 x4 = _
    rw [kernelRun0_A.sl.v1233, ht, pb_k0_t2]
    rfl
  · show kernelRun0_A.sl.v1238 c i arg3 harg3 arg4 harg4 arg5 harg5 arg6 harg6 arg7 harg7 arg8 harg8 arg9 harg9 arg10 harg10 x0 x1 x2 x3 x4 = _
    rw [kernelRun0_A.sl.v1238, ht, pb_k0_t2]
    rfl
  · show kernelRun0_A.sl.v1240 c i arg3 harg3 arg4 harg4 arg5 harg5 arg6 harg6 arg7 harg7 arg8 harg8 arg9 harg9 arg10 harg10 x0 x1 x2 x3 x4 = _
    rw [kernelRun0_A.sl.v1240, ht, pb_k0_t2]
    rfl

theorem out_pieces : (kernelRun0_A (F := Ideal) c i arg3 harg3 arg4 harg4 arg5 harg5 arg6 harg6 arg7 harg7 arg8 harg8 arg9 harg9 arg10 harg10 x0 x1 x2 x3 x4).1
    = [⟨Rect.unit ![0, 0] S512x512.size inb_S512x512_S512x512_0_0, combine (accHead c i arg3 harg3 arg4 harg4 arg5 harg5 arg6 harg6 arg7 harg7 arg8 harg8 arg9 harg9 arg10 harg10 x0 x1 x2 x3 x4)⟩] := by
  unfold kernelRun0_A
  dsimp only
  rw [show accHead c i arg3 harg3 arg4 harg4 arg5 harg5 arg6 harg6 arg7 harg7 arg8 harg8 arg9 harg9 arg10 harg10 x0 x1 x2 x3 x4 = _ from funext fun h => (accHead_word c i arg3 harg3 arg4 harg4 arg5 harg5 arg6 harg6 arg7 harg7 arg8 harg8 arg9 harg9 arg10 harg10 x0 x1 x2 x3 x4 h).symm]
  rfl

include hx0 hx1 hx2 hx3 hx4 in
/-- The block's output: row `r`, column `l` is the stick-breaking sum of that row's earlier keys. -/
theorem block_apply (r l : Fin 512) :
    combine (accHead c i arg3 harg3 arg4 harg4 arg5 harg5 arg6 harg6 arg7 harg7 arg8 harg8 arg9 harg9 arg10 harg10 x0 x1 x2 x3 x4) (ix2 r l)
      = out (512 * (i 2).val + r) (zrow bf qf kf ⟨l.val / 64, by omega⟩ r) (fun s => vf s l) 0 := by
  rw [combine_apply]
  refine (readAt_slab _ _ 0 512 (by omega) _ r _).trans ?_
  simp only [Nat.zero_add, Fin.eta]
  refine ((held_loop c i arg3 harg3 arg4 harg4 arg5 harg5 arg6 harg6 arg7 harg7 arg8 harg8 arg9 harg9 arg10 harg10 x0 x1 x2 x3 x4 bf qf kf vf hx0 hx1 hx2 hx3 hx4 (k0_t1_loop i).trips le_rfl _ r _).1).trans ?_
  rw [trips_eq, Nat.sub_self]
  dsimp only
  rw [show 128 * (l.val / 64 / 2) + l.val % 128 = l.val by omega]

end Loop
end Cert.KernelIdeal.Attn
-- ==== Proof.Array.lean ====
module

public import proofs.«01_k».proof.Proof.Block
public import proofs.«01_k».proof.Proof.Gen.KernelIdeal.Value
public import Idealize.ShloMosaic.Lib.Pipeline.ValueKit

@[expose] public section
set_option maxRecDepth 16384
noncomputable section
namespace Cert.KernelIdeal.Attn
open Cert.KernelIdeal Cert.KernelIdeal.Gen Cert.Row
open Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_1.index t = ![8 * (grid0.coords t 0).val + (grid0.coords t 2).val, 0]
    ∧ win0_2.index t = ![(grid0.coords t 0).val, 0] ∧ win0_3.index t = ![(grid0.coords t 0).val, 0] ∧ win0_4.index t = ![0, 0]
    ∧ win0_5.index t = ![8 * (grid0.coords t 0).val + (grid0.coords t 2).val, 0] ∧ win0_0.index t = ![0] :=
  (by decide +kernel : ∀ t : Fin grid0.N, _)

/-- An argument's element, by natural numbers. -/
def at4 (X : FVec Ideal S4x4096x8x64 .f32) (b s h d : ℕ) : EReal :=
  if H : b < 4 ∧ s < 4096 ∧ h < 8 ∧ d < 64 then X (ix4 ⟨b, H.1⟩ ⟨s, H.2.1⟩ ⟨h, H.2.2.1⟩ ⟨d, H.2.2.2⟩) else 0

theorem coord0 (t : Fin cfg0.N) : (grid0.coords t 0).val < 4 := (grid0.coords t 0).isLt
theorem coord2 (t : Fin cfg0.N) : (grid0.coords t 2).val < 8 := (grid0.coords t 2).isLt

theorem eighth : Ideal.ofBits FTy.f32 1040187392#32 = ((1 / 8 : ℝ) : EReal) := by
  simp [Ideal.ofBits, Ideal.ieee]
  rw [← EReal.coe_mul]
  norm_num

theorem blk1 (t : Fin cfg0.N) (r l : Fin 512) : iblk m c 1 t (ix2 r l)
    = at4 (m ((c : Thread nD τ).loc main_arg0)) (grid0.coords t 0).val (512 * (grid0.coords t 2).val + r) (l / 64) (l % 64) * ((1 / 8 : ℝ) : EReal) := by
  have h0 := coord0 t
  have h2 := coord2 t
  blk_simp [iblk, idx t]
  entry_read
  pointwise
  rw [eighth, at4, dif_pos (by omega)]
  congr 1
  blk_ext [idx t]
theorem blk2 (t : Fin cfg0.N) (s : Fin 4096) (l : Fin 512) : iblk m c 2 t (ix2 s l)
    = at4 (m ((c : Thread nD τ).loc main_arg1)) (grid0.coords t 0).val s (l / 64) (l % 64) := by
  have h0 := coord0 t
  blk_simp [iblk, idx t]
  entry_read
  pointwise
  rw [at4, dif_pos (by omega)]
  blk_ext [idx t]
theorem blk3 (t : Fin cfg0.N) (s : Fin 4096) (l : Fin 512) : iblk m c 3 t (ix2 s l)
    = at4 (m ((c : Thread nD τ).loc main_arg2)) (grid0.coords t 0).val s (l / 64) (l % 64) := by
  have h0 := coord0 t
  blk_simp [iblk, idx t]
  entry_read
  pointwise
  rw [at4, dif_pos (by omega)]
  blk_ext [idx t]
theorem gt_cast (a b : ℕ) (ha : a < 2 ^ 31) (hb : b < 2 ^ 31) :
    (FloatOps.uitofp (F := Ideal) FTy.bf16 (IntOp.cmpi .sgt (BitVec.ofNat 32 a) (BitVec.ofNat 32 b)) : EReal) = if b < a then 1 else 0 := by
  rw [WordCmp.cmpi_sgt_ofNat (by simpa using ha) (by simpa using hb)]
  by_cases h : b < a <;> simp [h, FloatOps.uitofp]
theorem blk4 (t : Fin cfg0.N) (s l : Fin 256) : iblk m c 4 t (ix2 s l) = if l.val < s.val then (1 : EReal) else 0 := by
  have e : ∀ a : Fin 2, ((((View.whole main_v14).slice (win0_4.rect t)).emb (ix2 s l)) a : ℕ) = (ix2 s l : S256x256.Idx) a := by
    intro a
    fin_cases a <;> blk_simp [idx t]
  blk_simp [iblk, idx t]
  entry_read
  pointwise
  rw [e, e]
  exact gt_cast s l (by omega) (by omega)
theorem blk0 (t : Fin cfg0.N) (h : Fin 8) : iblk m c 0 t (ix1 h) = m ((c : Thread nD τ).loc main_arg3) (ix1 h) := by
  blk_ext [iblk, V, idx t]

/-! ## The result array -/

/-- An argument's element of one axis, by a natural number. -/
def at1 (X : FVec Ideal S8 .f32) (h : ℕ) : EReal := if H : h < 8 then X (ix1 ⟨h, H⟩) else 0

/-- The product of query `t` and key `s`, of head `h` in sequence `b`, scaled. -/
def scaled (Q K : FVec Ideal S4x4096x8x64 .f32) (b h t s : ℕ) : EReal :=
  (∑ d : Fin 64, at4 Q b t h d * at4 K b s h d) * ((1 / 8 : ℝ) : EReal)

/-- The score of query `t` and key `s`, of head `h` in sequence `b`. -/
def score (Q K : FVec Ideal S4x4096x8x64 .f32) (B : FVec Ideal S8 .f32) (b h t s : ℕ) : EReal := scaled Q K b h t s + at1 B h

/-- Stick-breaking attention: row `R` is query `R % 4096` of sequence `R / 4096`, column `l` is lane `l % 64` of head `l / 64`. -/
def attn (Q K W : FVec Ideal S4x4096x8x64 .f32) (B : FVec Ideal S8 .f32) : FVec Ideal S16384x512 .f32 := fun j =>
  out ((j 0 : ℕ) % 4096) (score Q K B ((j 0 : ℕ) / 4096) ((j 1 : ℕ) / 64) ((j 0 : ℕ) % 4096))
    (fun s => at4 W ((j 0 : ℕ) / 4096) s ((j 1 : ℕ) / 64) ((j 1 : ℕ) % 64)) 0

/-- A nonnegative factor goes into a sum. -/
theorem sum_scaled {ι : Type*} (s : Finset ι) (f : ι → EReal) (x : ℝ) (hx : 0 ≤ x) : (∑ i ∈ s, f i) * (x : EReal) = ∑ i ∈ s, f i * (x : EReal) := by
  classical
  induction s using Finset.induction_on with
  | empty => simp
  | insert a s ha ih =>
    rw [Finset.sum_insert ha, Finset.sum_insert ha, EReal.right_distrib_of_nonneg_of_ne_top (by exact_mod_cast hx) (EReal.coe_ne_top _), ih]

theorem scores (Q K : FVec Ideal S4x4096x8x64 .f32) (B : FVec Ideal S8 .f32) (b n : ℕ) (r : ℕ) (h : Fin 8) (s : ℕ) :
    zrow (at1 B) (fun r l => at4 Q b (n + r) (l / 64) (l % 64) * ((1 / 8 : ℝ) : EReal)) (fun s l => at4 K b s (l / 64) (l % 64)) h r s
      = scaled Q K b h (n + r) s + biasParts (at1 B h) := by
  rw [zrow, dot, scaled, sum_scaled _ _ _ (by norm_num)]
  congr 1
  refine Finset.sum_congr rfl fun d _ => ?_
  have h1 : (128 * (h.val / 2) + (64 * (h.val % 2) + d.val)) / 64 = h := by omega
  have h2 : (128 * (h.val / 2) + (64 * (h.val % 2) + d.val)) % 64 = d := by omega
  rw [h1, h2]
  exact mul_right_comm _ _ _

/-- Block `t` of the result. -/
theorem point (t : Fin cfg0.N) (y : S512x512.Idx) : outsAt0 m c t y
    = attn (m ((c : Thread nD τ).loc main_arg0)) (m ((c : Thread nD τ).loc main_arg1)) (m ((c : Thread nD τ).loc main_arg2))
        (m ((c : Thread nD τ).loc main_arg3)) (((cfg0.win 5).blk t).view.emb y) := by
  have hy : y = ix2 (y 0) (y 1) := by funext a; fin_cases a <;> rfl
  have h0 := coord0 t
  have h2 := coord2 t
  have hl : (outsAt0 m c t : S512x512.Idx → EReal) = combine (accHead c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t)) := by
    unfold outsAt0 out0_A_5
    rw [out_pieces]
    funext y
    refine View.read_writes_cons_unit_of_mem _ _ inb_S512x512_S512x512_0_0 _ [] y y rfl fun a => ?_
    fin_cases a <;> simp
  rw [hl]
  refine ((congrArg _ hy).trans (block_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t)
    (at1 (m ((c : Thread nD τ).loc main_arg3)))
    (fun r l => at4 (m ((c : Thread nD τ).loc main_arg0)) (grid0.coords t 0).val (512 * (grid0.coords t 2).val + r) (l / 64) (l % 64) * ((1 / 8 : ℝ) : EReal))
    (fun s l => at4 (m ((c : Thread nD τ).loc main_arg1)) (grid0.coords t 0).val s (l / 64) (l % 64))
    (fun s l => at4 (m ((c : Thread nD τ).loc main_arg2)) (grid0.coords t 0).val s (l / 64) (l % 64))
    (fun h => ?_) (fun r l => ?_) (fun s l => ?_) (fun s l => blk3 m c t s l) (fun j l => blk4 m c t j l) (y 0) (y 1))).trans ?_
  · rw [blk0, at1, dif_pos h.isLt]
  · rw [blk1]
  · rw [blk2]
  · have e0 : ((((cfg0.win 5).blk t).view.emb y) 0 : ℕ) = 4096 * (grid0.coords t 0).val + (512 * (grid0.coords t 2).val + (y 0).val) := by
      blk_simp [idx t]; omega
    have e1 : ((((cfg0.win 5).blk t).view.emb y) 1 : ℕ) = (y 1).val := by
      blk_simp [idx t]
    have b0 : (y 0).val < 512 := (y 0).isLt
    have b1 : (y 1).val < 512 := (y 1).isLt
    rw [attn, e0, e1]
    rw [show (4096 * (grid0.coords t 0).val + (512 * (grid0.coords t 2).val + (y 0).val)) % 4096 = 512 * (grid0.coords t 2).val + (y 0).val by omega,
      show (4096 * (grid0.coords t 0).val + (512 * (grid0.coords t 2).val + (y 0).val)) / 4096 = (grid0.coords t 0).val by omega]
    refine Eq.trans ?_ (out_biasParts _ _ _ _ _)
    congr 1
    funext s
    exact scores _ _ _ _ _ _ ⟨(y 1).val / 64, by omega⟩ s

/-- The result array. -/
theorem final : (dats m 0 c).arrAt 5 cfg0.N
    = attn (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t _ y => ?_
  blk_simp
  rw [after0_5]
  exact point m c t y
end Cert.KernelIdeal.Attn
-- ==== Proof.Window.lean ====
module

public import proofs.«01_k».proof.Proof.Row
public import proofs.«01_k».proof.Proof.Gen.ReferenceIdeal.Read

@[expose] public section
set_option maxRecDepth 16384
noncomputable section
namespace Cert.Row
open Cert.ReferenceIdeal
open Idealize.ShloMosaic Idealize.ShloMosaic.TcCoe

/-- A left fold of additions is the sum. -/
theorem foldl_sum {ι : Type} (l : List ι) (g : ι → EReal) (a : EReal) :
    l.foldl (fun r k => r + g k) a = a + (l.map g).sum := by
  induction l generalizing a with
  | nil => simp
  | cons k l ih => rw [List.foldl_cons, ih, List.map_cons, List.sum_cons, add_assoc]

/-- The window of one row along the last axis. -/
abbrev Win : Shape := ⟨4, ![1, 1, 1, 4096]⟩

theorem win_pos (n : Fin Win.numel) : (Win.rowMajor.symm n 0).val = 0 ∧ (Win.rowMajor.symm n 1).val = 0
    ∧ (Win.rowMajor.symm n 2).val = 0 ∧ (Win.rowMajor.symm n 3).val = n.val := by
  have h0 : (Win.rowMajor.symm n 0).val < 1 := (Win.rowMajor.symm n 0).isLt
  have h1 : (Win.rowMajor.symm n 1).val < 1 := (Win.rowMajor.symm n 1).isLt
  have h2 : (Win.rowMajor.symm n 2).val < 1 := (Win.rowMajor.symm n 2).isLt
  have e : (Win.rowMajor (Win.rowMajor.symm n)).val = n.val := by rw [Equiv.apply_symm_apply]
  rw [Shape.rowMajor_val_four] at e
  change ((((Win.rowMajor.symm n 0).val * 1 + (Win.rowMajor.symm n 1).val) * 1 + (Win.rowMajor.symm n 2).val) * 4096
    + (Win.rowMajor.symm n 3).val) = n.val at e
  omega

/-- The sum from each position of a row to its end. -/
theorem tail_sum (x : FVec Ideal S4x8x4096x4096 .f32) (init : FVec Ideal S_ .f32) (h) (hu) (hi : init (Shape.Idx.first hu) = 0)
    (X : ℕ → EReal) (b : Fin 4) (q : Fin 8) (t s : Fin 4096) (hX : ∀ j : Fin 4096, x (ix4 b q t j) = X j.val) :
    Host.reduceWindowAdd (F := Ideal) (φ := .f32) (s := S4x8x4096x4096) (t := S4x8x4096x4096) (u := S_)
      ![1, 1, 1, 4096] ![1, 1, 1, 1] ![0, 0, 0, 0] ![0, 0, 0, 4095] x init h hu (ix4 b q t s)
      = ∑ j ∈ Finset.Ico s.val 4096, X j := by
  unfold Host.reduceWindowAdd
  rw [Ideal.hostReduceWindowAdd_def, hi]
  unfold Ideal.hostReduceWindowAdd Host.reduceWindow
  dsimp only
  rw [foldl_sum, zero_add, ← Fin.sum_univ_def]
  have hn : Win.numel = 4096 := by decide
  have hb := b.isLt
  have hq := q.isLt
  have ht := t.isLt
  have hs := s.isLt
  refine (Finset.sum_congr rfl (g := fun n => if s.val + n.val < 4096 then X (s.val + n.val) else 0) fun n _ => ?_).trans ?_
  · obtain ⟨w0, w1, w2, w3⟩ := win_pos n
    have hn' : n.val < 4096 := lt_of_lt_of_eq n.isLt hn
    have c0 : b.val * 1 + (Win.rowMajor.symm n 0).val = b.val := by omega
    have c1 : q.val * 1 + (Win.rowMajor.symm n 1).val = q.val := by omega
    have c2 : t.val * 1 + (Win.rowMajor.symm n 2).val = t.val := by omega
    have c3 : s.val * 1 + (Win.rowMajor.symm n 3).val = s.val + n.val := by omega
    split
    · next hin =>
      have h3 := (hin 3).2
      change s.val * 1 + (Win.rowMajor.symm n 3).val - 0 < 4096 at h3
      rw [if_pos (by omega)]
      refine (congrArg x (funext fun a => Fin.ext ?_)).trans (hX ⟨s.val + n.val, by omega⟩)
      match a with
      | ⟨0, _⟩ => exact c0
      | ⟨1, _⟩ => exact c1
      | ⟨2, _⟩ => exact c2
      | ⟨3, _⟩ => exact c3
    · next hin =>
      rw [if_neg fun hle => hin fun a => by
        match a with
        | ⟨0, _⟩ => exact ⟨Nat.zero_le _, by change b.val * 1 + (Win.rowMajor.symm n 0).val - 0 < 4; omega⟩
        | ⟨1, _⟩ => exact ⟨Nat.zero_le _, by change q.val * 1 + (Win.rowMajor.symm n 1).val - 0 < 8; omega⟩
        | ⟨2, _⟩ => exact ⟨Nat.zero_le _, by change t.val * 1 + (Win.rowMajor.symm n 2).val - 0 < 4096; omega⟩
        | ⟨3, _⟩ => exact ⟨Nat.zero_le _, by change s.val * 1 + (Win.rowMajor.symm n 3).val - 0 < 4096; omega⟩]
  · rw [Fin.sum_univ_eq_sum_range (fun n => if s.val + n < 4096 then X (s.val + n) else 0) Win.numel, hn, Finset.sum_Ico_eq_sum_range,
      ← Finset.sum_filter]
    refine Finset.sum_congr (Finset.ext fun n => ?_) fun _ _ => rfl
    simp only [Finset.mem_filter, Finset.mem_range]
    omega

end Cert.Row

end
-- ==== Proof.Ref.lean ====
module

public import proofs.«01_k».proof.Proof.Array
public import proofs.«01_k».proof.Proof.Window

@[expose] public section
set_option maxRecDepth 16384
noncomputable section
namespace Cert.ReferenceIdeal.Attn
open Cert.ReferenceIdeal Cert.ReferenceIdeal.Gen Cert.ReferenceIdeal.Read Cert.Row
open Cert.KernelIdeal.Attn (at1 at4 scaled score attn eighth)
open Idealize.ShloMosaic Idealize.ShloMosaic.TcCoe

variable (Q K W : FVec Ideal S4x4096x8x64 .f32) (B : FVec Ideal S8 .f32)
variable (b : Fin 4) (h : Fin 8) (t s : Fin 4096)

theorem zero_bits : Ideal.ofBits FTy.f32 0#32 = (0 : EReal) := by
  simp [Ideal.ofBits, Ideal.ieee]

/-- The score of a query and a key. -/
theorem z_apply : val_main_v5 (F := Ideal) Q K B (ix4 b h t s) = score Q K B b h t s := by
  have hb : val_main_v4 (F := Ideal) B (ix4 b h t s) = at1 B h := by
    rw [val_main_v4_apply, val_main_v3_apply, at1, dif_pos h.isLt]
    have e : idx_main_v3 (idx_main_v4 (ix4 b h t s)) = ix1 h := by funext a; fin_cases a; rfl
    rw [e]
  have hd : val_main_v0 (F := Ideal) Q K (ix4 b h t s) = ∑ d : Fin 64, at4 Q b t h d * at4 K b s h d := by
    rw [val_main_v0_apply]
    refine Finset.sum_congr rfl fun d _ => ?_
    rw [at4, at4, dif_pos ⟨b.isLt, t.isLt, h.isLt, d.isLt⟩, dif_pos ⟨b.isLt, s.isLt, h.isLt, d.isLt⟩]
    have e1 : lidx_main_v0 (ix4 b h t s) d = ix4 b t h d := by funext a; fin_cases a <;> rfl
    have e2 : ridx_main_v0 (ix4 b h t s) d = ix4 b s h d := by funext a; fin_cases a <;> rfl
    rw [e1, e2]
  rw [val_main_v5_apply, val_main_v2_apply, val_main_v1_apply, val_main_cst_apply, hb, hd]
  show (_ : EReal) * Ideal.ofBits FTy.f32 0x3E000000#32 + _ = _
  rw [eighth]
  rfl

/-- The causal mask: the key comes before the query. -/
theorem mask_apply {M : Type} (x y : M) :
    Scalar.select (val_main_v11 (F := Ideal) (ix2 t s)) x y = if s.val < t.val then x else y := by
  rw [val_main_v11_apply, val_main_v9_apply, val_main_v10_apply, val_main_v7_apply, val_main_v8_apply, val_main_v6_apply, val_main_v6_apply]
  exact Cert.KernelIdeal.Attn.select_lt s.val t.val (by omega) (by omega) x y

/-- The softplus as the reference spells it. -/
theorem sp_stage (w y : EReal) :
    Scalar.select (FloatOps.cmpf (F := Ideal) (φ := .f32) .une (FloatOps.subf (F := Ideal) (φ := .f32) w (FloatOps.ofBits .f32 0#32))
        (FloatOps.subf (F := Ideal) (φ := .f32) w (FloatOps.ofBits .f32 0#32))) y
      (FloatOps.addf (F := Ideal) (φ := .f32) (FloatOps.maximumf (F := Ideal) (φ := .f32) w (FloatOps.ofBits .f32 0#32))
        (FloatOps.hostUnary (F := Ideal) (φ := .f32) .log1p (FloatOps.hostUnary (F := Ideal) (φ := .f32) .exp
          (FloatOps.hostNegf (F := Ideal) (φ := .f32) (FloatOps.hostAbsf (F := Ideal) (φ := .f32)
            (FloatOps.subf (F := Ideal) (φ := .f32) w (FloatOps.ofBits .f32 0#32)))))))
      = sp w := by
  have hz : (FloatOps.ofBits (F := Ideal) .f32 0#32 : EReal) = 0 := zero_bits
  have hs : FloatOps.subf (F := Ideal) (φ := .f32) w (FloatOps.ofBits .f32 0#32) = w := by
    rw [hz]; exact sub_zero _
  rw [hs, hz]
  have hc : FloatOps.cmpf (F := Ideal) (φ := .f32) .une w w = 0#1 := by
    simp [FloatOps.cmpf, Ideal.cmp]
  rw [hc, sp, zero_sub]
  rfl

theorem v13_apply : val_main_v13 (F := Ideal) Q K B (ix4 b h t s) = -sp (score Q K B b h t s) := by
  simp only [val_main_v13_apply, val_main_call0_v1_apply, val_main_call0_call0_v4_apply, val_main_call0_call0_v11_apply, val_main_call0_call0_v1_apply,
    val_main_call0_call0_v10_apply, val_main_call0_call0_v9_apply, val_main_call0_call0_v8_apply, val_main_call0_call0_v7_apply, val_main_call0_call0_v3_apply,
    val_main_call0_call0_v0_apply, val_main_call0_call0_v2_apply, val_main_call0_call0_cst_apply, val_main_call0_v0_apply, val_main_v12_apply,
    z_apply Q K B b h t s]
  refine (congrArg (FloatOps.hostNegf (F := Ideal) (φ := .f32)) (sp_stage _ _)).trans ?_
  exact congrArg (fun x => -sp x) (neg_neg (score Q K B b h t s))

theorem v17_apply : val_main_v17 (F := Ideal) Q K B (ix4 b h t s) = -sp (-score Q K B b h t s) := by
  simp only [val_main_v17_apply, val_main_call3_v1_apply, val_main_call3_call0_v4_apply, val_main_call3_call0_v11_apply, val_main_call3_call0_v1_apply,
    val_main_call3_call0_v10_apply, val_main_call3_call0_v9_apply, val_main_call3_call0_v8_apply, val_main_call3_call0_v7_apply, val_main_call3_call0_v3_apply,
    val_main_call3_call0_v0_apply, val_main_call3_call0_v2_apply, val_main_call3_call0_cst_apply, val_main_call3_v0_apply,
    z_apply Q K B b h t s]
  exact congrArg (FloatOps.hostNegf (F := Ideal) (φ := .f32)) (sp_stage _ _)

theorem v14_apply : val_main_v14 (F := Ideal) Q K B (ix4 b h t s) = -cost t (score Q K B b h t) s := by
  rw [val_main_v14_apply, val_main_call1_v1_apply, val_main_call1_v2_apply, v13_apply Q K B b h t s]
  refine (mask_apply t s _ _).trans ?_
  rw [cost]
  split_ifs
  · rfl
  · rw [neg_zero]; exact zero_bits

theorem v15_apply : val_main_v15 (F := Ideal) Q K B (ix4 b h t s) = -later t (score Q K B b h t) s := by
  refine (tail_sum _ _ _ _ ?_ (fun j => -cost t (score Q K B b h t) j) b h t s fun j => v14_apply Q K B b h t j).trans ?_
  · exact zero_bits
  · rw [Row.neg_sum _ _ fun j => cost_nonneg _ _ j, later]

theorem v20_apply : val_main_v20 (F := Ideal) Q K B (ix4 b h t s) = weight t (score Q K B b h t) s := by
  rw [val_main_v20_apply, val_main_call4_v1_apply, val_main_call4_v2_apply, val_main_v19_apply, val_main_v18_apply,
    v17_apply Q K B b h t s, val_main_v16_apply, v15_apply Q K B b h t s, v14_apply Q K B b h t s]
  refine (mask_apply t s _ _).trans ?_
  split_ifs with hs
  · rw [weight, if_pos hs, Ideal.hostUnary_exp_def, ← weight_log _ _ (later_nonneg t _ (s + 1)),
      ← later_split t _ s (s + 1) (by omega) (by omega)]
    simp only [Nat.Ico_succ_singleton, Finset.sum_singleton, cost, if_pos hs]
    rfl
  · rw [weight, if_neg hs]; exact zero_bits

/-- The reference's result is the attention. -/
theorem result : val_main_v23 (F := Ideal) Q K W B = attn Q K W B := by
  funext j
  have h0 : (j 0).val < 16384 := (j 0).isLt
  have h1 : (j 1).val < 512 := (j 1).isLt
  rw [val_main_v23_apply, val_main_v22_apply, val_main_v21_apply, attn, out, Nat.Ico_zero_eq_range, ← Fin.sum_univ_eq_sum_range]
  refine Finset.sum_congr rfl fun s _ => ?_
  have e : ridx_main_v21 (idx_main_v22 (idx_main_v23 j)) s = ix4 (⟨(j 0).val / 4096, by omega⟩ : Fin 4) (⟨(j 1).val / 64, by omega⟩ : Fin 8)
      (⟨(j 0).val % 4096, by omega⟩ : Fin 4096) s := by
    funext a
    refine Fin.ext ?_
    match a with
    | ⟨0, _⟩ => show ((j 0).val * 512 + (j 1).val) / 2097152 = (j 0).val / 4096; omega
    | ⟨1, _⟩ => show ((j 0).val * 512 + (j 1).val) / 64 % 8 = (j 1).val / 64; omega
    | ⟨2, _⟩ => show ((j 0).val * 512 + (j 1).val) / 512 % 4096 = (j 0).val % 4096; omega
    | ⟨3, _⟩ => rfl
  have f : lidx_main_v21 (idx_main_v22 (idx_main_v23 j)) s = ix4 (⟨(j 0).val / 4096, by omega⟩ : Fin 4) s (⟨(j 1).val / 64, by omega⟩ : Fin 8)
      (⟨(j 1).val % 64, by omega⟩ : Fin 64) := by
    funext a
    refine Fin.ext ?_
    match a with
    | ⟨0, _⟩ => show ((j 0).val * 512 + (j 1).val) / 2097152 = (j 0).val / 4096; omega
    | ⟨1, _⟩ => rfl
    | ⟨2, _⟩ => show ((j 0).val * 512 + (j 1).val) / 64 % 8 = (j 1).val / 64; omega
    | ⟨3, _⟩ => show ((j 0).val * 512 + (j 1).val) % 64 = (j 1).val % 64; omega
  rw [e, f, v20_apply Q K B _ _ _ s, at4, dif_pos ⟨by omega, s.isLt, by omega, by omega⟩, mul_comm]

end Cert.ReferenceIdeal.Attn

end
-- ==== Proof.Layer.lean ====
module

public import Idealize.ShloMosaic.Lib.Pipeline.ValueKit

@[expose] public section
noncomputable section
namespace Cert.Layer
open Idealize.ShloMosaic
open scoped BigOperators

/-! What one row of the feed-forward and merge layers computes, over the extended reals. -/

/-- The mean of a row of 1024 elements. -/
def mean (z : Fin 1024 → EReal) : EReal := Ideal.div (∑ k, z k) (Ideal.ofBits FTy.f32 1149239296#32)
/-- The mean of the squared distances from the mean. -/
def var (z : Fin 1024 → EReal) : EReal := mean fun k => (z k - mean z) * (z k - mean z)
/-- The layer norm of a row, at column `j`, with gain `g` and offset `b`. -/
def norm (z g b : Fin 1024 → EReal) (j : Fin 1024) : EReal :=
  (z j - mean z) * Ideal.rsqrt (var z + Ideal.ofBits FTy.f32 925353388#32) * g j + b j
/-- The residual sum that is normalized. -/
def resid (x f : Fin 1024 → EReal) (j : Fin 1024) : EReal :=
  Ideal.ofBits FTy.f32 1066940400#32 * x j + Ideal.ofBits FTy.f32 1056964608#32 * f j

/-- A product with the logistic of itself. -/
def silu (a : EReal) : EReal := a * Ideal.logistic a
/-- A gated hidden unit of the row `x`. -/
def gatedUnit (x wg wu : Fin 1024 → EReal) : EReal := silu (∑ d, x d * wg d) * ∑ d, x d * wu d
/-- The feed-forward layer of the row `x`, before the norm. -/
def feed (x : Fin 1024 → EReal) (W : Fin 1024 → Fin 5632 → EReal) (V : Fin 2816 → Fin 1024 → EReal) (j : Fin 1024) : EReal :=
  ∑ k : Fin 2816, gatedUnit x (fun d => W d ⟨k, by omega⟩) (fun d => W d ⟨2816 + k, by omega⟩) * V k j

/-- The two branches' rows through their weights, each under its gate. -/
def joined (x : Fin 1024 → EReal) (p q : Fin 512 → EReal) (G : Fin 1024 → Fin 2048 → EReal) (B : Fin 1024 → Fin 1024 → EReal) (j : Fin 1024) : EReal :=
  Ideal.logistic (∑ d, x d * G d ⟨j, by omega⟩) * (∑ d : Fin 512, p d * B ⟨d, by omega⟩ j)
    + Ideal.logistic (∑ d, x d * G d ⟨1024 + j, by omega⟩) * ∑ d : Fin 512, q d * B ⟨512 + d, by omega⟩ j
/-- The merged branches added to the row `x`. -/
def merged (x : Fin 1024 → EReal) (p q : Fin 512 → EReal) (G : Fin 1024 → Fin 2048 → EReal) (B O : Fin 1024 → Fin 1024 → EReal) (j : Fin 1024) : EReal :=
  Ideal.ofBits FTy.f32 1066940400#32 * x j + ∑ k, joined x p q G B k * O k j

theorem word_zero : Ideal.ofBits FTy.f32 0#32 = (0 : EReal) := by
  simp [Ideal.ofBits, Ideal.ieee]
theorem word_one : Ideal.ofBits FTy.f32 1065353216#32 = (1 : EReal) := by
  simp [Ideal.ofBits, Ideal.ieee]
  rw [← EReal.coe_mul]
  norm_num

/-- A sum over 2816 columns is the sum of its five parts of 512 and its part of 256. -/
theorem sum_chunks (f : Fin 2816 → EReal) : ∑ k, f k
    = ∑ k : Fin 512, f ⟨k, by omega⟩ + ∑ k : Fin 512, f ⟨512 + k, by omega⟩ + ∑ k : Fin 512, f ⟨1024 + k, by omega⟩
      + ∑ k : Fin 512, f ⟨1536 + k, by omega⟩ + ∑ k : Fin 512, f ⟨2048 + k, by omega⟩ + ∑ k : Fin 256, f ⟨2560 + k, by omega⟩ := by
  let F : ℕ → EReal := fun n => if h : n < 2816 then f ⟨n, h⟩ else 0
  have hF : ∀ (n : ℕ) (h : n < 2816), f ⟨n, h⟩ = F n := fun n h => by simp [F, h]
  have h0 : ∀ k : Fin 2816, f k = F k := fun k => hF k k.isLt
  simp only [hF, h0]
  rw [← Finset.sum_range (n := 2816) (f := F), ← Finset.sum_range (n := 512) (f := F), ← Finset.sum_range (f := fun n => F (512 + n)), ← Finset.sum_range (f := fun n => F (1024 + n)),
    ← Finset.sum_range (f := fun n => F (1536 + n)), ← Finset.sum_range (f := fun n => F (2048 + n)), ← Finset.sum_range (f := fun n => F (2560 + n)),
    show 2816 = 512 + 512 + 512 + 512 + 512 + 256 from rfl]
  simp only [Finset.sum_range_add]
end Cert.Layer
-- ==== Proof.Ffn.lean ====
module

public import proofs.«01_k».proof.Proof.Layer
public import proofs.«01_k».proof.Proof.Gen.Kernel2Ideal.Frame
public import proofs.«01_k».proof.Proof.Gen.Kernel2Ideal.Value

@[expose] public section
set_option maxRecDepth 16384
noncomputable section
namespace Cert.Kernel2Ideal.Ffn
open Cert.Kernel2Ideal Cert.Kernel2Ideal.Gen Cert.Layer
open Idealize.ShloMosaic Idealize.ShloMosaic.TcCoe Idealize.SL.Sem
open Idealize.ShloMosaic.Pipeline (Dat)
open scoped BigOperators

/-! The feed-forward layer's kernel: a block of 1024 rows, its hidden units in six chunks of columns. -/

section Parts
variable (X : Vec Ideal S1024x1024 .f32) (G U : Vec Ideal S1024x2816 .bf16) (V : Vec Ideal S2816x1024 .bf16)

/-- Row `r` of a block. -/
def row (X : Vec Ideal S1024x1024 .f32) (r : Fin 1024) : Fin 1024 → EReal := fun d => X (ix2 r d)
/-- A hidden unit of row `r`: column `n` of the two halves of the first weights. -/
def unit (r : Fin 1024) (n : Fin 2816) : EReal := gatedUnit (row X r) (fun d => G (ix2 d n)) (fun d => U (ix2 d n))

theorem unit_eq (r : Fin 1024) (n : Fin 2816) : unit X G U r n
    = (∑ d, X (ix2 r d) * G (ix2 d n)) * Ideal.logistic (∑ d, X (ix2 r d) * G (ix2 d n)) * ∑ d, X (ix2 r d) * U (ix2 d n) := rfl

/-- Row `r`'s hidden units through the second weights. -/
def mix (r : Fin 1024) : Fin 1024 → EReal := fun j => ∑ n, unit X G U r n * V (ix2 n j)

/-- The block before the norm, less each row's mean. -/
def centered : FVec Ideal S1024x1024 .f32 := k0_pay20 (k0_pay12 (k0_pay7 X (View.ld G (Rect.unit (s := S1024x2816) ![0, 1024] ![1024, 512] inb_S1024x2816_S1024x512_0_1024))) (k0_pay8 X (View.ld U (Rect.unit (s := S1024x2816) ![0, 1024] ![1024, 512] inb_S1024x2816_S1024x512_0_1024))))
    (k0_pay13 (k0_pay9 X (View.ld G (Rect.unit (s := S1024x2816) ![0, 1536] ![1024, 512] inb_S1024x2816_S1024x512_0_1536))) (k0_pay10 X (View.ld U (Rect.unit (s := S1024x2816) ![0, 1536] ![1024, 512] inb_S1024x2816_S1024x512_0_1536))))
    (k0_pay14 (k0_pay2 X) (k0_pay11 (View.ld G (Rect.unit (s := S1024x2816) ![0, 2048] ![1024, 512] inb_S1024x2816_S1024x512_0_2048))) (constant S1024x512 FTy.f32 0#32) (View.ld U (Rect.unit (s := S1024x2816) ![0, 2048] ![1024, 512] inb_S1024x2816_S1024x512_0_2048)))
    (k0_pay15 (k0_pay2 X) (View.ld G (Rect.unit (s := S1024x2816) ![0, 2560] ![1024, 256] inb_S1024x2816_S1024x256_0_2560)) (View.ld U (Rect.unit (s := S1024x2816) ![0, 2560] ![1024, 256] inb_S1024x2816_S1024x256_0_2560)))
    (k0_pay16 (k0_pay3 X (View.ld G (Rect.unit (s := S1024x2816) ![0, 0] ![1024, 512] inb_S1024x2816_S1024x512_0_0))) (k0_pay4 X (View.ld U (Rect.unit (s := S1024x2816) ![0, 0] ![1024, 512] inb_S1024x2816_S1024x512_0_0))) (k0_pay5 X (View.ld G (Rect.unit (s := S1024x2816) ![0, 512] ![1024, 512] inb_S1024x2816_S1024x512_0_512))) (k0_pay6 X (View.ld U (Rect.unit (s := S1024x2816) ![0, 512] ![1024, 512] inb_S1024x2816_S1024x512_0_512))) (View.ld V (Rect.unit (s := S2816x1024) ![0, 0] ![512, 1024] inb_S2816x1024_S512x1024_0_0)) (View.ld V (Rect.unit (s := S2816x1024) ![512, 0] ![512, 1024] inb_S2816x1024_S512x1024_512_0)))
    (k0_pay17 (View.ld V (Rect.unit (s := S2816x1024) ![1024, 0] ![512, 1024] inb_S2816x1024_S512x1024_1024_0))) (View.ld V (Rect.unit (s := S2816x1024) ![1536, 0] ![512, 1024] inb_S2816x1024_S512x1024_1536_0)) (View.ld V (Rect.unit (s := S2816x1024) ![2048, 0] ![512, 1024] inb_S2816x1024_S512x1024_2048_0)) (View.ld V (Rect.unit (s := S2816x1024) ![2560, 0] ![256, 1024] inb_S2816x1024_S256x1024_2560_0)) X
/-- The mean square of each row of that. -/
def spread : FVec Ideal S1024x1 .f32 := k0_pay21 (k0_pay12 (k0_pay7 X (View.ld G (Rect.unit (s := S1024x2816) ![0, 1024] ![1024, 512] inb_S1024x2816_S1024x512_0_1024))) (k0_pay8 X (View.ld U (Rect.unit (s := S1024x2816) ![0, 1024] ![1024, 512] inb_S1024x2816_S1024x512_0_1024))))
    (k0_pay13 (k0_pay9 X (View.ld G (Rect.unit (s := S1024x2816) ![0, 1536] ![1024, 512] inb_S1024x2816_S1024x512_0_1536))) (k0_pay10 X (View.ld U (Rect.unit (s := S1024x2816) ![0, 1536] ![1024, 512] inb_S1024x2816_S1024x512_0_1536))))
    (k0_pay14 (k0_pay2 X) (k0_pay11 (View.ld G (Rect.unit (s := S1024x2816) ![0, 2048] ![1024, 512] inb_S1024x2816_S1024x512_0_2048))) (constant S1024x512 FTy.f32 0#32) (View.ld U (Rect.unit (s := S1024x2816) ![0, 2048] ![1024, 512] inb_S1024x2816_S1024x512_0_2048)))
    (k0_pay15 (k0_pay2 X) (View.ld G (Rect.unit (s := S1024x2816) ![0, 2560] ![1024, 256] inb_S1024x2816_S1024x256_0_2560)) (View.ld U (Rect.unit (s := S1024x2816) ![0, 2560] ![1024, 256] inb_S1024x2816_S1024x256_0_2560)))
    (k0_pay16 (k0_pay3 X (View.ld G (Rect.unit (s := S1024x2816) ![0, 0] ![1024, 512] inb_S1024x2816_S1024x512_0_0))) (k0_pay4 X (View.ld U (Rect.unit (s := S1024x2816) ![0, 0] ![1024, 512] inb_S1024x2816_S1024x512_0_0))) (k0_pay5 X (View.ld G (Rect.unit (s := S1024x2816) ![0, 512] ![1024, 512] inb_S1024x2816_S1024x512_0_512))) (k0_pay6 X (View.ld U (Rect.unit (s := S1024x2816) ![0, 512] ![1024, 512] inb_S1024x2816_S1024x512_0_512))) (View.ld V (Rect.unit (s := S2816x1024) ![0, 0] ![512, 1024] inb_S2816x1024_S512x1024_0_0)) (View.ld V (Rect.unit (s := S2816x1024) ![512, 0] ![512, 1024] inb_S2816x1024_S512x1024_512_0)))
    (k0_pay17 (View.ld V (Rect.unit (s := S2816x1024) ![1024, 0] ![512, 1024] inb_S2816x1024_S512x1024_1024_0))) (View.ld V (Rect.unit (s := S2816x1024) ![1536, 0] ![512, 1024] inb_S2816x1024_S512x1024_1536_0)) (View.ld V (Rect.unit (s := S2816x1024) ![2048, 0] ![512, 1024] inb_S2816x1024_S512x1024_2048_0)) (View.ld V (Rect.unit (s := S2816x1024) ![2560, 0] ![256, 1024] inb_S2816x1024_S256x1024_2560_0)) X

theorem centered_apply (r j : Fin 1024) : centered X G U V (ix2 r j)
    = resid (row X r) (mix X G U V r) j - mean (resid (row X r) (mix X G U V r)) := by
  have e : mix X G U V r = _ := funext fun j => sum_chunks (fun n => unit X G U r n * V (ix2 n j))
  rw [e]
  pointwise [centered, k0_pay20, k0_pay12, k0_pay13, k0_pay14, k0_pay15, k0_pay16, k0_pay17, k0_pay11, k0_pay10, k0_pay9, k0_pay8, k0_pay7, k0_pay6, k0_pay5, k0_pay4, k0_pay3, k0_pay2]
  rfl
theorem spread_apply (r : Fin 1024) : spread X G U V (ix2 r 0) = var (resid (row X r) (mix X G U V r)) := by
  have e : spread X G U V (ix2 r 0) = mean fun k => centered X G U V (ix2 r k) * centered X G U V (ix2 r k) := by
    pointwise [spread, k0_pay21]
    rfl
  rw [e]
  simp only [centered_apply]
  rfl
theorem normed (g b : Vec Ideal S1x1024 .f32) (r j : Fin 1024) :
    k0_pay1 (k0_pay18 g) (k0_pay19 b) (centered X G U V) (spread X G U V) k0_pay22 (ix2 r j)
      = norm (resid (row X r) (mix X G U V r)) (fun d => g (ix2 0 d)) (fun d => b (ix2 0 d)) j := by
  pointwise [k0_pay1, k0_pay18, k0_pay19, k0_pay22]
  rw [centered_apply, spread_apply]
  rfl
end Parts

variable (m : (ℓ : Loc nD τ sig) → Buf (Elt Ideal) ℓ) (c : Dev nD)

theorem idx : ∀ t : Fin cfg0.N, win0_0.index t = ![t.val, 0]
    ∧ win0_1.index t = ![0, 0] ∧ win0_2.index t = ![0, 1] ∧ win0_3.index t = ![0, 0] ∧ win0_4.index t = ![0, 0]
    ∧ win0_5.index t = ![0, 0] ∧ win0_6.index t = ![t.val, 0] :=
  (by decide +kernel : ∀ t : Fin grid0.N, _)

/-- Row `R` of the activations, the sequences laid end to end. -/
def seqRow (A : FVec Ideal S4x4096x1024 .f32) (R : ℕ) : Fin 1024 → EReal :=
  fun d => A (ix3 ⟨R / 4096 % 4, by omega⟩ ⟨R % 4096, by omega⟩ d)
/-- The layer: row `R` of the result is row `R` of the activations with its feed-forward sum, normalized. -/
def layer (A : FVec Ideal S4x4096x1024 .f32) (W : FVec Ideal S1024x5632 .f32) (V : FVec Ideal S2816x1024 .f32)
    (g b : FVec Ideal S1024 .f32) : FVec Ideal S16384x1024 .f32 := fun i =>
  norm (resid (seqRow A (i 0 : ℕ)) (feed (seqRow A (i 0 : ℕ)) (fun d n => W (ix2 d n)) fun n j => V (ix2 n j)))
    (fun d => g (ix1 d)) (fun d => b (ix1 d)) (i 1)

theorem steps (t : Fin cfg0.N) : t.val < 16 := t.isLt
theorem blk0 (t : Fin cfg0.N) (r d : Fin 1024) : iblk m c 0 t (ix2 r d) = seqRow (m ((c : Thread nD τ).loc main_arg0)) (1024 * t.val + r) d := by
  have ht := steps t
  blk_simp [iblk, idx t]
  entry_read
  pointwise
  rw [seqRow]
  blk_ext [idx t]
theorem blk1 (t : Fin cfg0.N) (d : Fin 1024) (j : Fin 2816) : iblk m c 1 t (ix2 d j) = m ((c : Thread nD τ).loc main_arg1) (ix2 d ⟨j, by omega⟩) := by
  blk_simp [iblk, idx t]
  entry_read
  pointwise
  blk_ext [idx t]
theorem blk2 (t : Fin cfg0.N) (d : Fin 1024) (j : Fin 2816) : iblk m c 2 t (ix2 d j) = m ((c : Thread nD τ).loc main_arg1) (ix2 d ⟨2816 + j, by omega⟩) := by
  blk_simp [iblk, idx t]
  entry_read
  pointwise
  blk_ext [idx t]
theorem blk3 (t : Fin cfg0.N) (n : Fin 2816) (j : Fin 1024) : iblk m c 3 t (ix2 n j) = m ((c : Thread nD τ).loc main_arg2) (ix2 n j) := by
  blk_simp [iblk, idx t]
  entry_read
  pointwise
  blk_ext [idx t]
theorem blk4 (t : Fin cfg0.N) (d : Fin 1024) : iblk m c 4 t (ix2 (0 : Fin 1) d) = m ((c : Thread nD τ).loc main_arg3) (ix1 d) := by
  blk_simp [iblk, idx t]
  entry_read
  pointwise
  blk_ext [idx t]
theorem blk5 (t : Fin cfg0.N) (d : Fin 1024) : iblk m c 5 t (ix2 (0 : Fin 1) d) = m ((c : Thread nD τ).loc main_arg4) (ix1 d) := by
  blk_simp [iblk, idx t]
  entry_read
  pointwise
  blk_ext [idx t]

/-- Block `t` of the result. -/
theorem point (t : Fin cfg0.N) (y : S1024x1024.Idx) : outsAt0 m c t y
    = layer (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 6).blk t).view.emb y) := by
  have hy : y = ix2 (y 0) (y 1) := by funext a; fin_cases a <;> rfl
  have ht := steps t
  have hl : outsAt0 m c t y = norm (resid (row (iblk m c 0 t) (y 0)) (mix (iblk m c 0 t) (iblk m c 1 t) (iblk m c 2 t) (iblk m c 3 t) (y 0)))
      (fun d => iblk m c 4 t (ix2 (0 : Fin 1) d)) (fun d => iblk m c 5 t (ix2 (0 : Fin 1) d)) (y 1) := by
    unfold outsAt0
    frame_out
    refine Eq.trans (congrArg _ hy) ?_
    exact normed (iblk m c 0 t) (iblk m c 1 t) (iblk m c 2 t) (iblk m c 3 t) (iblk m c 4 t) (iblk m c 5 t) (y 0) (y 1)
  have e0 : ((((cfg0.win 6).blk t).view.emb y) 0 : ℕ) = 1024 * t.val + (y 0).val := by blk_simp [idx t]; omega
  have e1 : (((cfg0.win 6).blk t).view.emb y) 1 = y 1 := Fin.ext (by blk_simp [idx t])
  have hr : row (iblk m c 0 t) (y 0) = seqRow (m ((c : Thread nD τ).loc main_arg0)) (1024 * t.val + (y 0).val) :=
    funext fun d => blk0 m c t (y 0) d
  have hm : mix (iblk m c 0 t) (iblk m c 1 t) (iblk m c 2 t) (iblk m c 3 t) (y 0)
      = feed (seqRow (m ((c : Thread nD τ).loc main_arg0)) (1024 * t.val + (y 0).val))
        (fun d n => m ((c : Thread nD τ).loc main_arg1) (ix2 d n)) fun n j => m ((c : Thread nD τ).loc main_arg2) (ix2 n j) := by
    funext j
    refine Finset.sum_congr rfl fun n _ => ?_
    show gatedUnit (row (iblk m c 0 t) (y 0)) (fun d => iblk m c 1 t (ix2 d n)) (fun d => iblk m c 2 t (ix2 d n)) * iblk m c 3 t (ix2 n j) = _
    rw [hr, blk3]
    simp only [blk1, blk2]
  rw [hl, layer, e0, e1, hr, hm]
  simp only [blk4, blk5]

/-- The result array. -/
theorem final : (dats m 0 c).arrAt 6 cfg0.N
    = layer (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t _ y => ?_
  blk_simp
  rw [after0_6]
  exact point m c t y
end Cert.Kernel2Ideal.Ffn
-- ==== Proof.FfnRef.lean ====
module

public import proofs.«01_k».proof.Proof.Ffn
public import proofs.«01_k».proof.Proof.Gen.Reference2Ideal.Read

@[expose] public section
set_option maxRecDepth 16384
noncomputable section
namespace Cert.Reference2Ideal.Ffn
open Cert.Reference2Ideal Cert.Reference2Ideal.Gen Cert.Reference2Ideal.Read Cert.Layer
open Cert.Kernel2Ideal.Ffn (layer seqRow)
open Idealize.ShloMosaic Idealize.ShloMosaic.TcCoe
open scoped BigOperators

/-! The feed-forward layer's reference, one row at a time. -/

variable (A : FVec Ideal S4x4096x1024 .f32) (W : FVec Ideal S1024x5632 .f32) (V : FVec Ideal S2816x1024 .f32) (g o : FVec Ideal S1024 .f32)

/-- Row `s` of sequence `b` before the norm. -/
def pre (b : Fin 4) (s : Fin 4096) : Fin 1024 → EReal := fun j => val_main_v10 (F := Ideal) A W V (ix3 b s j)

theorem mean_apply (b : Fin 4) (s : Fin 4096) : val_main_v14 (F := Ideal) A W V (ix3 b s (0 : Fin 1)) = mean (pre A W V b s) := by
  rw [val_main_v14_apply, val_main_v12_apply, val_main_v13_apply]
  have e : idx_main_v12 (ix3 b s (0 : Fin 1)) = ix2 b s := by funext a; fin_cases a <;> rfl
  have e2 : ∀ k, idx_main_v11 (ix2 b s) k = ix3 b s k := fun k => by funext a; fin_cases a <;> rfl
  rw [e]
  simp only [val_main_v11_apply, e2]
  show Ideal.div (Ideal.ofBits FTy.f32 0#32 + _) _ = _
  rw [word_zero, zero_add]
  rfl
theorem dist_apply (b : Fin 4) (s : Fin 4096) (j : Fin 1024) : val_main_v16 (F := Ideal) A W V (ix3 b s j) = pre A W V b s j - mean (pre A W V b s) := by
  have e : idx_main_v15 (ix3 b s j) = ix3 b s (0 : Fin 1) := by funext a; fin_cases a <;> rfl
  rw [val_main_v16_apply, val_main_v15_apply, e, mean_apply]
  rfl
theorem dist_apply' (b : Fin 4) (s : Fin 4096) (j : Fin 1024) : val_main_v23 (F := Ideal) A W V (ix3 b s j) = pre A W V b s j - mean (pre A W V b s) := by
  have e : idx_main_v22 (ix3 b s j) = ix3 b s (0 : Fin 1) := by funext a; fin_cases a <;> rfl
  rw [val_main_v23_apply, val_main_v22_apply, e, mean_apply]
  rfl
theorem var_apply (b : Fin 4) (s : Fin 4096) : val_main_v21 (F := Ideal) A W V (ix3 b s (0 : Fin 1)) = var (pre A W V b s) := by
  have e : idx_main_v19 (ix3 b s (0 : Fin 1)) = ix2 b s := by funext a; fin_cases a <;> rfl
  have e2 : ∀ k, idx_main_v18 (ix2 b s) k = ix3 b s k := fun k => by funext a; fin_cases a <;> rfl
  rw [val_main_v21_apply, val_main_v19_apply, val_main_v20_apply, e]
  simp only [val_main_v18_apply, e2, val_main_v17_apply, dist_apply]
  show Ideal.div (Ideal.ofBits FTy.f32 0#32 + _) _ = _
  rw [word_zero, zero_add]
  rfl
theorem norm_apply (b : Fin 4) (s : Fin 4096) (j : Fin 1024) : val_main_v34 (F := Ideal) A W V g o (ix3 b s j)
    = norm (pre A W V b s) (fun d => g (ix1 d)) (fun d => o (ix1 d)) j := by
  have e : idx_main_v27 (ix3 b s j) = ix3 b s (0 : Fin 1) := by funext a; fin_cases a <;> rfl
  have eg : idx_main_v29 (idx_main_v30 (ix3 b s j)) = ix1 j := by funext a; fin_cases a; rfl
  have eo : idx_main_v32 (idx_main_v33 (ix3 b s j)) = ix1 j := by funext a; fin_cases a; rfl
  rw [val_main_v34_apply, val_main_v31_apply, val_main_v28_apply, val_main_v30_apply, val_main_v29_apply, val_main_v33_apply, val_main_v32_apply, val_main_v27_apply, val_main_v26_apply, val_main_v25_apply, val_main_v24_apply, eg, eo, e, var_apply, dist_apply']
  rfl

theorem first_apply (b : Fin 4) (s : Fin 4096) (n : Fin 5632) :
    val_main_v0 (F := Ideal) A W (ix3 b s n) = ∑ d, A (ix3 b s d) * W (ix2 d n) := by
  rw [val_main_v0_apply]
  refine Finset.sum_congr rfl fun d _ => ?_
  have e1 : lidx_main_v0 (ix3 b s n) d = ix3 b s d := by funext a; fin_cases a <;> rfl
  have e2 : ridx_main_v0 (ix3 b s n) d = ix2 d n := by funext a; fin_cases a <;> rfl
  rw [e1, e2]
theorem gate_apply (b : Fin 4) (s : Fin 4096) (n : Fin 2816) :
    val_main_v1 (F := Ideal) A W (ix3 b s n) = ∑ d, A (ix3 b s d) * W (ix2 d ⟨n, by omega⟩) := by
  have e : idx_main_v1 (ix3 b s n) = ix3 b s ⟨n, by omega⟩ := by funext a; fin_cases a <;> exact Fin.ext (by simp)
  rw [val_main_v1_apply, e, first_apply]
theorem up_apply (b : Fin 4) (s : Fin 4096) (n : Fin 2816) :
    val_main_v2 (F := Ideal) A W (ix3 b s n) = ∑ d, A (ix3 b s d) * W (ix2 d ⟨2816 + n, by omega⟩) := by
  have e : idx_main_v2 (ix3 b s n) = ix3 b s ⟨2816 + n, by omega⟩ := by funext a; fin_cases a <;> exact Fin.ext (by simp)
  rw [val_main_v2_apply, e, first_apply]
theorem hidden_apply (b : Fin 4) (s : Fin 4096) (n : Fin 2816) : val_main_v6 (F := Ideal) A W (ix3 b s n)
    = gatedUnit (fun d => A (ix3 b s d)) (fun d => W (ix2 d ⟨n, by omega⟩)) (fun d => W (ix2 d ⟨2816 + n, by omega⟩)) := by
  rw [val_main_v6_apply, val_main_v5_apply, val_main_call0_v5_apply, val_main_call0_v4_apply, val_main_call0_v3_apply, val_main_call0_v2_apply,
    val_main_call0_v1_apply, val_main_call0_v0_apply, gate_apply, up_apply]
  show (_ * Ideal.div (Ideal.ofBits FTy.f32 1065353216#32) (Ideal.ofBits FTy.f32 1065353216#32 + Ideal.exp (-_))) * _ = _
  rw [word_one]
  rfl
theorem pre_apply (b : Fin 4) (s : Fin 4096) : pre A W V b s
    = resid (fun d => A (ix3 b s d)) (feed (fun d => A (ix3 b s d)) (fun d n => W (ix2 d n)) fun n j => V (ix2 n j)) := by
  funext j
  rw [pre, val_main_v10_apply, val_main_v9_apply, val_main_v4_apply, val_main_v3_apply, val_main_v8_apply, resid, feed, val_main_v7_apply]
  have e1 : ∀ k, lidx_main_v7 (ix3 b s j) k = ix3 b s k := fun k => by funext a; fin_cases a <;> rfl
  have e2 : ∀ k, ridx_main_v7 (ix3 b s j) k = ix2 k j := fun k => by funext a; fin_cases a <;> rfl
  simp only [e1, e2, hidden_apply]
  rfl

/-- The reference's result is the layer. -/
theorem result : val_main_v35 (F := Ideal) A W V g o = layer A W V g o := by
  funext i
  have h0 : (i 0).val < 16384 := (i 0).isLt
  have h1 : (i 1).val < 1024 := (i 1).isLt
  have e : idx_main_v35 i = ix3 (⟨(i 0).val / 4096 % 4, by omega⟩ : Fin 4) (⟨(i 0).val % 4096, by omega⟩ : Fin 4096) (⟨(i 1).val, h1⟩ : Fin 1024) := by
    funext a
    fin_cases a <;> refine Fin.ext ?_
    · show ((i 0).val * 1024 + (i 1).val) / 4194304 = (i 0).val / 4096 % 4
      omega
    · show ((i 0).val * 1024 + (i 1).val) / 1024 % 4096 = (i 0).val % 4096
      omega
    · show ((i 0).val * 1024 + (i 1).val) % 1024 = (i 1).val
      omega
  rw [val_main_v35_apply, e, norm_apply, pre_apply]
  rfl
end Cert.Reference2Ideal.Ffn
-- ==== Proof.Merge.lean ====
module

public import proofs.«01_k».proof.Proof.Layer
public import proofs.«01_k».proof.Proof.Gen.Kernel3Ideal.Frame
public import proofs.«01_k».proof.Proof.Gen.Kernel3Ideal.Value

@[expose] public section
set_option maxRecDepth 16384
noncomputable section
namespace Cert.Kernel3Ideal.Merge
open Cert.Kernel3Ideal Cert.Kernel3Ideal.Gen Cert.Layer
open Idealize.ShloMosaic Idealize.ShloMosaic.TcCoe Idealize.SL.Sem
open Idealize.ShloMosaic.Pipeline (Dat)
open scoped BigOperators

/-! The merge layer's kernel, a block of 1024 rows at a time. -/

section Parts
variable (X : Vec Ideal S1024x1024 .f32) (G : Vec Ideal S1024x2048 .bf16) (P Q : Vec Ideal S1024x512 .f32) (A B : Vec Ideal S512x1024 .bf16)
  (O : Vec Ideal S1024x1024 .bf16)

/-- The branches of row `r`, gated and joined. -/
def join (r k : Fin 1024) : EReal :=
  Ideal.logistic (∑ d, X (ix2 r d) * G (ix2 d ⟨k, by omega⟩)) * (∑ d : Fin 512, P (ix2 r d) * A (ix2 d k))
    + Ideal.logistic (∑ d, X (ix2 r d) * G (ix2 d ⟨1024 + k, by omega⟩)) * ∑ d : Fin 512, Q (ix2 r d) * B (ix2 d k)
/-- Row `r` before the norm. -/
def pre (r j : Fin 1024) : EReal := Ideal.ofBits FTy.f32 1066940400#32 * X (ix2 r j) + ∑ k, join X G P Q A B r k * O (ix2 k j)

theorem pre_eq (r j : Fin 1024) : k0_pay2 X G P A Q B O (ix2 r j) = pre X G P Q A B O r j := by
  pointwise [k0_pay2]
  simp only [pre, join]
theorem normed (g b : Vec Ideal S1x1024 .f32) (z : FVec Ideal S1024x1024 .f32) (r j : Fin 1024) :
    k0_pay1 z (k0_pay3 g) (k0_pay4 b) (ix2 r j) = norm (fun d => z (ix2 r d)) (fun d => g (ix2 0 d)) (fun d => b (ix2 0 d)) j := by
  pointwise [k0_pay1, k0_pay3, k0_pay4]
  rfl
end Parts

variable (m : (ℓ : Loc nD τ sig) → Buf (Elt Ideal) ℓ) (c : Dev nD)

theorem idx : ∀ t : Fin cfg0.N, win0_0.index t = ![t.val, 0]
    ∧ win0_1.index t = ![t.val, 0] ∧ win0_2.index t = ![t.val, 0] ∧ win0_3.index t = ![0, 0] ∧ win0_4.index t = ![0, 0]
    ∧ win0_5.index t = ![0, 0] ∧ win0_6.index t = ![0, 0] ∧ win0_7.index t = ![0, 0] ∧ win0_8.index t = ![0, 0] ∧ win0_9.index t = ![t.val, 0] :=
  (by decide +kernel : ∀ t : Fin grid0.N, _)

/-- Row `R` of the activations, the sequences laid end to end. -/
def seqRow (A : FVec Ideal S4x4096x1024 .f32) (R : ℕ) : Fin 1024 → EReal :=
  fun d => A (ix3 ⟨R / 4096 % 4, by omega⟩ ⟨R % 4096, by omega⟩ d)
/-- Row `R` of a branch, the sequences laid end to end. -/
def branchRow (A : FVec Ideal S4x4096x512 .f32) (R : ℕ) : Fin 512 → EReal :=
  fun d => A (ix3 ⟨R / 4096 % 4, by omega⟩ ⟨R % 4096, by omega⟩ d)
/-- The layer: row `R` of the result is row `R` of the activations with its merged branches, normalized. -/
def layer (H : FVec Ideal S4x4096x1024 .f32) (P Q : FVec Ideal S4x4096x512 .f32) (G : FVec Ideal S1024x2048 .f32) (B O : FVec Ideal S1024x1024 .f32)
    (g b : FVec Ideal S1024 .f32) : FVec Ideal S16384x1024 .f32 := fun i =>
  norm (merged (seqRow H (i 0 : ℕ)) (branchRow P (i 0 : ℕ)) (branchRow Q (i 0 : ℕ)) (fun d n => G (ix2 d n)) (fun d n => B (ix2 d n)) fun n j => O (ix2 n j))
    (fun d => g (ix1 d)) (fun d => b (ix1 d)) (i 1)

theorem steps (t : Fin cfg0.N) : t.val < 16 := t.isLt
theorem blk0 (t : Fin cfg0.N) (r d : Fin 1024) : iblk m c 0 t (ix2 r d) = seqRow (m ((c : Thread nD τ).loc main_arg0)) (1024 * t.val + r) d := by
  have ht := steps t
  blk_simp [iblk, idx t]
  entry_read
  pointwise
  rw [seqRow]
  blk_ext [idx t]
theorem blk1 (t : Fin cfg0.N) (r : Fin 1024) (d : Fin 512) : iblk m c 1 t (ix2 r d) = branchRow (m ((c : Thread nD τ).loc main_arg1)) (1024 * t.val + r) d := by
  have ht := steps t
  blk_simp [iblk, idx t]
  entry_read
  pointwise
  rw [branchRow]
  blk_ext [idx t]
theorem blk2 (t : Fin cfg0.N) (r : Fin 1024) (d : Fin 512) : iblk m c 2 t (ix2 r d) = branchRow (m ((c : Thread nD τ).loc main_arg2)) (1024 * t.val + r) d := by
  have ht := steps t
  blk_simp [iblk, idx t]
  entry_read
  pointwise
  rw [branchRow]
  blk_ext [idx t]
theorem blk3 (t : Fin cfg0.N) (d : Fin 1024) (n : Fin 2048) : iblk m c 3 t (ix2 d n) = m ((c : Thread nD τ).loc main_arg3) (ix2 d n) := by
  blk_simp [iblk, idx t]
  entry_read
  pointwise
  blk_ext [idx t]
theorem blk4 (t : Fin cfg0.N) (d : Fin 512) (n : Fin 1024) : iblk m c 4 t (ix2 d n) = m ((c : Thread nD τ).loc main_arg4) (ix2 (⟨d, by omega⟩ : Fin 1024) n) := by
  blk_simp [iblk, idx t]
  entry_read
  pointwise
  blk_ext [idx t]
theorem blk5 (t : Fin cfg0.N) (d : Fin 512) (n : Fin 1024) : iblk m c 5 t (ix2 d n) = m ((c : Thread nD τ).loc main_arg4) (ix2 (⟨512 + d, by omega⟩ : Fin 1024) n) := by
  blk_simp [iblk, idx t]
  entry_read
  pointwise
  blk_ext [idx t]
theorem blk6 (t : Fin cfg0.N) (d n : Fin 1024) : iblk m c 6 t (ix2 d n) = m ((c : Thread nD τ).loc main_arg5) (ix2 d n) := by
  blk_simp [iblk, idx t]
  entry_read
  pointwise
  blk_ext [idx t]
theorem blk7 (t : Fin cfg0.N) (d : Fin 1024) : iblk m c 7 t (ix2 (0 : Fin 1) d) = m ((c : Thread nD τ).loc main_arg6) (ix1 d) := by
  blk_simp [iblk, idx t]
  entry_read
  pointwise
  blk_ext [idx t]
theorem blk8 (t : Fin cfg0.N) (d : Fin 1024) : iblk m c 8 t (ix2 (0 : Fin 1) d) = m ((c : Thread nD τ).loc main_arg7) (ix1 d) := by
  blk_simp [iblk, idx t]
  entry_read
  pointwise
  blk_ext [idx t]

/-- Row `r` of block `t` before the norm. -/
theorem block_row (t : Fin cfg0.N) (r : Fin 1024) : (fun d => k0_pay2 (iblk m c 0 t) (iblk m c 3 t) (iblk m c 1 t) (iblk m c 4 t) (iblk m c 2 t) (iblk m c 5 t) (iblk m c 6 t) (ix2 r d)) = merged (seqRow (m ((c : Thread nD τ).loc main_arg0)) (1024 * t.val + r.val)) (branchRow (m ((c : Thread nD τ).loc main_arg1)) (1024 * t.val + r.val)) (branchRow (m ((c : Thread nD τ).loc main_arg2)) (1024 * t.val + r.val))
      (fun d n => m ((c : Thread nD τ).loc main_arg3) (ix2 d n)) (fun d n => m ((c : Thread nD τ).loc main_arg4) (ix2 d n)) fun n j => m ((c : Thread nD τ).loc main_arg5) (ix2 n j) := by
  funext d
  rw [pre_eq]
  simp only [pre, join, merged, joined, blk0, blk1, blk2, blk3, blk4, blk5, blk6]

/-- Block `t` of the result. -/
theorem point (t : Fin cfg0.N) (y : S1024x1024.Idx) : k0_pay1 (k0_pay2 (iblk m c 0 t) (iblk m c 3 t) (iblk m c 1 t) (iblk m c 4 t) (iblk m c 2 t) (iblk m c 5 t) (iblk m c 6 t)) (k0_pay3 (iblk m c 7 t)) (k0_pay4 (iblk m c 8 t)) y
    = layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
        (((cfg0.win 9).blk t).view.emb y) := by
  have hy : y = ix2 (y 0) (y 1) := by funext a; fin_cases a <;> rfl
  have e0 : ((((cfg0.win 9).blk t).view.emb y) 0 : ℕ) = 1024 * t.val + (y 0).val := by blk_simp [idx t]; omega
  have e1 : (((cfg0.win 9).blk t).view.emb y) 1 = y 1 := Fin.ext (by blk_simp [idx t])
  refine ((congrArg _ hy).trans (normed (iblk m c 7 t) (iblk m c 8 t) _ (y 0) (y 1))).trans ?_
  rw [block_row m c t (y 0), layer, e0, e1]
  simp only [blk7, blk8]

/-- The result array. -/
theorem final : (dats m 0 c).arrAt 9 cfg0.N
    = layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun t _ y => ?_
  blk_simp
  rw [after0_9]
  frame_out
  exact point m c t y
end Cert.Kernel3Ideal.Merge
-- ==== Proof.MergeRef.lean ====
module

public import proofs.«01_k».proof.Proof.Merge
public import proofs.«01_k».proof.Proof.Gen.Reference3Ideal.Read

@[expose] public section
set_option maxRecDepth 16384
noncomputable section
namespace Cert.Reference3Ideal.Merge
open Cert.Reference3Ideal Cert.Reference3Ideal.Gen Cert.Reference3Ideal.Read Cert.Layer
open Cert.Kernel3Ideal.Merge (layer seqRow branchRow)
open Idealize.ShloMosaic Idealize.ShloMosaic.TcCoe
open scoped BigOperators

/-! The merge layer's reference, one row at a time. -/

variable (H : FVec Ideal S4x4096x1024 .f32) (P Q : FVec Ideal S4x4096x512 .f32) (G : FVec Ideal S1024x2048 .f32) (B O : FVec Ideal S1024x1024 .f32)
  (g o : FVec Ideal S1024 .f32)

/-- Row `s` of sequence `b` before the norm. -/
def pre (b : Fin 4) (s : Fin 4096) : Fin 1024 → EReal := fun j => val_main_v19 (F := Ideal) H P Q G B O (ix3 b s j)

theorem mean_apply (b : Fin 4) (s : Fin 4096) : val_main_v23 (F := Ideal) H P Q G B O (ix3 b s (0 : Fin 1)) = mean (pre H P Q G B O b s) := by
  rw [val_main_v23_apply, val_main_v21_apply, val_main_v22_apply]
  have e : idx_main_v21 (ix3 b s (0 : Fin 1)) = ix2 b s := by funext a; fin_cases a <;> rfl
  have e2 : ∀ k, idx_main_v20 (ix2 b s) k = ix3 b s k := fun k => by funext a; fin_cases a <;> rfl
  rw [e]
  simp only [val_main_v20_apply, e2]
  show Ideal.div (Ideal.ofBits FTy.f32 0#32 + _) _ = _
  rw [word_zero, zero_add]
  rfl
theorem dist_apply (b : Fin 4) (s : Fin 4096) (j : Fin 1024) : val_main_v25 (F := Ideal) H P Q G B O (ix3 b s j) = pre H P Q G B O b s j - mean (pre H P Q G B O b s) := by
  have e : idx_main_v24 (ix3 b s j) = ix3 b s (0 : Fin 1) := by funext a; fin_cases a <;> rfl
  rw [val_main_v25_apply, val_main_v24_apply, e, mean_apply]
  rfl
theorem dist_apply' (b : Fin 4) (s : Fin 4096) (j : Fin 1024) : val_main_v32 (F := Ideal) H P Q G B O (ix3 b s j) = pre H P Q G B O b s j - mean (pre H P Q G B O b s) := by
  have e : idx_main_v31 (ix3 b s j) = ix3 b s (0 : Fin 1) := by funext a; fin_cases a <;> rfl
  rw [val_main_v32_apply, val_main_v31_apply, e, mean_apply]
  rfl
theorem var_apply (b : Fin 4) (s : Fin 4096) : val_main_v30 (F := Ideal) H P Q G B O (ix3 b s (0 : Fin 1)) = var (pre H P Q G B O b s) := by
  have e : idx_main_v28 (ix3 b s (0 : Fin 1)) = ix2 b s := by funext a; fin_cases a <;> rfl
  have e2 : ∀ k, idx_main_v27 (ix2 b s) k = ix3 b s k := fun k => by funext a; fin_cases a <;> rfl
  rw [val_main_v30_apply, val_main_v28_apply, val_main_v29_apply, e]
  simp only [val_main_v27_apply, e2, val_main_v26_apply, dist_apply]
  show Ideal.div (Ideal.ofBits FTy.f32 0#32 + _) _ = _
  rw [word_zero, zero_add]
  rfl
theorem norm_apply (b : Fin 4) (s : Fin 4096) (j : Fin 1024) : val_main_v43 (F := Ideal) H P Q G B O g o (ix3 b s j)
    = norm (pre H P Q G B O b s) (fun d => g (ix1 d)) (fun d => o (ix1 d)) j := by
  have e : idx_main_v36 (ix3 b s j) = ix3 b s (0 : Fin 1) := by funext a; fin_cases a <;> rfl
  have eg : idx_main_v38 (idx_main_v39 (ix3 b s j)) = ix1 j := by funext a; fin_cases a; rfl
  have eo : idx_main_v41 (idx_main_v42 (ix3 b s j)) = ix1 j := by funext a; fin_cases a; rfl
  rw [val_main_v43_apply, val_main_v40_apply, val_main_v37_apply, val_main_v39_apply, val_main_v38_apply, val_main_v42_apply, val_main_v41_apply, val_main_v36_apply, val_main_v35_apply, val_main_v34_apply, val_main_v33_apply, eg, eo, e, var_apply, dist_apply']
  rfl

theorem gates_apply (b : Fin 4) (s : Fin 4096) (n : Fin 2048) :
    val_main_v6 (F := Ideal) H G (ix3 b s n) = Ideal.logistic (∑ d, H (ix3 b s d) * G (ix2 d n)) := by
  have e1 : ∀ d, lidx_main_v0 (ix3 b s n) d = ix3 b s d := fun d => by funext a; fin_cases a <;> rfl
  have e2 : ∀ d, ridx_main_v0 (ix3 b s n) d = ix2 d n := fun d => by funext a; fin_cases a <;> rfl
  rw [val_main_v6_apply, val_main_v5_apply, val_main_v4_apply, val_main_v3_apply, val_main_v2_apply, val_main_v1_apply, val_main_v0_apply]
  simp only [e1, e2]
  show Ideal.div (Ideal.ofBits FTy.f32 1065353216#32) (Ideal.ofBits FTy.f32 1065353216#32 + Ideal.exp (-_)) = _
  rw [word_one]
  rfl
theorem first_apply (b : Fin 4) (s : Fin 4096) (j : Fin 1024) : val_main_v10 (F := Ideal) H P G B (ix3 b s j)
    = Ideal.logistic (∑ d, H (ix3 b s d) * G (ix2 d ⟨j, by omega⟩)) * ∑ d : Fin 512, P (ix3 b s d) * B (ix2 (⟨d, by omega⟩ : Fin 1024) j) := by
  have e : idx_main_v7 (ix3 b s j) = ix3 b s (⟨j, by omega⟩ : Fin 2048) := by funext a; fin_cases a <;> exact Fin.ext (by simp)
  have e1 : ∀ d, lidx_main_v9 (ix3 b s j) d = ix3 b s d := fun d => by funext a; fin_cases a <;> rfl
  have e2 : ∀ d, idx_main_v8 (ridx_main_v9 (ix3 b s j) d) = ix2 (⟨d, by omega⟩ : Fin 1024) j := fun d => by funext a; fin_cases a <;> exact Fin.ext (by simp)
  rw [val_main_v10_apply, val_main_v7_apply, e, gates_apply, val_main_v9_apply]
  simp only [val_main_v8_apply, e1, e2]
  rfl
theorem second_apply (b : Fin 4) (s : Fin 4096) (j : Fin 1024) : val_main_v14 (F := Ideal) H Q G B (ix3 b s j)
    = Ideal.logistic (∑ d, H (ix3 b s d) * G (ix2 d ⟨1024 + j, by omega⟩)) * ∑ d : Fin 512, Q (ix3 b s d) * B (ix2 (⟨512 + d, by omega⟩ : Fin 1024) j) := by
  have e : idx_main_v11 (ix3 b s j) = ix3 b s (⟨1024 + j, by omega⟩ : Fin 2048) := by funext a; fin_cases a <;> exact Fin.ext (by simp)
  have e1 : ∀ d, lidx_main_v13 (ix3 b s j) d = ix3 b s d := fun d => by funext a; fin_cases a <;> rfl
  have e2 : ∀ d, idx_main_v12 (ridx_main_v13 (ix3 b s j) d) = ix2 (⟨512 + d, by omega⟩ : Fin 1024) j := fun d => by funext a; fin_cases a <;> exact Fin.ext (by simp)
  rw [val_main_v14_apply, val_main_v11_apply, e, gates_apply, val_main_v13_apply]
  simp only [val_main_v12_apply, e1, e2]
  rfl
theorem pre_apply (b : Fin 4) (s : Fin 4096) : pre H P Q G B O b s
    = merged (fun d => H (ix3 b s d)) (fun d => P (ix3 b s d)) (fun d => Q (ix3 b s d)) (fun d n => G (ix2 d n)) (fun d n => B (ix2 d n)) fun n j => O (ix2 n j) := by
  funext j
  have e1 : ∀ k, lidx_main_v18 (ix3 b s j) k = ix3 b s k := fun k => by funext a; fin_cases a <;> rfl
  have e2 : ∀ k, ridx_main_v18 (ix3 b s j) k = ix2 k j := fun k => by funext a; fin_cases a <;> rfl
  rw [pre, val_main_v19_apply, val_main_v17_apply, val_main_v16_apply, val_main_v18_apply, merged]
  simp only [e1, e2, val_main_v15_apply, first_apply, second_apply]
  rfl

/-- The reference's result is the layer. -/
theorem result : val_main_v44 (F := Ideal) H P Q G B O g o = layer H P Q G B O g o := by
  funext i
  have h0 : (i 0).val < 16384 := (i 0).isLt
  have h1 : (i 1).val < 1024 := (i 1).isLt
  have e : idx_main_v44 i = ix3 (⟨(i 0).val / 4096 % 4, by omega⟩ : Fin 4) (⟨(i 0).val % 4096, by omega⟩ : Fin 4096) (⟨(i 1).val, h1⟩ : Fin 1024) := by
    funext a
    fin_cases a <;> refine Fin.ext ?_
    · show ((i 0).val * 1024 + (i 1).val) / 4194304 = (i 0).val / 4096 % 4
      omega
    · show ((i 0).val * 1024 + (i 1).val) / 1024 % 4096 = (i 0).val % 4096
      omega
    · show ((i 0).val * 1024 + (i 1).val) % 1024 = (i 1).val
      omega
  rw [val_main_v44_apply, e, norm_apply, pre_apply]
  rfl
end Cert.Reference3Ideal.Merge
-- ==== Proof.Mixer.lean ====
module

public import proofs.«01_k».proof.Proof.Row

@[expose] public section
noncomputable section
namespace Cert.Mixer
open Idealize.ShloMosaic
open scoped BigOperators

/-! What the mixer's projections give for one row `x` of the activations with the row `p` before it. -/

/-- The weights. -/
structure Weights where
  proj : Fin 1024 → Fin 1536 → EReal
  attn : Fin 1024 → Fin 1536 → EReal
  w1 : Fin 1024 → Fin 64 → EReal
  w2 : Fin 64 → Fin 512 → EReal
  a1 : Fin 1024 → Fin 64 → EReal
  a2 : Fin 64 → Fin 512 → EReal
  g1 : Fin 1024 → Fin 160 → EReal
  g2 : Fin 160 → Fin 512 → EReal
  mu : Fin 1536 → EReal
  muW : Fin 1024 → EReal
  muA : Fin 1024 → EReal
  muG : Fin 1024 → EReal
  w0 : Fin 512 → EReal
  a0 : Fin 512 → EReal
  kk : Fin 512 → EReal
  ka : Fin 512 → EReal

/-- A row times a matrix. -/
def lin {a n : ℕ} (x : Fin a → EReal) (W : Fin a → Fin n → EReal) (j : Fin n) : EReal := ∑ d, x d * W d j
/-- The token shift. -/
def shift (x p μ : EReal) : EReal := x + (p - x) * μ

variable (P : Weights) (x p : Fin 1024 → EReal)

/-- The projections to receptance, key and value, shifted. -/
def rkv (n : Fin 1536) : EReal := shift (lin x P.proj n) (lin p P.proj n) (P.mu n)
def recep (j : Fin 512) : EReal := rkv P x p ⟨j, by omega⟩
def key (j : Fin 512) : EReal := rkv P x p ⟨512 + j, by omega⟩
def val (j : Fin 512) : EReal := rkv P x p ⟨1024 + j, by omega⟩
/-- The logarithm of the decay. -/
def decay (j : Fin 512) : EReal :=
  -Ideal.exp (-Row.sp (-(P.w0 j + lin (fun k => Ideal.tanh (lin (fun d => shift (x d) (p d) (P.muW d)) P.w1 k)) P.w2 j)) - Ideal.ofBits FTy.f32 0x3F000000#32)
/-- The learning rate in context. -/
def rate (j : Fin 512) : EReal := Ideal.logistic (P.a0 j + lin (lin (fun d => shift (x d) (p d) (P.muA d)) P.a1) P.a2 j)
/-- The output gate. -/
def gate (j : Fin 512) : EReal := lin (fun k => Ideal.logistic (lin (fun d => shift (x d) (p d) (P.muG d)) P.g1 k)) P.g2 j
/-- The key of a head, normalized. -/
def scaledKey (j : Fin 512) : EReal := key P x p j * P.kk j
def unitKey (j : Fin 512) : EReal :=
  Ideal.div (scaledKey P x p j)
    (max (Ideal.sqrt (∑ d : Fin 64, scaledKey P x p ⟨64 * (j / 64) + d, by omega⟩ * scaledKey P x p ⟨64 * (j / 64) + d, by omega⟩)) (Ideal.ofBits FTy.f32 0x2B8CBCCC#32))
def removal (j : Fin 512) : EReal := -unitKey P x p j
def insertion (j : Fin 512) : EReal := unitKey P x p j * rate P x p j
/-- The key that the recurrence takes. -/
def keyIn (j : Fin 512) : EReal :=
  key P x p j * (Ideal.ofBits FTy.f32 0x3F800000#32 + (rate P x p j - Ideal.ofBits FTy.f32 0x3F800000#32) * P.ka j)
/-- The attention's queries, scaled, its keys and its values. -/
def query (j : Fin 512) : EReal := lin x P.attn ⟨j, by omega⟩ * Ideal.ofBits FTy.f32 0x3E000000#32
def attnKey (j : Fin 512) : EReal := lin x P.attn ⟨512 + j, by omega⟩
def attnVal (j : Fin 512) : EReal := lin x P.attn ⟨1024 + j, by omega⟩

/-- The weights as a layer is given them. -/
def weightsOf (I : FVec Ideal ⟨2, ![1024, 5120]⟩ .f32) (mu : FVec Ideal ⟨1, ![1536]⟩ .f32) (mw : FVec Ideal ⟨2, ![3, 1024]⟩ .f32)
    (w0 : FVec Ideal ⟨1, ![512]⟩ .f32) (w1 : FVec Ideal ⟨2, ![1024, 64]⟩ .f32) (w2 : FVec Ideal ⟨2, ![64, 512]⟩ .f32)
    (a0 : FVec Ideal ⟨1, ![512]⟩ .f32) (a1 : FVec Ideal ⟨2, ![1024, 64]⟩ .f32) (a2 : FVec Ideal ⟨2, ![64, 512]⟩ .f32)
    (g1 : FVec Ideal ⟨2, ![1024, 160]⟩ .f32) (g2 : FVec Ideal ⟨2, ![160, 512]⟩ .f32) (kk ka : FVec Ideal ⟨1, ![512]⟩ .f32) : Weights where
  proj d n := I (ix2 d (⟨n, by omega⟩ : Fin 5120))
  attn d n := I (ix2 d (⟨1536 + n, by omega⟩ : Fin 5120))
  w1 d k := w1 (ix2 d k)
  w2 k j := w2 (ix2 k j)
  a1 d k := a1 (ix2 d k)
  a2 k j := a2 (ix2 k j)
  g1 d k := g1 (ix2 d k)
  g2 k j := g2 (ix2 k j)
  mu n := mu (ix1 n)
  muW d := mw (ix2 (0 : Fin 3) d)
  muA d := mw (ix2 (1 : Fin 3) d)
  muG d := mw (ix2 (2 : Fin 3) d)
  w0 j := w0 (ix1 j)
  a0 j := a0 (ix1 j)
  kk j := kk (ix1 j)
  ka j := ka (ix1 j)

/-- Row `R` of the activations, the sequences laid end to end. -/
def seqRow (H : FVec Ideal ⟨3, ![32, 4, 1024]⟩ .f32) (R : ℕ) : Fin 1024 → EReal :=
  fun d => H (ix3 (⟨R / 4 % 32, by omega⟩ : Fin 32) (⟨R % 4, by omega⟩ : Fin 4) d)
/-- The row that the sequence of row `R` ended with before. -/
def lastRow (L : FVec Ideal ⟨2, ![32, 1024]⟩ .f32) (R : ℕ) : Fin 1024 → EReal :=
  fun d => L (ix2 (⟨R / 4 % 32, by omega⟩ : Fin 32) d)
/-- The row before row `R` in its sequence. -/
def prevRow (H : FVec Ideal ⟨3, ![32, 4, 1024]⟩ .f32) (L : FVec Ideal ⟨2, ![32, 1024]⟩ .f32) (R : ℕ) : Fin 1024 → EReal :=
  if R % 4 = 0 then lastRow L R else seqRow H (R - 1)
/-- The array that a function of a row and the row before it makes. -/
def rows (f : (Fin 1024 → EReal) → (Fin 1024 → EReal) → Fin 512 → EReal) (H : FVec Ideal ⟨3, ![32, 4, 1024]⟩ .f32) (L : FVec Ideal ⟨2, ![32, 1024]⟩ .f32) :
    (⟨2, ![128, 512]⟩ : Shape).Idx → EReal := fun i => f (seqRow H (i 0 : ℕ)) (prevRow H L (i 0 : ℕ)) (i 1)

/-- A sum over the lanes of one head. -/
theorem sum_head (f : Fin 512 → EReal) (j : Fin 512) :
    (∑ i : Fin 512, f i * (if i.val / 64 = j.val / 64 then 1 else 0)) = ∑ d : Fin 64, f ⟨64 * (j / 64) + d, by omega⟩ := by
  have h : ∀ i : Fin 512, f i * (if i.val / 64 = j.val / 64 then 1 else 0)
      = (fun n : ℕ => if 64 * (j.val / 64) ≤ n ∧ n < 64 * (j.val / 64) + 64 then (if h : n < 512 then f ⟨n, h⟩ else 0) else 0) i := by
    intro i
    simp only [i.isLt, dite_true]
    by_cases h : i.val / 64 = j.val / 64
    · rw [if_pos h, if_pos (by omega), mul_one]
    · rw [if_neg h, if_neg (by omega), mul_zero]
  rw [Finset.sum_congr rfl fun i _ => h i,
    ← Finset.sum_range (n := 512) (f := fun n : ℕ => if 64 * (j.val / 64) ≤ n ∧ n < 64 * (j.val / 64) + 64 then (if h : n < 512 then f ⟨n, h⟩ else 0) else 0),
    ← Finset.sum_filter]
  have e : (Finset.range 512).filter (fun n => 64 * (j.val / 64) ≤ n ∧ n < 64 * (j.val / 64) + 64) = Finset.Ico (64 * (j.val / 64)) (64 * (j.val / 64) + 64) := by
    ext n; simp only [Finset.mem_filter, Finset.mem_range, Finset.mem_Ico]; omega
  rw [e, Finset.sum_Ico_eq_sum_range, Nat.add_sub_cancel_left, Finset.sum_range]
  exact Finset.sum_congr rfl fun d _ => dif_pos (by omega)

end Cert.Mixer
-- ==== Proof.MixerTile.lean ====
module

public import proofs.«01_k».proof.Proof.Mixer
public import proofs.«01_k».proof.Proof.Gen.Kernel4Ideal.Skeleton

@[expose] public section
set_option maxRecDepth 16384
noncomputable section
namespace Cert.Kernel4Ideal.Tile
open Cert.Kernel4Ideal Cert.Kernel4Ideal.Gen Cert.Mixer
open Idealize.ShloMosaic Idealize.ShloMosaic.TcCoe
open scoped BigOperators

/-! What the block of 128 rows gives, row by row. -/

/-- The row before row `r`, which for the first of a sequence is row `r` of `b`. -/
def before {n : ℕ} (z b : Fin 128 → Fin n → EReal) (r : Fin 128) : Fin n → EReal :=
  if r.val % 4 = 0 then b r else z ⟨r - 1, by omega⟩

theorem first (r : Fin 128) : k0_pay5 (ix2 r (0 : Fin 1)) = if r.val % 4 = 0 then 1#1 else 0#1 := by
  pointwise [k0_pay5]
  revert r
  decide +kernel
theorem chosen {n : ℕ} (z b : Fin 128 → Fin n → EReal) (r : Fin 128) (h : (r.val + 128 - 1) % 128 < 128) (d : Fin n) :
    Scalar.select (k0_pay5 (ix2 r (0 : Fin 1))) (b r d) (z ⟨(r.val + 128 - 1) % 128, h⟩ d) = before z b r d := by
  rw [first, before]
  split
  · rfl
  · rename_i h0
    rw [Fin.ext (by dsimp only; omega : (⟨(r.val + 128 - 1) % 128, h⟩ : Fin 128).val = (⟨r.val - 1, by omega⟩ : Fin 128).val)]
    rfl
theorem lin_before {n : ℕ} (z b : Fin 128 → Fin 1024 → EReal) (W : Fin 1024 → Fin n → EReal) (r : Fin 128) (j : Fin n) :
    before (fun r => lin (z r) W) (fun r => lin (b r) W) r j = lin (before z b r) W j := by
  unfold before; split <;> rfl

variable (X L : Vec Ideal S128x1024 .f32) (W : Vec Ideal S1024x1536 .bf16)
theorem proj_eq (r : Fin 128) (n : Fin 1536) : k0_pay6 X W (ix2 r n) = lin (fun d => X (ix2 r d)) (fun d n => W (ix2 d n)) n := by
  pointwise [k0_pay6, k0_pay4]
  rfl
theorem last_eq (r : Fin 128) (n : Fin 1536) : k0_pay7 L W (ix2 r n) = lin (fun d => L (ix2 r d)) (fun d n => W (ix2 d n)) n := by
  pointwise [k0_pay7]
  rfl
theorem before_eq (r : Fin 128) (d : Fin 1024) : k0_pay8 X L (ix2 r d) = before (fun r d => X (ix2 r d)) (fun r d => L (ix2 r d)) r d := by
  pointwise [k0_pay8, k0_pay4]
  exact chosen (fun r d => X (ix2 r d)) (fun r d => L (ix2 r d)) r _ d
theorem shifted_eq (mu : Vec Ideal S1x1536 .f32) (r : Fin 128) (n : Fin 1536) :
    k0_pay16 k0_pay5 (k0_pay6 X W) (k0_pay7 L W) (k0_pay9 X W) mu (ix2 r n)
      = shift (lin (fun d => X (ix2 r d)) (fun d n => W (ix2 d n)) n)
          (lin (before (fun r d => X (ix2 r d)) (fun r d => L (ix2 r d)) r) (fun d n => W (ix2 d n)) n) (mu (ix2 0 n)) := by
  pointwise [k0_pay16, k0_pay9]
  simp only [proj_eq, last_eq]
  rw [chosen (fun r n => lin (fun d => X (ix2 r d)) (fun d n => W (ix2 d n)) n) (fun r n => lin (fun d => L (ix2 r d)) (fun d n => W (ix2 d n)) n) r _ n, lin_before]
  rfl
theorem recep_eq (mu : Vec Ideal S1x1536 .f32) (r : Fin 128) (j : Fin 512) :
    k0_pay17 k0_pay5 (k0_pay6 X W) (k0_pay7 L W) (k0_pay9 X W) mu (ix2 r j)
      = k0_pay16 k0_pay5 (k0_pay6 X W) (k0_pay7 L W) (k0_pay9 X W) mu (ix2 r (⟨j, by omega⟩ : Fin 1536)) := by
  pointwise [k0_pay17]
theorem key_eq (mu : Vec Ideal S1x1536 .f32) (r : Fin 128) (j : Fin 512) :
    k0_pay18 k0_pay5 (k0_pay6 X W) (k0_pay7 L W) (k0_pay9 X W) mu (ix2 r j)
      = k0_pay16 k0_pay5 (k0_pay6 X W) (k0_pay7 L W) (k0_pay9 X W) mu (ix2 r (⟨512 + j, by omega⟩ : Fin 1536)) := by
  pointwise [k0_pay18]
theorem val_eq (mu : Vec Ideal S1x1536 .f32) (r : Fin 128) (j : Fin 512) :
    k0_pay19 k0_pay5 (k0_pay6 X W) (k0_pay7 L W) (k0_pay9 X W) mu (ix2 r j)
      = k0_pay16 k0_pay5 (k0_pay6 X W) (k0_pay7 L W) (k0_pay9 X W) mu (ix2 r (⟨1024 + j, by omega⟩ : Fin 1536)) := by
  pointwise [k0_pay19]
theorem decay_eq (mu : Vec Ideal S1x1024 .f32) (w1 : Vec Ideal S1024x64 .bf16) (w2 : Vec Ideal S64x512 .bf16)
    (w0 : Vec Ideal S1x512 .f32) (r : Fin 128) (j : Fin 512) :
    k0_pay29 (k0_pay23 (k0_pay21 (k0_pay4 X) (k0_pay8 X L) mu) w1 w2 w0) (ix2 r j)
      = -Ideal.exp (-Row.sp (-(w0 (ix2 0 j) + lin (fun k => Ideal.tanh (lin (fun d => shift (X (ix2 r d)) (k0_pay8 X L (ix2 r d)) (mu (ix2 0 d))) (fun d k => w1 (ix2 d k)) k))
          (fun k j => w2 (ix2 k j)) j)) - Ideal.ofBits FTy.f32 0x3F000000#32) := by
  pointwise [k0_pay29, k0_pay23, k0_pay21, k0_pay20, k0_pay4]
  rw [← zero_sub (Ideal.exp _), ← zero_sub (Row.sp _), ← zero_sub (w0 (ix2 0 j) + _)]
  rfl
theorem rate_eq (mu : Vec Ideal S1x1024 .f32) (a0 : Vec Ideal S1x512 .f32) (a1 : Vec Ideal S1024x64 .bf16) (a2 : Vec Ideal S64x512 .bf16)
    (r : Fin 128) (j : Fin 512) :
    k0_pay26 (k0_pay24 a0) (k0_pay25 (k0_pay4 X) (k0_pay20 (k0_pay4 X) (k0_pay8 X L)) mu a1) a2 (ix2 r j)
      = Ideal.logistic (a0 (ix2 0 j) + lin (lin (fun d => shift (X (ix2 r d)) (k0_pay8 X L (ix2 r d)) (mu (ix2 0 d))) fun d k => a1 (ix2 d k)) (fun k j => a2 (ix2 k j)) j) := by
  pointwise [k0_pay26, k0_pay24, k0_pay25, k0_pay20, k0_pay4]
  rfl
theorem gate_eq (mu : Vec Ideal S1x1024 .f32) (g1 : Vec Ideal S1024x160 .bf16) (g2 : Vec Ideal S160x512 .bf16) (r : Fin 128) (j : Fin 512) :
    k0_pay27 (k0_pay22 (k0_pay4 X) (k0_pay20 (k0_pay4 X) (k0_pay8 X L)) mu) g1 g2 (ix2 r j)
      = lin (fun k => Ideal.logistic (lin (fun d => shift (X (ix2 r d)) (k0_pay8 X L (ix2 r d)) (mu (ix2 0 d))) (fun d k => g1 (ix2 d k)) k)) (fun k j => g2 (ix2 k j)) j := by
  pointwise [k0_pay27, k0_pay22, k0_pay20, k0_pay4]
  rfl
theorem unit_eq (k : FVec Ideal S128x512 .f32) (s : Vec Ideal S1x512 .f32) (e : Vec Ideal S512x512 .bf16) (r : Fin 128) (j : Fin 512) :
    k0_pay28 k s e (ix2 r j) = Ideal.div (k (ix2 r j) * s (ix2 0 j))
      (max (Ideal.sqrt (∑ i, k (ix2 r i) * s (ix2 0 i) * (k (ix2 r i) * s (ix2 0 i)) * e (ix2 i j))) (Ideal.ofBits FTy.f32 0x2B8CBCCC#32)) := by
  pointwise [k0_pay28]
theorem keyIn_eq (k : FVec Ideal S128x512 .f32) (a : Vec Ideal S1x512 .f32) (h : FVec Ideal S128x64 .f32) (a2 : Vec Ideal S64x512 .bf16)
    (s : Vec Ideal S1x512 .f32) (r : Fin 128) (j : Fin 512) :
    k0_pay1 k (k0_pay30 (k0_pay24 a) h a2) s (ix2 r j)
      = k (ix2 r j) * (Ideal.ofBits FTy.f32 0x3F800000#32 + (k0_pay26 (k0_pay24 a) h a2 (ix2 r j) - Ideal.ofBits FTy.f32 0x3F800000#32) * s (ix2 0 j)) := by
  pointwise [k0_pay1, k0_pay30]
theorem removal_eq (u : FVec Ideal S128x512 .f32) (r : Fin 128) (j : Fin 512) : k0_pay2 u (ix2 r j) = -u (ix2 r j) := by
  pointwise [k0_pay2]
  exact zero_sub _
theorem insertion_eq (a u : FVec Ideal S128x512 .f32) (r : Fin 128) (j : Fin 512) : k0_pay3 a u (ix2 r j) = u (ix2 r j) * a (ix2 r j) := by
  pointwise [k0_pay3]
theorem query_eq (r : Fin 128) (j : Fin 512) : k0_pay11 (k0_pay4 X) W (ix2 r j)
    = lin (fun d => X (ix2 r d)) (fun d n => W (ix2 d n)) ⟨j, by omega⟩ * Ideal.ofBits FTy.f32 0x3E000000#32 := by
  pointwise [k0_pay11, k0_pay10, k0_pay4]
  rfl
theorem attnKey_eq (r : Fin 128) (j : Fin 512) : k0_pay12 (k0_pay4 X) W (ix2 r j) = lin (fun d => X (ix2 r d)) (fun d n => W (ix2 d n)) ⟨512 + j, by omega⟩ := by
  pointwise [k0_pay12, k0_pay10, k0_pay4]
  rfl
theorem attnVal_eq (r : Fin 128) (j : Fin 512) : k0_pay13 (k0_pay4 X) W (ix2 r j) = lin (fun d => X (ix2 r d)) (fun d n => W (ix2 d n)) ⟨1024 + j, by omega⟩ := by
  pointwise [k0_pay13, k0_pay10, k0_pay4]
  rfl
theorem attnKeyBf_eq (r : Fin 128) (j : Fin 512) : k0_pay14 (k0_pay4 X) W (ix2 r j) = lin (fun d => X (ix2 r d)) (fun d n => W (ix2 d n)) ⟨512 + j, by omega⟩ := by
  pointwise [k0_pay14, k0_pay12, k0_pay10, k0_pay4]
  rfl
theorem attnValBf_eq (r : Fin 128) (j : Fin 512) : k0_pay15 (k0_pay4 X) W (ix2 r j) = lin (fun d => X (ix2 r d)) (fun d n => W (ix2 d n)) ⟨1024 + j, by omega⟩ := by
  pointwise [k0_pay15, k0_pay13, k0_pay10, k0_pay4]
  rfl

end Cert.Kernel4Ideal.Tile
-- ==== Proof.MixerFrame.lean ====
/- The run of the mixer-input program: what every buffer holds before and after the call. -/
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel4Ideal.Mix

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 1740000 in
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 10).trans (((dats 0 c).arrAt_in 10 rfl _).trans ((hA c 10).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

abbrev r0_0 : Rect S128x1024 := Rect.unit (s := S128x1024) ![0, 0] S128x1024.size inb_S128x1024_S128x1024_0_0
abbrev r0_1 : Rect S1024x1536 := Rect.unit (s := S1024x1536) ![0, 0] S1024x1536.size inb_S1024x1536_S1024x1536_0_0
abbrev r0_2 : Rect S128x512 := Rect.unit (s := S128x512) ![0, 0] S128x512.size inb_S128x512_S128x512_0_0
abbrev r0_3 : Rect S1x1536 := Rect.unit (s := S1x1536) ![0, 0] S1x1536.size inb_S1x1536_S1x1536_0_0
abbrev r0_4 : Rect S3x1024 := Rect.unit (s := S3x1024) ![0, 0] S1x1024.size inb_S3x1024_S1x1024_0_0
abbrev r0_5 : Rect S3x1024 := Rect.unit (s := S3x1024) ![1, 0] S1x1024.size inb_S3x1024_S1x1024_1_0
abbrev r0_6 : Rect S3x1024 := Rect.unit (s := S3x1024) ![2, 0] S1x1024.size inb_S3x1024_S1x1024_2_0
abbrev r0_7 : Rect S1024x64 := Rect.unit (s := S1024x64) ![0, 0] S1024x64.size inb_S1024x64_S1024x64_0_0
abbrev r0_8 : Rect S64x512 := Rect.unit (s := S64x512) ![0, 0] S64x512.size inb_S64x512_S64x512_0_0
abbrev r0_9 : Rect S1x512 := Rect.unit (s := S1x512) ![0, 0] S1x512.size inb_S1x512_S1x512_0_0
abbrev r0_10 : Rect S1024x160 := Rect.unit (s := S1024x160) ![0, 0] S1024x160.size inb_S1024x160_S1024x160_0_0
abbrev r0_11 : Rect S160x512 := Rect.unit (s := S160x512) ![0, 0] S160x512.size inb_S160x512_S160x512_0_0
abbrev r0_12 : Rect S512x512 := Rect.unit (s := S512x512) ![0, 0] S512x512.size inb_S512x512_S512x512_0_0

def k0_pay31 (x0 : Vec F S128x1024 .f32) (x1 : Vec F S128x1024 .f32) (x2 : Vec F S1024x1536 .bf16) (x3 : Vec F S1024x64 .bf16) (x4 : Vec F S64x512 .bf16) (x5 : Vec F S1024x64 .bf16) (x6 : Vec F S64x512 .bf16) (x7 : Vec F S1024x160 .bf16) (x8 : Vec F S160x512 .bf16) (x9 : Vec F S1x1536 .f32) (x10 : Vec F S3x1024 .f32) (x11 : Vec F S1x512 .f32) (x12 : Vec F S1x512 .f32) (x13 : Vec F S1x512 .f32) (x14 : Vec F S1x512 .f32) (x15 : Vec F S512x512 .bf16) (x16 : Vec F S1024x1536 .bf16) : FVec F S128x1024 .f32 :=
  k0_pay4 (View.ld x0 r0_0) -- `v1`
def k0_pay32 (x0 : Vec F S128x1024 .f32) (x1 : Vec F S128x1024 .f32) (x2 : Vec F S1024x1536 .bf16) (x3 : Vec F S1024x64 .bf16) (x4 : Vec F S64x512 .bf16) (x5 : Vec F S1024x64 .bf16) (x6 : Vec F S64x512 .bf16) (x7 : Vec F S1024x160 .bf16) (x8 : Vec F S160x512 .bf16) (x9 : Vec F S1x1536 .f32) (x10 : Vec F S3x1024 .f32) (x11 : Vec F S1x512 .f32) (x12 : Vec F S1x512 .f32) (x13 : Vec F S1x512 .f32) (x14 : Vec F S1x512 .f32) (x15 : Vec F S512x512 .bf16) (x16 : Vec F S1024x1536 .bf16) : IVec S128x1 1 :=
  k0_pay5 -- `v20`
def k0_pay33 (x0 : Vec F S128x1024 .f32) (x1 : Vec F S128x1024 .f32) (x2 : Vec F S1024x1536 .bf16) (x3 : Vec F S1024x64 .bf16) (x4 : Vec F S64x512 .bf16) (x5 : Vec F S1024x64 .bf16) (x6 : Vec F S64x512 .bf16) (x7 : Vec F S1024x160 .bf16) (x8 : Vec F S160x512 .bf16) (x9 : Vec F S1x1536 .f32) (x10 : Vec F S3x1024 .f32) (x11 : Vec F S1x512 .f32) (x12 : Vec F S1x512 .f32) (x13 : Vec F S1x512 .f32) (x14 : Vec F S1x512 .f32) (x15 : Vec F S512x512 .bf16) (x16 : Vec F S1024x1536 .bf16) : FVec F S128x1536 .f32 :=
  k0_pay6 (View.ld x0 r0_0) (View.ld x2 r0_1) -- `v24`
def k0_pay34 (x0 : Vec F S128x1024 .f32) (x1 : Vec F S128x1024 .f32) (x2 : Vec F S1024x1536 .bf16) (x3 : Vec F S1024x64 .bf16) (x4 : Vec F S64x512 .bf16) (x5 : Vec F S1024x64 .bf16) (x6 : Vec F S64x512 .bf16) (x7 : Vec F S1024x160 .bf16) (x8 : Vec F S160x512 .bf16) (x9 : Vec F S1x1536 .f32) (x10 : Vec F S3x1024 .f32) (x11 : Vec F S1x512 .f32) (x12 : Vec F S1x512 .f32) (x13 : Vec F S1x512 .f32) (x14 : Vec F S1x512 .f32) (x15 : Vec F S512x512 .bf16) (x16 : Vec F S1024x1536 .bf16) : FVec F S128x1536 .f32 :=
  k0_pay7 (View.ld x1 r0_0) (View.ld x2 r0_1) -- `v30`
def k0_pay35 (x0 : Vec F S128x1024 .f32) (x1 : Vec F S128x1024 .f32) (x2 : Vec F S1024x1536 .bf16) (x3 : Vec F S1024x64 .bf16) (x4 : Vec F S64x512 .bf16) (x5 : Vec F S1024x64 .bf16) (x6 : Vec F S64x512 .bf16) (x7 : Vec F S1024x160 .bf16) (x8 : Vec F S160x512 .bf16) (x9 : Vec F S1x1536 .f32) (x10 : Vec F S3x1024 .f32) (x11 : Vec F S1x512 .f32) (x12 : Vec F S1x512 .f32) (x13 : Vec F S1x512 .f32) (x14 : Vec F S1x512 .f32) (x15 : Vec F S512x512 .bf16) (x16 : Vec F S1024x1536 .bf16) : FVec F S128x1024 .f32 :=
  k0_pay8 (View.ld x0 r0_0) (View.ld x1 r0_0) -- `v36`
def k0_pay36 (x0 : Vec F S128x1024 .f32) (x1 : Vec F S128x1024 .f32) (x2 : Vec F S1024x1536 .bf16) (x3 : Vec F S1024x64 .bf16) (x4 : Vec F S64x512 .bf16) (x5 : Vec F S1024x64 .bf16) (x6 : Vec F S64x512 .bf16) (x7 : Vec F S1024x160 .bf16) (x8 : Vec F S160x512 .bf16) (x9 : Vec F S1x1536 .f32) (x10 : Vec F S3x1024 .f32) (x11 : Vec F S1x512 .f32) (x12 : Vec F S1x512 .f32) (x13 : Vec F S1x512 .f32) (x14 : Vec F S1x512 .f32) (x15 : Vec F S512x512 .bf16) (x16 : Vec F S1024x1536 .bf16) : FVec F S128x1536 .f32 :=
  k0_pay9 (View.ld x0 r0_0) (View.ld x2 r0_1) -- `v37`
def k0_pay37 (x0 : Vec F S128x1024 .f32) (x1 : Vec F S128x1024 .f32) (x2 : Vec F S1024x1536 .bf16) (x3 : Vec F S1024x64 .bf16) (x4 : Vec F S64x512 .bf16) (x5 : Vec F S1024x64 .bf16) (x6 : Vec F S64x512 .bf16) (x7 : Vec F S1024x160 .bf16) (x8 : Vec F S160x512 .bf16) (x9 : Vec F S1x1536 .f32) (x10 : Vec F S3x1024 .f32) (x11 : Vec F S1x512 .f32) (x12 : Vec F S1x512 .f32) (x13 : Vec F S1x512 .f32) (x14 : Vec F S1x512 .f32) (x15 : Vec F S512x512 .bf16) (x16 : Vec F S1024x1536 .bf16) : FVec F S128x512 .f32 :=
  k0_pay18 (k0_pay32 x0 x1 x2 x3 x4 x5 x6 x7 x8 x9 x10 x11 x12 x13 x14 x15 x16) (k0_pay33 x0 x1 x2 x3 x4 x5 x6 x7 x8 x9 x10 x11 x12 x13 x14 x15 x16) (k0_pay34 x0 x1 x2 x3 x4 x5 x6 x7 x8 x9 x10 x11 x12 x13 x14 x15 x16) (k0_pay36 x0 x1 x2 x3 x4 x5 x6 x7 x8 x9 x10 x11 x12 x13 x14 x15 x16) (View.ld x9 r0_3) -- `v65`
def k0_pay38 (x0 : Vec F S128x1024 .f32) (x1 : Vec F S128x1024 .f32) (x2 : Vec F S1024x1536 .bf16) (x3 : Vec F S1024x64 .bf16) (x4 : Vec F S64x512 .bf16) (x5 : Vec F S1024x64 .bf16) (x6 : Vec F S64x512 .bf16) (x7 : Vec F S1024x160 .bf16) (x8 : Vec F S160x512 .bf16) (x9 : Vec F S1x1536 .f32) (x10 : Vec F S3x1024 .f32) (x11 : Vec F S1x512 .f32) (x12 : Vec F S1x512 .f32) (x13 : Vec F S1x512 .f32) (x14 : Vec F S1x512 .f32) (x15 : Vec F S512x512 .bf16) (x16 : Vec F S1024x1536 .bf16) : FVec F S128x1024 .f32 :=
  k0_pay20 (k0_pay31 x0 x1 x2 x3 x4 x5 x6 x7 x8 x9 x10 x11 x12 x13 x14 x15 x16) (k0_pay35 x0 x1 x2 x3 x4 x5 x6 x7 x8 x9 x10 x11 x12 x13 x14 x15 x16) -- `v67`
def k0_pay39 (x0 : Vec F S128x1024 .f32) (x1 : Vec F S128x1024 .f32) (x2 : Vec F S1024x1536 .bf16) (x3 : Vec F S1024x64 .bf16) (x4 : Vec F S64x512 .bf16) (x5 : Vec F S1024x64 .bf16) (x6 : Vec F S64x512 .bf16) (x7 : Vec F S1024x160 .bf16) (x8 : Vec F S160x512 .bf16) (x9 : Vec F S1x1536 .f32) (x10 : Vec F S3x1024 .f32) (x11 : Vec F S1x512 .f32) (x12 : Vec F S1x512 .f32) (x13 : Vec F S1x512 .f32) (x14 : Vec F S1x512 .f32) (x15 : Vec F S512x512 .bf16) (x16 : Vec F S1024x1536 .bf16) : FVec F S1x512 .f32 :=
  k0_pay24 (View.ld x12 r0_9) -- `v108`
def k0_pay40 (x0 : Vec F S128x1024 .f32) (x1 : Vec F S128x1024 .f32) (x2 : Vec F S1024x1536 .bf16) (x3 : Vec F S1024x64 .bf16) (x4 : Vec F S64x512 .bf16) (x5 : Vec F S1024x64 .bf16) (x6 : Vec F S64x512 .bf16) (x7 : Vec F S1024x160 .bf16) (x8 : Vec F S160x512 .bf16) (x9 : Vec F S1x1536 .f32) (x10 : Vec F S3x1024 .f32) (x11 : Vec F S1x512 .f32) (x12 : Vec F S1x512 .f32) (x13 : Vec F S1x512 .f32) (x14 : Vec F S1x512 .f32) (x15 : Vec F S512x512 .bf16) (x16 : Vec F S1024x1536 .bf16) : FVec F S128x64 .f32 :=
  k0_pay25 (k0_pay31 x0 x1 x2 x3 x4 x5 x6 x7 x8 x9 x10 x11 x12 x13 x14 x15 x16) (k0_pay38 x0 x1 x2 x3 x4 x5 x6 x7 x8 x9 x10 x11 x12 x13 x14 x15 x16) (View.ld x10 r0_5) (View.ld x5 r0_7) -- `v112`
def k0_pay41 (x0 : Vec F S128x1024 .f32) (x1 : Vec F S128x1024 .f32) (x2 : Vec F S1024x1536 .bf16) (x3 : Vec F S1024x64 .bf16) (x4 : Vec F S64x512 .bf16) (x5 : Vec F S1024x64 .bf16) (x6 : Vec F S64x512 .bf16) (x7 : Vec F S1024x160 .bf16) (x8 : Vec F S160x512 .bf16) (x9 : Vec F S1x1536 .f32) (x10 : Vec F S3x1024 .f32) (x11 : Vec F S1x512 .f32) (x12 : Vec F S1x512 .f32) (x13 : Vec F S1x512 .f32) (x14 : Vec F S1x512 .f32) (x15 : Vec F S512x512 .bf16) (x16 : Vec F S1024x1536 .bf16) : FVec F S128x512 .f32 :=
  k0_pay28 (k0_pay37 x0 x1 x2 x3 x4 x5 x6 x7 x8 x9 x10 x11 x12 x13 x14 x15 x16) (View.ld x13 r0_9) (View.ld x15 r0_12) -- `v141`

def out0_17 (x0 : Vec F S128x1024 .f32) (x1 : Vec F S128x1024 .f32) (x2 : Vec F S1024x1536 .bf16) (x3 : Vec F S1024x64 .bf16) (x4 : Vec F S64x512 .bf16) (x5 : Vec F S1024x64 .bf16) (x6 : Vec F S64x512 .bf16) (x7 : Vec F S1024x160 .bf16) (x8 : Vec F S160x512 .bf16) (x9 : Vec F S1x1536 .f32) (x10 : Vec F S3x1024 .f32) (x11 : Vec F S1x512 .f32) (x12 : Vec F S1x512 .f32) (x13 : Vec F S1x512 .f32) (x14 : Vec F S1x512 .f32) (x15 : Vec F S512x512 .bf16) (x16 : Vec F S1024x1536 .bf16) : Vec F S128x512 .f32 :=
  View.canon [⟨r0_2, k0_pay17 (k0_pay32 x0 x1 x2 x3 x4 x5 x6 x7 x8 x9 x10 x11 x12 x13 x14 x15 x16) (k0_pay33 x0 x1 x2 x3 x4 x5 x6 x7 x8 x9 x10 x11 x12 x13 x14 x15 x16) (k0_pay34 x0 x1 x2 x3 x4 x5 x6 x7 x8 x9 x10 x11 x12 x13 x14 x15 x16) (k0_pay36 x0 x1 x2 x3 x4 x5 x6 x7 x8 x9 x10 x11 x12 x13 x14 x15 x16) (View.ld x9 r0_3)⟩]

theorem cover0_17 (p0 : Vec F S128x512 .f32) (y : S128x512.Idx) :
    ∃ pc ∈ ([⟨r0_2, p0⟩] : List (View.Piece (Elt F) S128x512 .f32)), y ∈ pc.1.set :=
  View.cover_of_tiled [⟨r0_2, p0⟩] S128x512.size (by rfl) y

def out0_18 (x0 : Vec F S128x1024 .f32) (x1 : Vec F S128x1024 .f32) (x2 : Vec F S1024x1536 .bf16) (x3 : Vec F S1024x64 .bf16) (x4 : Vec F S64x512 .bf16) (x5 : Vec F S1024x64 .bf16) (x6 : Vec F S64x512 .bf16) (x7 : Vec F S1024x160 .bf16) (x8 : Vec F S160x512 .bf16) (x9 : Vec F S1x1536 .f32) (x10 : Vec F S3x1024 .f32) (x11 : Vec F S1x512 .f32) (x12 : Vec F S1x512 .f32) (x13 : Vec F S1x512 .f32) (x14 : Vec F S1x512 .f32) (x15 : Vec F S512x512 .bf16) (x16 : Vec F S1024x1536 .bf16) : Vec F S128x512 .f32 :=
  View.canon [⟨r0_2, k0_pay29 (k0_pay23 (k0_pay21 (k0_pay31 x0 x1 x2 x3 x4 x5 x6 x7 x8 x9 x10 x11 x12 x13 x14 x15 x16) (k0_pay35 x0 x1 x2 x3 x4 x5 x6 x7 x8 x9 x10 x11 x12 x13 x14 x15 x16) (View.ld x10 r0_4)) (View.ld x3 r0_7) (View.ld x4 r0_8) (View.ld x11 r0_9))⟩]

theorem cover0_18 (p0 : Vec F S128x512 .f32) (y : S128x512.Idx) :
    ∃ pc ∈ ([⟨r0_2, p0⟩] : List (View.Piece (Elt F) S128x512 .f32)), y ∈ pc.1.set :=
  View.cover_of_tiled [⟨r0_2, p0⟩] S128x512.size (by rfl) y

def out0_19 (x0 : Vec F S128x1024 .f32) (x1 : Vec F S128x1024 .f32) (x2 : Vec F S1024x1536 .bf16) (x3 : Vec F S1024x64 .bf16) (x4 : Vec F S64x512 .bf16) (x5 : Vec F S1024x64 .bf16) (x6 : Vec F S64x512 .bf16) (x7 : Vec F S1024x160 .bf16) (x8 : Vec F S160x512 .bf16) (x9 : Vec F S1x1536 .f32) (x10 : Vec F S3x1024 .f32) (x11 : Vec F S1x512 .f32) (x12 : Vec F S1x512 .f32) (x13 : Vec F S1x512 .f32) (x14 : Vec F S1x512 .f32) (x15 : Vec F S512x512 .bf16) (x16 : Vec F S1024x1536 .bf16) : Vec F S128x512 .f32 :=
  View.canon [⟨r0_2, k0_pay1 (k0_pay37 x0 x1 x2 x3 x4 x5 x6 x7 x8 x9 x10 x11 x12 x13 x14 x15 x16) (k0_pay30 (k0_pay39 x0 x1 x2 x3 x4 x5 x6 x7 x8 x9 x10 x11 x12 x13 x14 x15 x16) (k0_pay40 x0 x1 x2 x3 x4 x5 x6 x7 x8 x9 x10 x11 x12 x13 x14 x15 x16) (View.ld x6 r0_8)) (View.ld x14 r0_9)⟩]

theorem cover0_19 (p0 : Vec F S128x512 .f32) (y : S128x512.Idx) :
    ∃ pc ∈ ([⟨r0_2, p0⟩] : List (View.Piece (Elt F) S128x512 .f32)), y ∈ pc.1.set :=
  View.cover_of_tiled [⟨r0_2, p0⟩] S128x512.size (by rfl) y

def out0_20 (x0 : Vec F S128x1024 .f32) (x1 : Vec F S128x1024 .f32) (x2 : Vec F S1024x1536 .bf16) (x3 : Vec F S1024x64 .bf16) (x4 : Vec F S64x512 .bf16) (x5 : Vec F S1024x64 .bf16) (x6 : Vec F S64x512 .bf16) (x7 : Vec F S1024x160 .bf16) (x8 : Vec F S160x512 .bf16) (x9 : Vec F S1x1536 .f32) (x10 : Vec F S3x1024 .f32) (x11 : Vec F S1x512 .f32) (x12 : Vec F S1x512 .f32) (x13 : Vec F S1x512 .f32) (x14 : Vec F S1x512 .f32) (x15 : Vec F S512x512 .bf16) (x16 : Vec F S1024x1536 .bf16) : Vec F S128x512 .f32 :=
  View.canon [⟨r0_2, k0_pay2 (k0_pay41 x0 x1 x2 x3 x4 x5 x6 x7 x8 x9 x10 x11 x12 x13 x14 x15 x16)⟩]

theorem cover0_20 (p0 : Vec F S128x512 .f32) (y : S128x512.Idx) :
    ∃ pc ∈ ([⟨r0_2, p0⟩] : List (View.Piece (Elt F) S128x512 .f32)), y ∈ pc.1.set :=
  View.cover_of_tiled [⟨r0_2, p0⟩] S128x512.size (by rfl) y

def out0_21 (x0 : Vec F S128x1024 .f32) (x1 : Vec F S128x1024 .f32) (x2 : Vec F S1024x1536 .bf16) (x3 : Vec F S1024x64 .bf16) (x4 : Vec F S64x512 .bf16) (x5 : Vec F S1024x64 .bf16) (x6 : Vec F S64x512 .bf16) (x7 : Vec F S1024x160 .bf16) (x8 : Vec F S160x512 .bf16) (x9 : Vec F S1x1536 .f32) (x10 : Vec F S3x1024 .f32) (x11 : Vec F S1x512 .f32) (x12 : Vec F S1x512 .f32) (x13 : Vec F S1x512 .f32) (x14 : Vec F S1x512 .f32) (x15 : Vec F S512x512 .bf16) (x16 : Vec F S1024x1536 .bf16) : Vec F S128x512 .f32 :=
  View.canon [⟨r0_2, k0_pay3 (k0_pay26 (k0_pay39 x0 x1 x2 x3 x4 x5 x6 x7 x8 x9 x10 x11 x12 x13 x14 x15 x16) (k0_pay40 x0 x1 x2 x3 x4 x5 x6 x7 x8 x9 x10 x11 x12 x13 x14 x15 x16) (View.ld x6 r0_8)) (k0_pay41 x0 x1 x2 x3 x4 x5 x6 x7 x8 x9 x10 x11 x12 x13 x14 x15 x16)⟩]

theorem cover0_21 (p0 : Vec F S128x512 .f32) (y : S128x512.Idx) :
    ∃ pc ∈ ([⟨r0_2, p0⟩] : List (View.Piece (Elt F) S128x512 .f32)), y ∈ pc.1.set :=
  View.cover_of_tiled [⟨r0_2, p0⟩] S128x512.size (by rfl) y

def out0_22 (x0 : Vec F S128x1024 .f32) (x1 : Vec F S128x1024 .f32) (x2 : Vec F S1024x1536 .bf16) (x3 : Vec F S1024x64 .bf16) (x4 : Vec F S64x512 .bf16) (x5 : Vec F S1024x64 .bf16) (x6 : Vec F S64x512 .bf16) (x7 : Vec F S1024x160 .bf16) (x8 : Vec F S160x512 .bf16) (x9 : Vec F S1x1536 .f32) (x10 : Vec F S3x1024 .f32) (x11 : Vec F S1x512 .f32) (x12 : Vec F S1x512 .f32) (x13 : Vec F S1x512 .f32) (x14 : Vec F S1x512 .f32) (x15 : Vec F S512x512 .bf16) (x16 : Vec F S1024x1536 .bf16) : Vec F S128x512 .f32 :=
  View.canon [⟨r0_2, k0_pay19 (k0_pay32 x0 x1 x2 x3 x4 x5 x6 x7 x8 x9 x10 x11 x12 x13 x14 x15 x16) (k0_pay33 x0 x1 x2 x3 x4 x5 x6 x7 x8 x9 x10 x11 x12 x13 x14 x15 x16) (k0_pay34 x0 x1 x2 x3 x4 x5 x6 x7 x8 x9 x10 x11 x12 x13 x14 x15 x16) (k0_pay36 x0 x1 x2 x3 x4 x5 x6 x7 x8 x9 x10 x11 x12 x13 x14 x15 x16) (View.ld x9 r0_3)⟩]

theorem cover0_22 (p0 : Vec F S128x512 .f32) (y : S128x512.Idx) :
    ∃ pc ∈ ([⟨r0_2, p0⟩] : List (View.Piece (Elt F) S128x512 .f32)), y ∈ pc.1.set :=
  View.cover_of_tiled [⟨r0_2, p0⟩] S128x512.size (by rfl) y

def out0_23 (x0 : Vec F S128x1024 .f32) (x1 : Vec F S128x1024 .f32) (x2 : Vec F S1024x1536 .bf16) (x3 : Vec F S1024x64 .bf16) (x4 : Vec F S64x512 .bf16) (x5 : Vec F S1024x64 .bf16) (x6 : Vec F S64x512 .bf16) (x7 : Vec F S1024x160 .bf16) (x8 : Vec F S160x512 .bf16) (x9 : Vec F S1x1536 .f32) (x10 : Vec F S3x1024 .f32) (x11 : Vec F S1x512 .f32) (x12 : Vec F S1x512 .f32) (x13 : Vec F S1x512 .f32) (x14 : Vec F S1x512 .f32) (x15 : Vec F S512x512 .bf16) (x16 : Vec F S1024x1536 .bf16) : Vec F S128x512 .f32 :=
  View.canon [⟨r0_2, k0_pay27 (k0_pay22 (k0_pay31 x0 x1 x2 x3 x4 x5 x6 x7 x8 x9 x10 x11 x12 x13 x14 x15 x16) (k0_pay38 x0 x1 x2 x3 x4 x5 x6 x7 x8 x9 x10 x11 x12 x13 x14 x15 x16) (View.ld x10 r0_6)) (View.ld x7 r0_10) (View.ld x8 r0_11)⟩]

theorem cover0_23 (p0 : Vec F S128x512 .f32) (y : S128x512.Idx) :
    ∃ pc ∈ ([⟨r0_2, p0⟩] : List (View.Piece (Elt F) S128x512 .f32)), y ∈ pc.1.set :=
  View.cover_of_tiled [⟨r0_2, p0⟩] S128x512.size (by rfl) y

def out0_24 (x0 : Vec F S128x1024 .f32) (x1 : Vec F S128x1024 .f32) (x2 : Vec F S1024x1536 .bf16) (x3 : Vec F S1024x64 .bf16) (x4 : Vec F S64x512 .bf16) (x5 : Vec F S1024x64 .bf16) (x6 : Vec F S64x512 .bf16) (x7 : Vec F S1024x160 .bf16) (x8 : Vec F S160x512 .bf16) (x9 : Vec F S1x1536 .f32) (x10 : Vec F S3x1024 .f32) (x11 : Vec F S1x512 .f32) (x12 : Vec F S1x512 .f32) (x13 : Vec F S1x512 .f32) (x14 : Vec F S1x512 .f32) (x15 : Vec F S512x512 .bf16) (x16 : Vec F S1024x1536 .bf16) : Vec F S128x512 .bf16 :=
  View.canon [⟨r0_2, k0_pay11 (k0_pay31 x0 x1 x2 x3 x4 x5 x6 x7 x8 x9 x10 x11 x12 x13 x14 x15 x16) (View.ld x16 r0_1)⟩]

theorem cover0_24 (p0 : Vec F S128x512 .bf16) (y : S128x512.Idx) :
    ∃ pc ∈ ([⟨r0_2, p0⟩] : List (View.Piece (Elt F) S128x512 .bf16)), y ∈ pc.1.set :=
  View.cover_of_tiled [⟨r0_2, p0⟩] S128x512.size (by rfl) y

def out0_25 (x0 : Vec F S128x1024 .f32) (x1 : Vec F S128x1024 .f32) (x2 : Vec F S1024x1536 .bf16) (x3 : Vec F S1024x64 .bf16) (x4 : Vec F S64x512 .bf16) (x5 : Vec F S1024x64 .bf16) (x6 : Vec F S64x512 .bf16) (x7 : Vec F S1024x160 .bf16) (x8 : Vec F S160x512 .bf16) (x9 : Vec F S1x1536 .f32) (x10 : Vec F S3x1024 .f32) (x11 : Vec F S1x512 .f32) (x12 : Vec F S1x512 .f32) (x13 : Vec F S1x512 .f32) (x14 : Vec F S1x512 .f32) (x15 : Vec F S512x512 .bf16) (x16 : Vec F S1024x1536 .bf16) : Vec F S128x512 .f32 :=
  View.canon [⟨r0_2, k0_pay12 (k0_pay31 x0 x1 x2 x3 x4 x5 x6 x7 x8 x9 x10 x11 x12 x13 x14 x15 x16) (View.ld x16 r0_1)⟩]

theorem cover0_25 (p0 : Vec F S128x512 .f32) (y : S128x512.Idx) :
    ∃ pc ∈ ([⟨r0_2, p0⟩] : List (View.Piece (Elt F) S128x512 .f32)), y ∈ pc.1.set :=
  View.cover_of_tiled [⟨r0_2, p0⟩] S128x512.size (by rfl) y

def out0_26 (x0 : Vec F S128x1024 .f32) (x1 : Vec F S128x1024 .f32) (x2 : Vec F S1024x1536 .bf16) (x3 : Vec F S1024x64 .bf16) (x4 : Vec F S64x512 .bf16) (x5 : Vec F S1024x64 .bf16) (x6 : Vec F S64x512 .bf16) (x7 : Vec F S1024x160 .bf16) (x8 : Vec F S160x512 .bf16) (x9 : Vec F S1x1536 .f32) (x10 : Vec F S3x1024 .f32) (x11 : Vec F S1x512 .f32) (x12 : Vec F S1x512 .f32) (x13 : Vec F S1x512 .f32) (x14 : Vec F S1x512 .f32) (x15 : Vec F S512x512 .bf16) (x16 : Vec F S1024x1536 .bf16) : Vec F S128x512 .f32 :=
  View.canon [⟨r0_2, k0_pay13 (k0_pay31 x0 x1 x2 x3 x4 x5 x6 x7 x8 x9 x10 x11 x12 x13 x14 x15 x16) (View.ld x16 r0_1)⟩]

theorem cover0_26 (p0 : Vec F S128x512 .f32) (y : S128x512.Idx) :
    ∃ pc ∈ ([⟨r0_2, p0⟩] : List (View.Piece (Elt F) S128x512 .f32)), y ∈ pc.1.set :=
  View.cover_of_tiled [⟨r0_2, p0⟩] S128x512.size (by rfl) y

def out0_27 (x0 : Vec F S128x1024 .f32) (x1 : Vec F S128x1024 .f32) (x2 : Vec F S1024x1536 .bf16) (x3 : Vec F S1024x64 .bf16) (x4 : Vec F S64x512 .bf16) (x5 : Vec F S1024x64 .bf16) (x6 : Vec F S64x512 .bf16) (x7 : Vec F S1024x160 .bf16) (x8 : Vec F S160x512 .bf16) (x9 : Vec F S1x1536 .f32) (x10 : Vec F S3x1024 .f32) (x11 : Vec F S1x512 .f32) (x12 : Vec F S1x512 .f32) (x13 : Vec F S1x512 .f32) (x14 : Vec F S1x512 .f32) (x15 : Vec F S512x512 .bf16) (x16 : Vec F S1024x1536 .bf16) : Vec F S128x512 .bf16 :=
  View.canon [⟨r0_2, k0_pay14 (k0_pay31 x0 x1 x2 x3 x4 x5 x6 x7 x8 x9 x10 x11 x12 x13 x14 x15 x16) (View.ld x16 r0_1)⟩]

theorem cover0_27 (p0 : Vec F S128x512 .bf16) (y : S128x512.Idx) :
    ∃ pc ∈ ([⟨r0_2, p0⟩] : List (View.Piece (Elt F) S128x512 .bf16)), y ∈ pc.1.set :=
  View.cover_of_tiled [⟨r0_2, p0⟩] S128x512.size (by rfl) y

def out0_28 (x0 : Vec F S128x1024 .f32) (x1 : Vec F S128x1024 .f32) (x2 : Vec F S1024x1536 .bf16) (x3 : Vec F S1024x64 .bf16) (x4 : Vec F S64x512 .bf16) (x5 : Vec F S1024x64 .bf16) (x6 : Vec F S64x512 .bf16) (x7 : Vec F S1024x160 .bf16) (x8 : Vec F S160x512 .bf16) (x9 : Vec F S1x1536 .f32) (x10 : Vec F S3x1024 .f32) (x11 : Vec F S1x512 .f32) (x12 : Vec F S1x512 .f32) (x13 : Vec F S1x512 .f32) (x14 : Vec F S1x512 .f32) (x15 : Vec F S512x512 .bf16) (x16 : Vec F S1024x1536 .bf16) : Vec F S128x512 .bf16 :=
  View.canon [⟨r0_2, k0_pay15 (k0_pay31 x0 x1 x2 x3 x4 x5 x6 x7 x8 x9 x10 x11 x12 x13 x14 x15 x16) (View.ld x16 r0_1)⟩]

theorem cover0_28 (p0 : Vec F S128x512 .bf16) (y : S128x512.Idx) :
    ∃ pc ∈ ([⟨r0_2, p0⟩] : List (View.Piece (Elt F) S128x512 .bf16)), y ∈ pc.1.set :=
  View.cover_of_tiled [⟨r0_2, p0⟩] S128x512.size (by rfl) y

set_option maxHeartbeats 1000000 in
theorem sound_kernel (c : Dev nD) (E : Set ℕ) (i : grid0.Coords) (arg1 : Memref sig .tc .vmem S128x1024 .f32) (harg1 : arg1.IsWhole) (arg2 : Memref sig .tc .vmem S128x1024 .f32) (harg2 : arg2.IsWhole) (arg3 : Memref sig .tc .vmem S1024x1536 .bf16) (harg3 : arg3.IsWhole) (arg4 : Memref sig .tc .vmem S1024x64 .bf16) (harg4 : arg4.IsWhole) (arg5 : Memref sig .tc .vmem S64x512 .bf16) (harg5 : arg5.IsWhole) (arg6 : Memref sig .tc .vmem S1024x64 .bf16) (harg6 : arg6.IsWhole) (arg7 : Memref sig .tc .vmem S64x512 .bf16) (harg7 : arg7.IsWhole) (arg8 : Memref sig .tc .vmem S1024x160 .bf16) (harg8 : arg8.IsWhole) (arg9 : Memref sig .tc .vmem S160x512 .bf16) (harg9 : arg9.IsWhole) (arg10 : Memref sig .tc .vmem S1x1536 .f32) (harg10 : arg10.IsWhole) (arg11 : Memref sig .tc .vmem S3x1024 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S512x512 .bf16) (harg16 : arg16.IsWhole) (arg17 : Memref sig .tc .vmem S1024x1536 .bf16) (harg17 : arg17.IsWhole) (arg18 : Memref sig .tc .vmem S128x512 .f32) (harg18 : arg18.IsWhole) (arg19 : Memref sig .tc .vmem S128x512 .f32) (harg19 : arg19.IsWhole) (arg20 : Memref sig .tc .vmem S128x512 .f32) (harg20 : arg20.IsWhole) (arg21 : Memref sig .tc .vmem S128x512 .f32) (harg21 : arg21.IsWhole) (arg22 : Memref sig .tc .vmem S128x512 .f32) (harg22 : arg22.IsWhole) (arg23 : Memref sig .tc .vmem S128x512 .f32) (harg23 : arg23.IsWhole) (arg24 : Memref sig .tc .vmem S128x512 .f32) (harg24 : arg24.IsWhole) (arg25 : Memref sig .tc .vmem S128x512 .bf16) (harg25 : arg25.IsWhole) (arg26 : Memref sig .tc .vmem S128x512 .f32) (harg26 : arg26.IsWhole) (arg27 : Memref sig .tc .vmem S128x512 .f32) (harg27 : arg27.IsWhole) (arg28 : Memref sig .tc .vmem S128x512 .bf16) (harg28 : arg28.IsWhole) (arg29 : Memref sig .tc .vmem S128x512 .bf16) (harg29 : arg29.IsWhole)
    (x0 : Vec F S128x1024 .f32) (x1 : Vec F S128x1024 .f32) (x2 : Vec F S1024x1536 .bf16) (x3 : Vec F S1024x64 .bf16) (x4 : Vec F S64x512 .bf16) (x5 : Vec F S1024x64 .bf16) (x6 : Vec F S64x512 .bf16) (x7 : Vec F S1024x160 .bf16) (x8 : Vec F S160x512 .bf16) (x9 : Vec F S1x1536 .f32) (x10 : Vec F S3x1024 .f32) (x11 : Vec F S1x512 .f32) (x12 : Vec F S1x512 .f32) (x13 : Vec F S1x512 .f32) (x14 : Vec F S1x512 .f32) (x15 : Vec F S512x512 .bf16) (x16 : Vec F S1024x1536 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare (out0_17 x0 x1 x2 x3 x4 x5 x6 x7 x8 x9 x10 x11 x12 x13 x14 x15 x16) ∗ owns (c : Thread nD τ) arg19 fullShare (out0_18 x0 x1 x2 x3 x4 x5 x6 x7 x8 x9 x10 x11 x12 x13 x14 x15 x16) ∗ owns (c : Thread nD τ) arg20 fullShare (out0_19 x0 x1 x2 x3 x4 x5 x6 x7 x8 x9 x10 x11 x12 x13 x14 x15 x16) ∗ owns (c : Thread nD τ) arg21 fullShare (out0_20 x0 x1 x2 x3 x4 x5 x6 x7 x8 x9 x10 x11 x12 x13 x14 x15 x16) ∗ owns (c : Thread nD τ) arg22 fullShare (out0_21 x0 x1 x2 x3 x4 x5 x6 x7 x8 x9 x10 x11 x12 x13 x14 x15 x16) ∗ owns (c : Thread nD τ) arg23 fullShare (out0_22 x0 x1 x2 x3 x4 x5 x6 x7 x8 x9 x10 x11 x12 x13 x14 x15 x16) ∗ owns (c : Thread nD τ) arg24 fullShare (out0_23 x0 x1 x2 x3 x4 x5 x6 x7 x8 x9 x10 x11 x12 x13 x14 x15 x16) ∗ owns (c : Thread nD τ) arg25 fullShare (out0_24 x0 x1 x2 x3 x4 x5 x6 x7 x8 x9 x10 x11 x12 x13 x14 x15 x16) ∗ owns (c : Thread nD τ) arg26 fullShare (out0_25 x0 x1 x2 x3 x4 x5 x6 x7 x8 x9 x10 x11 x12 x13 x14 x15 x16) ∗ owns (c : Thread nD τ) arg27 fullShare (out0_26 x0 x1 x2 x3 x4 x5 x6 x7 x8 x9 x10 x11 x12 x13 x14 x15 x16) ∗ owns (c : Thread nD τ) arg28 fullShare (out0_27 x0 x1 x2 x3 x4 x5 x6 x7 x8 x9 x10 x11 x12 x13 x14 x15 x16) ∗ owns (c : Thread nD τ) arg29 fullShare (out0_28 x0 x1 x2 x3 x4 x5 x6 x7 x8 x9 x10 x11 x12 x13 x14 x15 x16)) -∗ K ⟨⟩))
      ⊢ wp frame (wpE (defs₀ (F := F)) Variants.none c none) E (cc0_mixer_prep i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  simp only [cc0_mixer_prep_eq_skeleton]; unfold cc0_mixer_prep_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, Hk⟩
  subst hf0 hf1 hf2 hf3 hf4 hf5 hf6 hf7 hf8 hf9 hf10 hf11 hf12 hf13 hf14 hf15 hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _)).trans ?_
    rfl
  isplitl [H25]
  · iexists _; isplitr
    swap; · iexact H25
    ipureintro
    refine (View.read_writes_eq_canon _ _ _ (cover0_25 _)).trans ?_
    rfl
  isplitl [H26]
  · iexists _; isplitr
    swap; · iexact H26
    ipureintro
    refine (View.read_writes_eq_canon _ _ _ (cover0_26 _)).trans ?_
    rfl
  isplitl [H27]
  · iexists _; isplitr
    swap; · iexact H27
    ipureintro
    refine (View.read_writes_eq_canon _ _ _ (cover0_27 _)).trans ?_
    rfl
  iexists _; isplitr
  swap; · iexact H28
  ipureintro
  refine (View.read_writes_eq_canon _ _ _ (cover0_28 _)).trans ?_
  rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨27, _⟩ => out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨28, _⟩ => out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨_ + 29, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_27 (c : Dev nD) (t : Fin cfg0.N) : (dats m 0 c).after 27 t = out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_28 (c : Dev nD) (t : Fin cfg0.N) : (dats m 0 c).after 28 t = out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t))

set_option maxHeartbeats 8000000 in
/-- The body at a point keeps what is asked of it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  iintro ⟨H0, H1, H2, H3, H4, H5, H6, H7, H8, H9, H10, H11, H12, H13, H14, H15, H16, H17, H18, H19, H20, H21, H22, H23, H24, H25, H26, H27, H28⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  iexact H28

theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- What is asked of the body at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 8000000 in
/-- The whole program runs to the end, with the arrays as the data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

/-! ## The result arrays -/

theorem post17 (r : PUnit × MemSt nD τ sig (Elt F)) (h : Pipeline.FramePost cfgs (dats m) 0 (V m) r) (c : Dev nD) :
    r.2.mem ((c : Thread nD τ).loc main_v26_0) = (dats m 0 c).arrAt 17 cfg0.N :=
  (h c).1 17

theorem post18 (r : PUnit × MemSt nD τ sig (Elt F)) (h : Pipeline.FramePost cfgs (dats m) 0 (V m) r) (c : Dev nD) :
    r.2.mem ((c : Thread nD τ).loc main_v26_1) = (dats m 0 c).arrAt 18 cfg0.N :=
  (h c).1 18

theorem post19 (r : PUnit × MemSt nD τ sig (Elt F)) (h : Pipeline.FramePost cfgs (dats m) 0 (V m) r) (c : Dev nD) :
    r.2.mem ((c : Thread nD τ).loc main_v26_2) = (dats m 0 c).arrAt 19 cfg0.N :=
  (h c).1 19

theorem post20 (r : PUnit × MemSt nD τ sig (Elt F)) (h : Pipeline.FramePost cfgs (dats m) 0 (V m) r) (c : Dev nD) :
    r.2.mem ((c : Thread nD τ).loc main_v26_3) = (dats m 0 c).arrAt 20 cfg0.N :=
  (h c).1 20

theorem post21 (r : PUnit × MemSt nD τ sig (Elt F)) (h : Pipeline.FramePost cfgs (dats m) 0 (V m) r) (c : Dev nD) :
    r.2.mem ((c : Thread nD τ).loc main_v26_4) = (dats m 0 c).arrAt 21 cfg0.N :=
  (h c).1 21

theorem post22 (r : PUnit × MemSt nD τ sig (Elt F)) (h : Pipeline.FramePost cfgs (dats m) 0 (V m) r) (c : Dev nD) :
    r.2.mem ((c : Thread nD τ).loc main_v26_5) = (dats m 0 c).arrAt 22 cfg0.N :=
  (h c).1 22

theorem post23 (r : PUnit × MemSt nD τ sig (Elt F)) (h : Pipeline.FramePost cfgs (dats m) 0 (V m) r) (c : Dev nD) :
    r.2.mem ((c : Thread nD τ).loc main_v26_6) = (dats m 0 c).arrAt 23 cfg0.N :=
  (h c).1 23

theorem post24 (r : PUnit × MemSt nD τ sig (Elt F)) (h : Pipeline.FramePost cfgs (dats m) 0 (V m) r) (c : Dev nD) :
    r.2.mem ((c : Thread nD τ).loc main_v26_7) = (dats m 0 c).arrAt 24 cfg0.N :=
  (h c).1 24

theorem post25 (r : PUnit × MemSt nD τ sig (Elt F)) (h : Pipeline.FramePost cfgs (dats m) 0 (V m) r) (c : Dev nD) :
    r.2.mem ((c : Thread nD τ).loc main_v26_8) = (dats m 0 c).arrAt 25 cfg0.N :=
  (h c).1 25

theorem post26 (r : PUnit × MemSt nD τ sig (Elt F)) (h : Pipeline.FramePost cfgs (dats m) 0 (V m) r) (c : Dev nD) :
    r.2.mem ((c : Thread nD τ).loc main_v26_9) = (dats m 0 c).arrAt 26 cfg0.N :=
  (h c).1 26

theorem post27 (r : PUnit × MemSt nD τ sig (Elt F)) (h : Pipeline.FramePost cfgs (dats m) 0 (V m) r) (c : Dev nD) :
    r.2.mem ((c : Thread nD τ).loc main_v26_10) = (dats m 0 c).arrAt 27 cfg0.N :=
  (h c).1 27

theorem post28 (r : PUnit × MemSt nD τ sig (Elt F)) (h : Pipeline.FramePost cfgs (dats m) 0 (V m) r) (c : Dev nD) :
    r.2.mem ((c : Thread nD τ).loc main_v26_11) = (dats m 0 c).arrAt 28 cfg0.N :=
  (h c).1 28

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 10).trans (((dats m 0 c).arrAt_in 10 rfl _).trans ((A_eq m c 10).trans (V_main_arg4 m c)))

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

set_option maxHeartbeats 4000000 in
theorem run_blocks : θ_run defs (onTc (τ := τ) (main (F := F))) ⟨m, fun _ => 0, ρ⟩ fun r => ∀ c : Dev nD,
      r.2.mem ((c : Thread nD τ).loc main_v26_0) = (dats m 0 c).arrAt 17 cfg0.N
      ∧ r.2.mem ((c : Thread nD τ).loc main_v26_1) = (dats m 0 c).arrAt 18 cfg0.N
      ∧ r.2.mem ((c : Thread nD τ).loc main_v26_2) = (dats m 0 c).arrAt 19 cfg0.N
      ∧ r.2.mem ((c : Thread nD τ).loc main_v26_3) = (dats m 0 c).arrAt 20 cfg0.N
      ∧ r.2.mem ((c : Thread nD τ).loc main_v26_4) = (dats m 0 c).arrAt 21 cfg0.N
      ∧ r.2.mem ((c : Thread nD τ).loc main_v26_5) = (dats m 0 c).arrAt 22 cfg0.N
      ∧ r.2.mem ((c : Thread nD τ).loc main_v26_6) = (dats m 0 c).arrAt 23 cfg0.N
      ∧ r.2.mem ((c : Thread nD τ).loc main_v26_7) = (dats m 0 c).arrAt 24 cfg0.N
      ∧ r.2.mem ((c : Thread nD τ).loc main_v26_8) = (dats m 0 c).arrAt 25 cfg0.N
      ∧ r.2.mem ((c : Thread nD τ).loc main_v26_9) = (dats m 0 c).arrAt 26 cfg0.N
      ∧ r.2.mem ((c : Thread nD τ).loc main_v26_10) = (dats m 0 c).arrAt 27 cfg0.N
      ∧ r.2.mem ((c : Thread nD τ).loc main_v26_11) = (dats m 0 c).arrAt 28 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨post17 m r h c,
      post18 m r h c,
      post19 m r h c,
      post20 m r h c,
      post21 m r h c,
      post22 m r h c,
      post23 m r h c,
      post24 m r h c,
      post25 m r h c,
      post26 m r h c,
      post27 m r h c,
      post28 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c⟩)
    (run_main m ρ)

end Cert.Kernel4Ideal.Mix

end
-- ==== Proof.MixerBlock.lean ====
module

public import proofs.«01_k».proof.Proof.MixerTile
public import proofs.«01_k».proof.Proof.MixerFrame
public import Idealize.ShloMosaic.Lib.Pipeline.Value
public import Idealize.ShloMosaic.Lib.Pipeline.ValueKit

@[expose] public section
set_option maxRecDepth 16384
noncomputable section
namespace Cert.Kernel4Ideal.Tile
open Cert.Kernel4Ideal Cert.Kernel4Ideal.Gen Cert.Kernel4Ideal.Mix Cert.Mixer
open Idealize.ShloMosaic Idealize.ShloMosaic.TcCoe Idealize.SL.Sem
open Idealize.ShloMosaic.Pipeline (Dat)
open scoped BigOperators

/-! The blocks that the point reads. -/

variable (m : (ℓ : Loc nD τ sig) → Buf (Elt Ideal) ℓ) (c : Dev nD)

theorem idx : ∀ t : Fin cfg0.N, t.val = 0
    ∧ win0_0.index t = ![0, 0]    ∧ win0_1.index t = ![0, 0]    ∧ win0_2.index t = ![0, 0]    ∧ win0_3.index t = ![0, 0]
    ∧ win0_4.index t = ![0, 0]    ∧ win0_5.index t = ![0, 0]    ∧ win0_6.index t = ![0, 0]    ∧ win0_7.index t = ![0, 0]
    ∧ win0_8.index t = ![0, 0]    ∧ win0_9.index t = ![0, 0]    ∧ win0_10.index t = ![0, 0]    ∧ win0_11.index t = ![0, 0]
    ∧ win0_12.index t = ![0, 0]    ∧ win0_13.index t = ![0, 0]    ∧ win0_14.index t = ![0, 0]    ∧ win0_15.index t = ![0, 0]
    ∧ win0_16.index t = ![0, 0]    ∧ win0_17.index t = ![0, 0]    ∧ win0_18.index t = ![0, 0]    ∧ win0_19.index t = ![0, 0]
    ∧ win0_20.index t = ![0, 0]    ∧ win0_21.index t = ![0, 0]    ∧ win0_22.index t = ![0, 0]    ∧ win0_23.index t = ![0, 0]
    ∧ win0_24.index t = ![0, 0]    ∧ win0_25.index t = ![0, 0]    ∧ win0_26.index t = ![0, 0]    ∧ win0_27.index t = ![0, 0]
    ∧ win0_28.index t = ![0, 0] :=
  fun t => ⟨by revert t; decide +kernel, by revert t; decide +kernel, by revert t; decide +kernel, by revert t; decide +kernel, by revert t; decide +kernel, by revert t; decide +kernel, by revert t; decide +kernel, by revert t; decide +kernel, by revert t; decide +kernel, by revert t; decide +kernel, by revert t; decide +kernel, by revert t; decide +kernel, by revert t; decide +kernel, by revert t; decide +kernel, by revert t; decide +kernel, by revert t; decide +kernel, by revert t; decide +kernel, by revert t; decide +kernel, by revert t; decide +kernel, by revert t; decide +kernel, by revert t; decide +kernel, by revert t; decide +kernel, by revert t; decide +kernel, by revert t; decide +kernel, by revert t; decide +kernel, by revert t; decide +kernel, by revert t; decide +kernel, by revert t; decide +kernel, by revert t; decide +kernel, by revert t; decide +kernel⟩

/-- The weights, of the arguments. -/
def weights : Weights := weightsOf (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

/-- The operations before the call, the last stretch apart. -/
theorem stretch (b : Ref sig .tc) : V m c b
    = StableHlo.after hostOps0_2 (StableHlo.after (hostOps0 ++ hostOps0_1) fun b => m (c, b)) (Proc.tc.devRef b) := by
  rw [V, show (List.flatten [hostOps0, hostOps0_1, hostOps0_2] : List (HloOp τ sig (Elt Ideal))) = (hostOps0 ++ hostOps0_1) ++ hostOps0_2 from rfl, StableHlo.after_append]
theorem start_arg0 : StableHlo.after (hostOps0 ++ hostOps0_1) (fun b => m (c, b)) (Proc.tc.devRef main_arg0) = m ((c : Thread nD τ).loc main_arg0) := by
  simp only [hostOps0, hostOps0_1, List.cons_append, List.nil_append, StableHlo.after_cons, StableHlo.after_nil]
  after_results_simp
theorem start_arg1 : StableHlo.after (hostOps0 ++ hostOps0_1) (fun b => m (c, b)) (Proc.tc.devRef main_arg1) = m ((c : Thread nD τ).loc main_arg1) := by
  simp only [hostOps0, hostOps0_1, List.cons_append, List.nil_append, StableHlo.after_cons, StableHlo.after_nil]
  after_results_simp
theorem start_arg2 : StableHlo.after (hostOps0 ++ hostOps0_1) (fun b => m (c, b)) (Proc.tc.devRef main_arg2) = m ((c : Thread nD τ).loc main_arg2) := by
  simp only [hostOps0, hostOps0_1, List.cons_append, List.nil_append, StableHlo.after_cons, StableHlo.after_nil]
  after_results_simp
theorem start_arg3 : StableHlo.after (hostOps0 ++ hostOps0_1) (fun b => m (c, b)) (Proc.tc.devRef main_arg3) = m ((c : Thread nD τ).loc main_arg3) := by
  simp only [hostOps0, hostOps0_1, List.cons_append, List.nil_append, StableHlo.after_cons, StableHlo.after_nil]
  after_results_simp
theorem start_arg5 : StableHlo.after (hostOps0 ++ hostOps0_1) (fun b => m (c, b)) (Proc.tc.devRef main_arg5) = m ((c : Thread nD τ).loc main_arg5) := by
  simp only [hostOps0, hostOps0_1, List.cons_append, List.nil_append, StableHlo.after_cons, StableHlo.after_nil]
  after_results_simp
theorem start_arg8 : StableHlo.after (hostOps0 ++ hostOps0_1) (fun b => m (c, b)) (Proc.tc.devRef main_arg8) = m ((c : Thread nD τ).loc main_arg8) := by
  simp only [hostOps0, hostOps0_1, List.cons_append, List.nil_append, StableHlo.after_cons, StableHlo.after_nil]
  after_results_simp
theorem start_arg13 : StableHlo.after (hostOps0 ++ hostOps0_1) (fun b => m (c, b)) (Proc.tc.devRef main_arg13) = m ((c : Thread nD τ).loc main_arg13) := by
  simp only [hostOps0, hostOps0_1, List.cons_append, List.nil_append, StableHlo.after_cons, StableHlo.after_nil]
  after_results_simp
theorem start_arg14 : StableHlo.after (hostOps0 ++ hostOps0_1) (fun b => m (c, b)) (Proc.tc.devRef main_arg14) = m ((c : Thread nD τ).loc main_arg14) := by
  simp only [hostOps0, hostOps0_1, List.cons_append, List.nil_append, StableHlo.after_cons, StableHlo.after_nil]
  after_results_simp

/-- Each lane's head, as the operations before the call compute it. -/
def lanes : Vec Ideal S512 .i32 := iotaInDim S512 32 0
def width : Vec Ideal S_ .i32 := constantI S_ 32 64#32
def quot : Vec Ideal S512 .i32 := Host.divsi lanes (broadcastInDim S512 ![] bcast_S_S512 width)
def heads : Vec Ideal S512 .i32 :=
  select (andi (cmpi .ne (signi lanes) (broadcastInDim S512 ![] bcast_S_S512 (signi width)))
      (cmpi .ne (Host.remsi lanes (broadcastInDim S512 ![] bcast_S_S512 width)) (broadcastInDim S512 ![] bcast_S_S512 (constantI S_ 32 0#32))))
    (subi quot (broadcastInDim S512 ![] bcast_S_S512 (constantI S_ 32 1#32))) quot
theorem heads_apply (k : Fin 512) : heads (ix1 k) = BitVec.ofNat 32 (k.val / 64) := by
  pointwise [heads, quot, width, lanes]
  revert k
  decide +kernel
theorem start_heads : StableHlo.after (hostOps0 ++ hostOps0_1) (fun b => m (c, b)) (Proc.tc.devRef main_v1) = heads := by
  simp only [hostOps0, hostOps0_1, List.cons_append, List.nil_append, StableHlo.after_cons, StableHlo.after_nil]
  after_results_simp
  rfl

set_option maxHeartbeats 1600000 in
theorem blk0 (t : Fin cfg0.N) (r : Fin 128) (d : Fin 1024) : iblk m c 0 t (ix2 r d) = seqRow (m ((c : Thread nD τ).loc main_arg0)) r d := by
  blk_simp [iblk, idx t]
  rw [stretch]
  simp only [hostOps0_2, StableHlo.after_cons, StableHlo.after_nil]
  after_results_simp
  rw [start_arg0]
  pointwise
  rw [seqRow]
  blk_ext [idx t]
set_option maxHeartbeats 1600000 in
theorem blk1 (t : Fin cfg0.N) (r : Fin 128) (d : Fin 1024) : iblk m c 1 t (ix2 r d) = lastRow (m ((c : Thread nD τ).loc main_arg1)) r d := by
  blk_simp [iblk, idx t]
  rw [stretch]
  simp only [hostOps0_2, StableHlo.after_cons, StableHlo.after_nil]
  after_results_simp
  rw [start_arg1]
  pointwise
  rw [lastRow]
  blk_ext [idx t]
set_option maxHeartbeats 1600000 in
theorem blk2 (t : Fin cfg0.N) (d : Fin 1024) (n : Fin 1536) : iblk m c 2 t (ix2 d n) = (weights m c).proj d n := by
  blk_simp [iblk, idx t]
  rw [stretch]
  simp only [hostOps0_2, StableHlo.after_cons, StableHlo.after_nil]
  after_results_simp
  rw [start_arg2]
  pointwise [weights, weightsOf]
  blk_ext [idx t]
set_option maxHeartbeats 1600000 in
theorem blk16 (t : Fin cfg0.N) (d : Fin 1024) (n : Fin 1536) : iblk m c 16 t (ix2 d n) = (weights m c).attn d n := by
  blk_simp [iblk, idx t]
  rw [stretch]
  simp only [hostOps0_2, StableHlo.after_cons, StableHlo.after_nil]
  after_results_simp
  rw [start_arg2]
  pointwise [weights, weightsOf]
  blk_ext [idx t]
theorem blk3 (t : Fin cfg0.N) (d : Fin 1024) (n : Fin 64) : iblk m c 3 t (ix2 d n) = (weights m c).w1 d n := by
  blk_simp [iblk, idx t]
  entry_read
  pointwise [weights, weightsOf]
  blk_ext [idx t]
theorem blk4 (t : Fin cfg0.N) (d : Fin 64) (n : Fin 512) : iblk m c 4 t (ix2 d n) = (weights m c).w2 d n := by
  blk_simp [iblk, idx t]
  entry_read
  pointwise [weights, weightsOf]
  blk_ext [idx t]
theorem blk5 (t : Fin cfg0.N) (d : Fin 1024) (n : Fin 64) : iblk m c 5 t (ix2 d n) = (weights m c).a1 d n := by
  blk_simp [iblk, idx t]
  entry_read
  pointwise [weights, weightsOf]
  blk_ext [idx t]
theorem blk6 (t : Fin cfg0.N) (d : Fin 64) (n : Fin 512) : iblk m c 6 t (ix2 d n) = (weights m c).a2 d n := by
  blk_simp [iblk, idx t]
  entry_read
  pointwise [weights, weightsOf]
  blk_ext [idx t]
theorem blk7 (t : Fin cfg0.N) (d : Fin 1024) (n : Fin 160) : iblk m c 7 t (ix2 d n) = (weights m c).g1 d n := by
  blk_simp [iblk, idx t]
  entry_read
  pointwise [weights, weightsOf]
  blk_ext [idx t]
theorem blk8 (t : Fin cfg0.N) (d : Fin 160) (n : Fin 512) : iblk m c 8 t (ix2 d n) = (weights m c).g2 d n := by
  blk_simp [iblk, idx t]
  entry_read
  pointwise [weights, weightsOf]
  blk_ext [idx t]
set_option maxHeartbeats 1600000 in
theorem blk9 (t : Fin cfg0.N) (j : Fin 1536) : iblk m c 9 t (ix2 (0 : Fin 1) j) = (weights m c).mu j := by
  blk_simp [iblk, idx t]
  rw [stretch]
  simp only [hostOps0_2, StableHlo.after_cons, StableHlo.after_nil]
  after_results_simp
  rw [start_arg3]
  pointwise [weights, weightsOf]
  blk_ext [idx t]
set_option maxHeartbeats 1600000 in
theorem blk11 (t : Fin cfg0.N) (j : Fin 512) : iblk m c 11 t (ix2 (0 : Fin 1) j) = (weights m c).w0 j := by
  blk_simp [iblk, idx t]
  rw [stretch]
  simp only [hostOps0_2, StableHlo.after_cons, StableHlo.after_nil]
  after_results_simp
  rw [start_arg5]
  pointwise [weights, weightsOf]
  blk_ext [idx t]
set_option maxHeartbeats 1600000 in
theorem blk12 (t : Fin cfg0.N) (j : Fin 512) : iblk m c 12 t (ix2 (0 : Fin 1) j) = (weights m c).a0 j := by
  blk_simp [iblk, idx t]
  rw [stretch]
  simp only [hostOps0_2, StableHlo.after_cons, StableHlo.after_nil]
  after_results_simp
  rw [start_arg8]
  pointwise [weights, weightsOf]
  blk_ext [idx t]
set_option maxHeartbeats 1600000 in
theorem blk13 (t : Fin cfg0.N) (j : Fin 512) : iblk m c 13 t (ix2 (0 : Fin 1) j) = (weights m c).kk j := by
  blk_simp [iblk, idx t]
  rw [stretch]
  simp only [hostOps0_2, StableHlo.after_cons, StableHlo.after_nil]
  after_results_simp
  rw [start_arg13]
  pointwise [weights, weightsOf]
  blk_ext [idx t]
set_option maxHeartbeats 1600000 in
theorem blk14 (t : Fin cfg0.N) (j : Fin 512) : iblk m c 14 t (ix2 (0 : Fin 1) j) = (weights m c).ka j := by
  blk_simp [iblk, idx t]
  rw [stretch]
  simp only [hostOps0_2, StableHlo.after_cons, StableHlo.after_nil]
  after_results_simp
  rw [start_arg14]
  pointwise [weights, weightsOf]
  blk_ext [idx t]
theorem blk10w (t : Fin cfg0.N) (d : Fin 1024) : iblk m c 10 t (ix2 (0 : Fin 3) d) = (weights m c).muW d := by
  blk_simp [iblk, idx t]
  entry_read
  pointwise [weights, weightsOf]
  blk_ext [idx t]
theorem blk10a (t : Fin cfg0.N) (d : Fin 1024) : iblk m c 10 t (ix2 (1 : Fin 3) d) = (weights m c).muA d := by
  blk_simp [iblk, idx t]
  entry_read
  pointwise [weights, weightsOf]
  blk_ext [idx t]
theorem blk10g (t : Fin cfg0.N) (d : Fin 1024) : iblk m c 10 t (ix2 (2 : Fin 3) d) = (weights m c).muG d := by
  blk_simp [iblk, idx t]
  entry_read
  pointwise [weights, weightsOf]
  blk_ext [idx t]
set_option maxHeartbeats 1600000 in
theorem mask (i j : Fin 512) : V m c main_v7 (ix2 i j) = if i.val / 64 = j.val / 64 then (1 : EReal) else 0 := by
  rw [stretch]
  have e : ∀ k : Fin 512, StableHlo.after (hostOps0 ++ hostOps0_1) (fun b => m (c, b)) (Proc.tc.devRef main_v1) (ix1 k) = BitVec.ofNat 32 (k.val / 64) :=
    fun k => (congrFun (start_heads m c) (ix1 k)).trans (heads_apply k)
  generalize hσ : StableHlo.after (hostOps0 ++ hostOps0_1) (fun b => m (c, b)) = σ
  simp only [hostOps0_2, StableHlo.after_cons, StableHlo.after_nil]
  after_results_simp
  pointwise
  subst hσ
  rw [e i, e j]
  split
  next h =>
    rw [h, show IntOp.cmpi CmpIPredicate.eq (BitVec.ofNat 32 (j.val / 64)) (BitVec.ofNat 32 (j.val / 64)) = 1#1 by simp [IntOp.cmpi]]
    simp [FloatOps.uitofp]
  next h =>
    have hne : BitVec.ofNat 32 (i.val / 64) ≠ BitVec.ofNat 32 (j.val / 64) := fun e => h (by
      have := congrArg BitVec.toNat e
      simp only [BitVec.toNat_ofNat] at this
      omega)
    rw [show IntOp.cmpi CmpIPredicate.eq (BitVec.ofNat 32 (i.val / 64)) (BitVec.ofNat 32 (j.val / 64)) = 0#1 by simp only [IntOp.cmpi]; rw [beq_eq_false_iff_ne.mpr hne]; rfl]
    simp [FloatOps.uitofp]
theorem blk15 (t : Fin cfg0.N) (i j : Fin 512) : iblk m c 15 t (ix2 i j) = if i.val / 64 = j.val / 64 then (1 : EReal) else 0 := by
  refine Eq.trans ?_ (mask m c i j)
  blk_simp [iblk, idx t]
  refine congrArg (V m c main_v7) ?_
  funext a
  fin_cases a <;> exact Fin.ext (by blk_simp [idx t])
end Cert.Kernel4Ideal.Tile
-- ==== Proof.MixerLeft.lean ====
module

public import proofs.«01_k».proof.Proof.MixerFrame
public import proofs.«01_k».proof.Proof.MixerTile
public import Idealize.ShloMosaic.Lib.Pipeline.Value
public import Idealize.ShloMosaic.Lib.Pipeline.ValueKit

@[expose] public section
set_option maxRecDepth 16384
noncomputable section
namespace Cert.Kernel4Ideal.Tile
open Cert.Kernel4Ideal Cert.Kernel4Ideal.Gen Cert.Kernel4Ideal.Mix Cert.Mixer
open Idealize.ShloMosaic Idealize.ShloMosaic.TcCoe Idealize.SL.Sem
open Idealize.ShloMosaic.Pipeline (Dat)
open scoped BigOperators

/-! What the point leaves in its blocks. -/

variable (x0 x1 : Vec Ideal S128x1024 .f32) (x2 : Vec Ideal S1024x1536 .bf16) (x3 : Vec Ideal S1024x64 .bf16) (x4 : Vec Ideal S64x512 .bf16)
  (x5 : Vec Ideal S1024x64 .bf16) (x6 : Vec Ideal S64x512 .bf16) (x7 : Vec Ideal S1024x160 .bf16) (x8 : Vec Ideal S160x512 .bf16)
  (x9 : Vec Ideal S1x1536 .f32) (x10 : Vec Ideal S3x1024 .f32) (x11 x12 x13 x14 : Vec Ideal S1x512 .f32) (x15 : Vec Ideal S512x512 .bf16)
  (x16 : Vec Ideal S1024x1536 .bf16)

/-- The weights that the blocks hold. -/
def held : Weights where
  proj d n := x2 (ix2 d n)
  attn d n := x16 (ix2 d n)
  w1 d k := x3 (ix2 d k)
  w2 k j := x4 (ix2 k j)
  a1 d k := x5 (ix2 d k)
  a2 k j := x6 (ix2 k j)
  g1 d k := x7 (ix2 d k)
  g2 k j := x8 (ix2 k j)
  mu n := x9 (ix2 0 n)
  muW d := x10 (ix2 0 d)
  muA d := x10 (ix2 1 d)
  muG d := x10 (ix2 2 d)
  w0 j := x11 (ix2 0 j)
  a0 j := x12 (ix2 0 j)
  kk j := x13 (ix2 0 j)
  ka j := x14 (ix2 0 j)

/-- Row `r` of the block, and the row before it. -/
def cur (r : Fin 128) : Fin 1024 → EReal := fun d => x0 (ix2 r d)
def prec (r : Fin 128) : Fin 1024 → EReal := before (fun r d => x0 (ix2 r d)) (fun r d => x1 (ix2 r d)) r

theorem muRow0 (d : Fin 1024) : View.ld x10 r0_4 (ix2 (0 : Fin 1) d) = x10 (ix2 (0 : Fin 3) d) :=
  congrArg x10 (by funext a; fin_cases a <;> exact Fin.ext (by simp [r0_4]))
theorem muRow1 (d : Fin 1024) : View.ld x10 r0_5 (ix2 (0 : Fin 1) d) = x10 (ix2 (1 : Fin 3) d) :=
  congrArg x10 (by funext a; fin_cases a <;> exact Fin.ext (by simp [r0_5]))
theorem muRow2 (d : Fin 1024) : View.ld x10 r0_6 (ix2 (0 : Fin 1) d) = x10 (ix2 (2 : Fin 3) d) :=
  congrArg x10 (by funext a; fin_cases a <;> exact Fin.ext (by simp [r0_6]))

theorem shift_block (r : Fin 128) (n : Fin 1536) : k0_pay16 k0_pay5 (k0_pay6 x0 x2) (k0_pay7 x1 x2) (k0_pay9 x0 x2) x9 (ix2 r n)
    = rkv (held x2 x3 x4 x5 x6 x7 x8 x9 x10 x11 x12 x13 x14 x16) (cur x0 r) (prec x0 x1 r) n := shifted_eq x0 x1 x2 x9 r n
theorem key_block (r : Fin 128) (j : Fin 512) : k0_pay18 k0_pay5 (k0_pay6 x0 x2) (k0_pay7 x1 x2) (k0_pay9 x0 x2) x9 (ix2 r j)
    = key (held x2 x3 x4 x5 x6 x7 x8 x9 x10 x11 x12 x13 x14 x16) (cur x0 r) (prec x0 x1 r) j := key_eq x0 x1 x2 x9 r j |>.trans (shift_block x0 x1 x2 x3 x4 x5 x6 x7 x8 x9 x10 x11 x12 x13 x14 x16 r _)
theorem unit_block (he : ∀ i j : Fin 512, x15 (ix2 i j) = if i.val / 64 = j.val / 64 then (1 : EReal) else 0) (r : Fin 128) (j : Fin 512) :
    k0_pay28 (k0_pay18 k0_pay5 (k0_pay6 x0 x2) (k0_pay7 x1 x2) (k0_pay9 x0 x2) x9) x13 x15 (ix2 r j) = unitKey (held x2 x3 x4 x5 x6 x7 x8 x9 x10 x11 x12 x13 x14 x16) (cur x0 r) (prec x0 x1 r) j := by
  rw [unit_eq]
  simp only [he, key_block x0 x1 x2 x3 x4 x5 x6 x7 x8 x9 x10 x11 x12 x13 x14 x16]
  exact congrArg (fun s => Ideal.div (scaledKey (held x2 x3 x4 x5 x6 x7 x8 x9 x10 x11 x12 x13 x14 x16) (cur x0 r) (prec x0 x1 r) j) (max (Ideal.sqrt s) (Ideal.ofBits FTy.f32 0x2B8CBCCC#32)))
    (sum_head (fun i => scaledKey (held x2 x3 x4 x5 x6 x7 x8 x9 x10 x11 x12 x13 x14 x16) (cur x0 r) (prec x0 x1 r) i * scaledKey (held x2 x3 x4 x5 x6 x7 x8 x9 x10 x11 x12 x13 x14 x16) (cur x0 r) (prec x0 x1 r) i) j)
theorem rate_block (r : Fin 128) (j : Fin 512) :
    k0_pay26 (k0_pay24 x12) (k0_pay25 (k0_pay4 x0) (k0_pay20 (k0_pay4 x0) (k0_pay8 x0 x1)) (View.ld x10 r0_5) x5) x6 (ix2 r j)
      = rate (held x2 x3 x4 x5 x6 x7 x8 x9 x10 x11 x12 x13 x14 x16) (cur x0 r) (prec x0 x1 r) j := by
  rw [rate_eq]
  simp only [before_eq, muRow1 x10]
  rfl

theorem left17 (r : Fin 128) (j : Fin 512) : out0_17 x0 x1 x2 x3 x4 x5 x6 x7 x8 x9 x10 x11 x12 x13 x14 x15 x16 (ix2 r j) = recep (held x2 x3 x4 x5 x6 x7 x8 x9 x10 x11 x12 x13 x14 x16) (cur x0 r) (prec x0 x1 r) j := by
  unfold out0_17 k0_pay36 k0_pay34 k0_pay33 k0_pay32
  simp (disch := decide) only [View.canon_cons_unit_lit', View.ld_unit_lit']
  exact (recep_eq x0 x1 x2 x9 r j).trans (shift_block x0 x1 x2 x3 x4 x5 x6 x7 x8 x9 x10 x11 x12 x13 x14 x16 r _)
theorem left18 (r : Fin 128) (j : Fin 512) : out0_18 x0 x1 x2 x3 x4 x5 x6 x7 x8 x9 x10 x11 x12 x13 x14 x15 x16 (ix2 r j) = decay (held x2 x3 x4 x5 x6 x7 x8 x9 x10 x11 x12 x13 x14 x16) (cur x0 r) (prec x0 x1 r) j := by
  unfold out0_18 k0_pay35 k0_pay31
  simp (disch := decide) only [View.canon_cons_unit_lit', View.ld_unit_lit']
  rw [decay_eq]
  simp only [before_eq, muRow0 x10]
  rfl
theorem left19 (r : Fin 128) (j : Fin 512) : out0_19 x0 x1 x2 x3 x4 x5 x6 x7 x8 x9 x10 x11 x12 x13 x14 x15 x16 (ix2 r j) = keyIn (held x2 x3 x4 x5 x6 x7 x8 x9 x10 x11 x12 x13 x14 x16) (cur x0 r) (prec x0 x1 r) j := by
  unfold out0_19 k0_pay40 k0_pay39 k0_pay38 k0_pay37 k0_pay36 k0_pay35 k0_pay34 k0_pay33 k0_pay32 k0_pay31
  simp (disch := decide) only [View.canon_cons_unit_lit', View.ld_unit_lit']
  rw [keyIn_eq, rate_block x0 x1 x2 x3 x4 x5 x6 x7 x8 x9 x10 x11 x12 x13 x14 x16, key_block x0 x1 x2 x3 x4 x5 x6 x7 x8 x9 x10 x11 x12 x13 x14 x16]
  rfl
theorem left20 (he : ∀ i j : Fin 512, x15 (ix2 i j) = if i.val / 64 = j.val / 64 then (1 : EReal) else 0) (r : Fin 128) (j : Fin 512) : out0_20 x0 x1 x2 x3 x4 x5 x6 x7 x8 x9 x10 x11 x12 x13 x14 x15 x16 (ix2 r j) = removal (held x2 x3 x4 x5 x6 x7 x8 x9 x10 x11 x12 x13 x14 x16) (cur x0 r) (prec x0 x1 r) j := by
  unfold out0_20 k0_pay41 k0_pay37 k0_pay36 k0_pay34 k0_pay33 k0_pay32
  simp (disch := decide) only [View.canon_cons_unit_lit', View.ld_unit_lit']
  exact (removal_eq _ r j).trans (congrArg Neg.neg (unit_block x0 x1 x2 x3 x4 x5 x6 x7 x8 x9 x10 x11 x12 x13 x14 x15 x16 he r j))
theorem left21 (he : ∀ i j : Fin 512, x15 (ix2 i j) = if i.val / 64 = j.val / 64 then (1 : EReal) else 0) (r : Fin 128) (j : Fin 512) : out0_21 x0 x1 x2 x3 x4 x5 x6 x7 x8 x9 x10 x11 x12 x13 x14 x15 x16 (ix2 r j) = insertion (held x2 x3 x4 x5 x6 x7 x8 x9 x10 x11 x12 x13 x14 x16) (cur x0 r) (prec x0 x1 r) j := by
  unfold out0_21 k0_pay41 k0_pay40 k0_pay39 k0_pay38 k0_pay37 k0_pay36 k0_pay35 k0_pay34 k0_pay33 k0_pay32 k0_pay31
  simp (disch := decide) only [View.canon_cons_unit_lit', View.ld_unit_lit']
  rw [insertion_eq, unit_block x0 x1 x2 x3 x4 x5 x6 x7 x8 x9 x10 x11 x12 x13 x14 x15 x16 he, rate_block x0 x1 x2 x3 x4 x5 x6 x7 x8 x9 x10 x11 x12 x13 x14 x16]
  rfl
theorem left22 (r : Fin 128) (j : Fin 512) : out0_22 x0 x1 x2 x3 x4 x5 x6 x7 x8 x9 x10 x11 x12 x13 x14 x15 x16 (ix2 r j) = val (held x2 x3 x4 x5 x6 x7 x8 x9 x10 x11 x12 x13 x14 x16) (cur x0 r) (prec x0 x1 r) j := by
  unfold out0_22 k0_pay36 k0_pay34 k0_pay33 k0_pay32
  simp (disch := decide) only [View.canon_cons_unit_lit', View.ld_unit_lit']
  exact (val_eq x0 x1 x2 x9 r j).trans (shift_block x0 x1 x2 x3 x4 x5 x6 x7 x8 x9 x10 x11 x12 x13 x14 x16 r _)
theorem left23 (r : Fin 128) (j : Fin 512) : out0_23 x0 x1 x2 x3 x4 x5 x6 x7 x8 x9 x10 x11 x12 x13 x14 x15 x16 (ix2 r j) = gate (held x2 x3 x4 x5 x6 x7 x8 x9 x10 x11 x12 x13 x14 x16) (cur x0 r) (prec x0 x1 r) j := by
  unfold out0_23 k0_pay38 k0_pay35 k0_pay31
  simp (disch := decide) only [View.canon_cons_unit_lit', View.ld_unit_lit']
  rw [gate_eq]
  simp only [before_eq, muRow2 x10]
  rfl
theorem left24 (r : Fin 128) (j : Fin 512) : out0_24 x0 x1 x2 x3 x4 x5 x6 x7 x8 x9 x10 x11 x12 x13 x14 x15 x16 (ix2 r j) = query (held x2 x3 x4 x5 x6 x7 x8 x9 x10 x11 x12 x13 x14 x16) (cur x0 r) j := by
  unfold out0_24 k0_pay31
  simp (disch := decide) only [View.canon_cons_unit_lit', View.ld_unit_lit']
  exact query_eq x0 x16 r j
theorem left25 (r : Fin 128) (j : Fin 512) : out0_25 x0 x1 x2 x3 x4 x5 x6 x7 x8 x9 x10 x11 x12 x13 x14 x15 x16 (ix2 r j) = attnKey (held x2 x3 x4 x5 x6 x7 x8 x9 x10 x11 x12 x13 x14 x16) (cur x0 r) j := by
  unfold out0_25 k0_pay31
  simp (disch := decide) only [View.canon_cons_unit_lit', View.ld_unit_lit']
  exact attnKey_eq x0 x16 r j
theorem left26 (r : Fin 128) (j : Fin 512) : out0_26 x0 x1 x2 x3 x4 x5 x6 x7 x8 x9 x10 x11 x12 x13 x14 x15 x16 (ix2 r j) = attnVal (held x2 x3 x4 x5 x6 x7 x8 x9 x10 x11 x12 x13 x14 x16) (cur x0 r) j := by
  unfold out0_26 k0_pay31
  simp (disch := decide) only [View.canon_cons_unit_lit', View.ld_unit_lit']
  exact attnVal_eq x0 x16 r j
theorem left27 (r : Fin 128) (j : Fin 512) : out0_27 x0 x1 x2 x3 x4 x5 x6 x7 x8 x9 x10 x11 x12 x13 x14 x15 x16 (ix2 r j) = attnKey (held x2 x3 x4 x5 x6 x7 x8 x9 x10 x11 x12 x13 x14 x16) (cur x0 r) j := by
  unfold out0_27 k0_pay31
  simp (disch := decide) only [View.canon_cons_unit_lit', View.ld_unit_lit']
  exact attnKeyBf_eq x0 x16 r j
theorem left28 (r : Fin 128) (j : Fin 512) : out0_28 x0 x1 x2 x3 x4 x5 x6 x7 x8 x9 x10 x11 x12 x13 x14 x15 x16 (ix2 r j) = attnVal (held x2 x3 x4 x5 x6 x7 x8 x9 x10 x11 x12 x13 x14 x16) (cur x0 r) j := by
  unfold out0_28 k0_pay31
  simp (disch := decide) only [View.canon_cons_unit_lit', View.ld_unit_lit']
  exact attnValBf_eq x0 x16 r j
end Cert.Kernel4Ideal.Tile
-- ==== Proof.MixerFinal.lean ====
module

public import proofs.«01_k».proof.Proof.MixerBlock
public import proofs.«01_k».proof.Proof.MixerLeft

@[expose] public section
set_option maxRecDepth 16384
noncomputable section
namespace Cert.Kernel4Ideal.Tile
open Cert.Kernel4Ideal Cert.Kernel4Ideal.Gen Cert.Kernel4Ideal.Mix Cert.Mixer
open Idealize.ShloMosaic Idealize.ShloMosaic.TcCoe Idealize.SL.Sem
open Idealize.ShloMosaic.Pipeline (Dat)
open scoped BigOperators

/-! The result arrays. -/

variable (m : (ℓ : Loc nD τ sig) → Buf (Elt Ideal) ℓ) (c : Dev nD)

theorem held_eq (t : Fin cfg0.N) : held (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 16 t) = weights m c := by
  rw [held]
  simp only [blk2, blk3, blk4, blk5, blk6, blk7, blk8, blk9, blk10w, blk10a, blk10g, blk11, blk12, blk13, blk14, blk16]
theorem cur_eq (t : Fin cfg0.N) (r : Fin 128) : cur (iblk m c 0 t) r = seqRow (m ((c : Thread nD τ).loc main_arg0)) r :=
  funext fun d => blk0 m c t r d
theorem prec_eq (t : Fin cfg0.N) (r : Fin 128) : prec (iblk m c 0 t) (iblk m c 1 t) r
    = prevRow (m ((c : Thread nD τ).loc main_arg0)) (m ((c : Thread nD τ).loc main_arg1)) r := by
  unfold prec before prevRow
  split
  · exact funext fun d => blk1 m c t r d
  · exact funext fun d => blk0 m c t ⟨r - 1, by omega⟩ d

theorem final17 : (dats m 0 c).arrAt 17 cfg0.N = rows (recep (weights m c)) (m ((c : Thread nD τ).loc main_arg0)) (m ((c : Thread nD τ).loc main_arg1)) := by
  refine (dats m 0 c).arrAt_eq_of_covers 17 _ (by decide +kernel) fun t _ y => ?_
  blk_simp
  rw [after0_17]
  have hy : y = ix2 (y 0) (y 1) := by funext a; fin_cases a <;> rfl
  have e0 : ((((cfg0.win 17).blk t).view.emb y) 0 : ℕ) = (y 0).val := by blk_simp [idx t]
  have e1 : (((cfg0.win 17).blk t).view.emb y) 1 = y 1 := Fin.ext (by blk_simp [idx t])
  refine ((congrArg _ hy).trans (left17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (y 0) (y 1))).trans ?_
  rw [held_eq m c t, cur_eq m c t (y 0), prec_eq m c t (y 0), rows, e0, e1]
theorem final18 : (dats m 0 c).arrAt 18 cfg0.N = rows (decay (weights m c)) (m ((c : Thread nD τ).loc main_arg0)) (m ((c : Thread nD τ).loc main_arg1)) := by
  refine (dats m 0 c).arrAt_eq_of_covers 18 _ (by decide +kernel) fun t _ y => ?_
  blk_simp
  rw [after0_18]
  have hy : y = ix2 (y 0) (y 1) := by funext a; fin_cases a <;> rfl
  have e0 : ((((cfg0.win 18).blk t).view.emb y) 0 : ℕ) = (y 0).val := by blk_simp [idx t]
  have e1 : (((cfg0.win 18).blk t).view.emb y) 1 = y 1 := Fin.ext (by blk_simp [idx t])
  refine ((congrArg _ hy).trans (left18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (y 0) (y 1))).trans ?_
  rw [held_eq m c t, cur_eq m c t (y 0), prec_eq m c t (y 0), rows, e0, e1]
theorem final19 : (dats m 0 c).arrAt 19 cfg0.N = rows (keyIn (weights m c)) (m ((c : Thread nD τ).loc main_arg0)) (m ((c : Thread nD τ).loc main_arg1)) := by
  refine (dats m 0 c).arrAt_eq_of_covers 19 _ (by decide +kernel) fun t _ y => ?_
  blk_simp
  rw [after0_19]
  have hy : y = ix2 (y 0) (y 1) := by funext a; fin_cases a <;> rfl
  have e0 : ((((cfg0.win 19).blk t).view.emb y) 0 : ℕ) = (y 0).val := by blk_simp [idx t]
  have e1 : (((cfg0.win 19).blk t).view.emb y) 1 = y 1 := Fin.ext (by blk_simp [idx t])
  refine ((congrArg _ hy).trans (left19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (y 0) (y 1))).trans ?_
  rw [held_eq m c t, cur_eq m c t (y 0), prec_eq m c t (y 0), rows, e0, e1]
theorem final20 : (dats m 0 c).arrAt 20 cfg0.N = rows (removal (weights m c)) (m ((c : Thread nD τ).loc main_arg0)) (m ((c : Thread nD τ).loc main_arg1)) := by
  refine (dats m 0 c).arrAt_eq_of_covers 20 _ (by decide +kernel) fun t _ y => ?_
  blk_simp
  rw [after0_20]
  have hy : y = ix2 (y 0) (y 1) := by funext a; fin_cases a <;> rfl
  have e0 : ((((cfg0.win 20).blk t).view.emb y) 0 : ℕ) = (y 0).val := by blk_simp [idx t]
  have e1 : (((cfg0.win 20).blk t).view.emb y) 1 = y 1 := Fin.ext (by blk_simp [idx t])
  refine ((congrArg _ hy).trans (left20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (fun i j => blk15 m c t i j) (y 0) (y 1))).trans ?_
  rw [held_eq m c t, cur_eq m c t (y 0), prec_eq m c t (y 0), rows, e0, e1]
theorem final21 : (dats m 0 c).arrAt 21 cfg0.N = rows (insertion (weights m c)) (m ((c : Thread nD τ).loc main_arg0)) (m ((c : Thread nD τ).loc main_arg1)) := by
  refine (dats m 0 c).arrAt_eq_of_covers 21 _ (by decide +kernel) fun t _ y => ?_
  blk_simp
  rw [after0_21]
  have hy : y = ix2 (y 0) (y 1) := by funext a; fin_cases a <;> rfl
  have e0 : ((((cfg0.win 21).blk t).view.emb y) 0 : ℕ) = (y 0).val := by blk_simp [idx t]
  have e1 : (((cfg0.win 21).blk t).view.emb y) 1 = y 1 := Fin.ext (by blk_simp [idx t])
  refine ((congrArg _ hy).trans (left21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (fun i j => blk15 m c t i j) (y 0) (y 1))).trans ?_
  rw [held_eq m c t, cur_eq m c t (y 0), prec_eq m c t (y 0), rows, e0, e1]
theorem final22 : (dats m 0 c).arrAt 22 cfg0.N = rows (val (weights m c)) (m ((c : Thread nD τ).loc main_arg0)) (m ((c : Thread nD τ).loc main_arg1)) := by
  refine (dats m 0 c).arrAt_eq_of_covers 22 _ (by decide +kernel) fun t _ y => ?_
  blk_simp
  rw [after0_22]
  have hy : y = ix2 (y 0) (y 1) := by funext a; fin_cases a <;> rfl
  have e0 : ((((cfg0.win 22).blk t).view.emb y) 0 : ℕ) = (y 0).val := by blk_simp [idx t]
  have e1 : (((cfg0.win 22).blk t).view.emb y) 1 = y 1 := Fin.ext (by blk_simp [idx t])
  refine ((congrArg _ hy).trans (left22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (y 0) (y 1))).trans ?_
  rw [held_eq m c t, cur_eq m c t (y 0), prec_eq m c t (y 0), rows, e0, e1]
theorem final23 : (dats m 0 c).arrAt 23 cfg0.N = rows (gate (weights m c)) (m ((c : Thread nD τ).loc main_arg0)) (m ((c : Thread nD τ).loc main_arg1)) := by
  refine (dats m 0 c).arrAt_eq_of_covers 23 _ (by decide +kernel) fun t _ y => ?_
  blk_simp
  rw [after0_23]
  have hy : y = ix2 (y 0) (y 1) := by funext a; fin_cases a <;> rfl
  have e0 : ((((cfg0.win 23).blk t).view.emb y) 0 : ℕ) = (y 0).val := by blk_simp [idx t]
  have e1 : (((cfg0.win 23).blk t).view.emb y) 1 = y 1 := Fin.ext (by blk_simp [idx t])
  refine ((congrArg _ hy).trans (left23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (y 0) (y 1))).trans ?_
  rw [held_eq m c t, cur_eq m c t (y 0), prec_eq m c t (y 0), rows, e0, e1]
theorem final24 : (dats m 0 c).arrAt 24 cfg0.N = rows (fun x _ => query (weights m c) x) (m ((c : Thread nD τ).loc main_arg0)) (m ((c : Thread nD τ).loc main_arg1)) := by
  refine (dats m 0 c).arrAt_eq_of_covers 24 _ (by decide +kernel) fun t _ y => ?_
  blk_simp
  rw [after0_24]
  have hy : y = ix2 (y 0) (y 1) := by funext a; fin_cases a <;> rfl
  have e0 : ((((cfg0.win 24).blk t).view.emb y) 0 : ℕ) = (y 0).val := by blk_simp [idx t]
  have e1 : (((cfg0.win 24).blk t).view.emb y) 1 = y 1 := Fin.ext (by blk_simp [idx t])
  refine ((congrArg _ hy).trans (left24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (y 0) (y 1))).trans ?_
  rw [held_eq m c t, cur_eq m c t (y 0), rows, e0, e1]
theorem final25 : (dats m 0 c).arrAt 25 cfg0.N = rows (fun x _ => attnKey (weights m c) x) (m ((c : Thread nD τ).loc main_arg0)) (m ((c : Thread nD τ).loc main_arg1)) := by
  refine (dats m 0 c).arrAt_eq_of_covers 25 _ (by decide +kernel) fun t _ y => ?_
  blk_simp
  rw [after0_25]
  have hy : y = ix2 (y 0) (y 1) := by funext a; fin_cases a <;> rfl
  have e0 : ((((cfg0.win 25).blk t).view.emb y) 0 : ℕ) = (y 0).val := by blk_simp [idx t]
  have e1 : (((cfg0.win 25).blk t).view.emb y) 1 = y 1 := Fin.ext (by blk_simp [idx t])
  refine ((congrArg _ hy).trans (left25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (y 0) (y 1))).trans ?_
  rw [held_eq m c t, cur_eq m c t (y 0), rows, e0, e1]
theorem final26 : (dats m 0 c).arrAt 26 cfg0.N = rows (fun x _ => attnVal (weights m c) x) (m ((c : Thread nD τ).loc main_arg0)) (m ((c : Thread nD τ).loc main_arg1)) := by
  refine (dats m 0 c).arrAt_eq_of_covers 26 _ (by decide +kernel) fun t _ y => ?_
  blk_simp
  rw [after0_26]
  have hy : y = ix2 (y 0) (y 1) := by funext a; fin_cases a <;> rfl
  have e0 : ((((cfg0.win 26).blk t).view.emb y) 0 : ℕ) = (y 0).val := by blk_simp [idx t]
  have e1 : (((cfg0.win 26).blk t).view.emb y) 1 = y 1 := Fin.ext (by blk_simp [idx t])
  refine ((congrArg _ hy).trans (left26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (y 0) (y 1))).trans ?_
  rw [held_eq m c t, cur_eq m c t (y 0), rows, e0, e1]
theorem final27 : (dats m 0 c).arrAt 27 cfg0.N = rows (fun x _ => attnKey (weights m c) x) (m ((c : Thread nD τ).loc main_arg0)) (m ((c : Thread nD τ).loc main_arg1)) := by
  refine (dats m 0 c).arrAt_eq_of_covers 27 _ (by decide +kernel) fun t _ y => ?_
  blk_simp
  rw [after0_27]
  have hy : y = ix2 (y 0) (y 1) := by funext a; fin_cases a <;> rfl
  have e0 : ((((cfg0.win 27).blk t).view.emb y) 0 : ℕ) = (y 0).val := by blk_simp [idx t]
  have e1 : (((cfg0.win 27).blk t).view.emb y) 1 = y 1 := Fin.ext (by blk_simp [idx t])
  refine ((congrArg _ hy).trans (left27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (y 0) (y 1))).trans ?_
  rw [held_eq m c t, cur_eq m c t (y 0), rows, e0, e1]
theorem final28 : (dats m 0 c).arrAt 28 cfg0.N = rows (fun x _ => attnVal (weights m c) x) (m ((c : Thread nD τ).loc main_arg0)) (m ((c : Thread nD τ).loc main_arg1)) := by
  refine (dats m 0 c).arrAt_eq_of_covers 28 _ (by decide +kernel) fun t _ y => ?_
  blk_simp
  rw [after0_28]
  have hy : y = ix2 (y 0) (y 1) := by funext a; fin_cases a <;> rfl
  have e0 : ((((cfg0.win 28).blk t).view.emb y) 0 : ℕ) = (y 0).val := by blk_simp [idx t]
  have e1 : (((cfg0.win 28).blk t).view.emb y) 1 = y 1 := Fin.ext (by blk_simp [idx t])
  refine ((congrArg _ hy).trans (left28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (y 0) (y 1))).trans ?_
  rw [held_eq m c t, cur_eq m c t (y 0), rows, e0, e1]
end Cert.Kernel4Ideal.Tile
-- ==== Proof.MixerRef.lean ====
module

public import proofs.«01_k».proof.Proof.Mixer
public import proofs.«01_k».proof.Proof.Ref
public import proofs.«01_k».proof.Proof.Layer
public import proofs.«01_k».proof.Proof.Gen.Reference4Ideal.Read

@[expose] public section
set_option maxRecDepth 16384
noncomputable section
namespace Cert.Reference4Ideal.Tile
open Cert.Reference4Ideal Cert.Reference4Ideal.Gen Cert.Reference4Ideal.Read Cert.Mixer
open Idealize.ShloMosaic Idealize.ShloMosaic.TcCoe
open scoped BigOperators

/-! The reference of the mixer's projections, one row at a time. -/

variable (H : FVec Ideal S32x4x1024 .f32) (L : FVec Ideal S32x1024 .f32) (I : FVec Ideal S1024x5120 .f32) (mu : FVec Ideal S1536 .f32)
  (mw : FVec Ideal S3x1024 .f32) (w0 : FVec Ideal S512 .f32) (w1 : FVec Ideal S1024x64 .f32) (w2 : FVec Ideal S64x512 .f32)
  (a0 : FVec Ideal S512 .f32) (a1 : FVec Ideal S1024x64 .f32) (a2 : FVec Ideal S64x512 .f32)
  (g1 : FVec Ideal S1024x160 .f32) (g2 : FVec Ideal S160x512 .f32) (kk ka : FVec Ideal S512 .f32)

/-- Token `s` of sequence `b`, and the token before it. -/
def tok (b : Fin 32) (s : Fin 4) : Fin 1024 → EReal := fun d => H (ix3 b s d)
def prev (b : Fin 32) (s : Fin 4) : Fin 1024 → EReal :=
  fun d => if h : s.val < 1 then L (ix2 b d) else H (ix3 b (⟨s.val - 1, by omega⟩ : Fin 4) d)

theorem proj_apply (b : Fin 32) (s : Fin 4) (n : Fin 1536) :
    val_main_v1 (F := Ideal) H I (ix3 b s n) = lin (tok H b s) (weightsOf I mu mw w0 w1 w2 a0 a1 a2 g1 g2 kk ka).proj n := by
  pointwise [val_main_v1, val_main_v0]
  rfl
theorem prev_apply (b : Fin 32) (s : Fin 4) (n : Fin 1536) :
    val_main_v10 (F := Ideal) H L I (ix3 b s n) = lin (prev H L b s) (weightsOf I mu mw w0 w1 w2 a0 a1 a2 g1 g2 kk ka).proj n := by
  pointwise [val_main_v10, val_main_v8, val_main_v9, val_main_v7, val_main_v1, val_main_v0, val_main_v6]
  simp only [lin, prev]
  split <;> rfl
theorem rkv_apply (b : Fin 32) (s : Fin 4) (n : Fin 1536) :
    val_main_v15 (F := Ideal) H L I mu (ix3 b s n) = rkv (weightsOf I mu mw w0 w1 w2 a0 a1 a2 g1 g2 kk ka) (tok H b s) (prev H L b s) n := by
  pointwise [val_main_v15, val_main_v14, val_main_v13, val_main_v12, val_main_v11]
  rw [proj_apply H I mu mw w0 w1 w2 a0 a1 a2 g1 g2 kk ka, prev_apply H L I mu mw w0 w1 w2 a0 a1 a2 g1 g2 kk ka]
  rfl
theorem recep_apply (b : Fin 32) (s : Fin 4) (j : Fin 512) :
    val_main_v16 (F := Ideal) H L I mu (ix3 b s j) = recep (weightsOf I mu mw w0 w1 w2 a0 a1 a2 g1 g2 kk ka) (tok H b s) (prev H L b s) j := by
  pointwise [val_main_v16]
  exact rkv_apply H L I mu mw w0 w1 w2 a0 a1 a2 g1 g2 kk ka b s _
theorem key_apply (b : Fin 32) (s : Fin 4) (j : Fin 512) :
    val_main_v17 (F := Ideal) H L I mu (ix3 b s j) = key (weightsOf I mu mw w0 w1 w2 a0 a1 a2 g1 g2 kk ka) (tok H b s) (prev H L b s) j := by
  pointwise [val_main_v17]
  exact rkv_apply H L I mu mw w0 w1 w2 a0 a1 a2 g1 g2 kk ka b s _
theorem val_apply (b : Fin 32) (s : Fin 4) (j : Fin 512) :
    val_main_v18 (F := Ideal) H L I mu (ix3 b s j) = val (weightsOf I mu mw w0 w1 w2 a0 a1 a2 g1 g2 kk ka) (tok H b s) (prev H L b s) j := by
  pointwise [val_main_v18]
  exact rkv_apply H L I mu mw w0 w1 w2 a0 a1 a2 g1 g2 kk ka b s _
theorem dx_apply (b : Fin 32) (s : Fin 4) (d : Fin 1024) :
    val_main_v22 (F := Ideal) H L (ix3 b s d) = prev H L b s d - tok H b s d := by
  pointwise [val_main_v22, val_main_v21, val_main_v20, val_main_v19]
  rfl
theorem shiftW_apply (b : Fin 32) (s : Fin 4) (d : Fin 1024) :
    val_main_v28 (F := Ideal) H L mw (ix3 b s d) = shift (tok H b s d) (prev H L b s d) (mw (ix2 (0 : Fin 3) d)) := by
  pointwise [val_main_v28, val_main_v27, val_main_v26, val_main_v25, val_main_v24, val_main_v23]
  rw [dx_apply]
  rfl
theorem shiftA_apply (b : Fin 32) (s : Fin 4) (d : Fin 1024) :
    val_main_v34 (F := Ideal) H L mw (ix3 b s d) = shift (tok H b s d) (prev H L b s d) (mw (ix2 (1 : Fin 3) d)) := by
  pointwise [val_main_v34, val_main_v33, val_main_v32, val_main_v31, val_main_v30, val_main_v29]
  rw [dx_apply]
  rfl
theorem shiftG_apply (b : Fin 32) (s : Fin 4) (d : Fin 1024) :
    val_main_v40 (F := Ideal) H L mw (ix3 b s d) = shift (tok H b s d) (prev H L b s d) (mw (ix2 (2 : Fin 3) d)) := by
  pointwise [val_main_v40, val_main_v39, val_main_v38, val_main_v37, val_main_v36, val_main_v35]
  rw [dx_apply]
  rfl
theorem logit_apply (b : Fin 32) (s : Fin 4) (j : Fin 512) :
    val_main_v46 (F := Ideal) H L mw w0 w1 w2 (ix3 b s j)
      = w0 (ix1 j) + lin (fun k => Ideal.tanh (lin (fun d => shift (tok H b s d) (prev H L b s d) (mw (ix2 (0 : Fin 3) d))) (fun d k => w1 (ix2 d k)) k)) (fun k j => w2 (ix2 k j)) j := by
  pointwise [val_main_v46, val_main_v45, val_main_v44, val_main_v43, val_main_v42, val_main_v41]
  simp only [shiftW_apply]
  rfl
theorem soft_apply (b : Fin 32) (s : Fin 4) (j : Fin 512) :
    val_main_v48 (F := Ideal) H L mw w0 w1 w2 (ix3 b s j) = Row.sp (-(val_main_v46 (F := Ideal) H L mw w0 w1 w2 (ix3 b s j))) := by
  simp only [val_main_v48_apply, val_main_call0_v4_apply, val_main_call0_v11_apply, val_main_call0_v1_apply, val_main_call0_v10_apply, val_main_call0_v9_apply,
    val_main_call0_v8_apply, val_main_call0_v7_apply, val_main_call0_v3_apply, val_main_call0_v0_apply, val_main_call0_v2_apply, val_main_call0_cst_apply, val_main_v47_apply]
  exact Cert.ReferenceIdeal.Attn.sp_stage _ _
theorem decay_apply (b : Fin 32) (s : Fin 4) (j : Fin 512) :
    val_main_v93 (F := Ideal) H L mw w0 w1 w2 (ix3 b s j) = decay (weightsOf I mu mw w0 w1 w2 a0 a1 a2 g1 g2 kk ka) (tok H b s) (prev H L b s) j := by
  pointwise [val_main_v93, val_main_v92, val_main_v51, val_main_v50, val_main_v49]
  rw [soft_apply, logit_apply]
  rfl
theorem rate_apply (b : Fin 32) (s : Fin 4) (j : Fin 512) :
    val_main_v62 (F := Ideal) H L mw a0 a1 a2 (ix3 b s j) = rate (weightsOf I mu mw w0 w1 w2 a0 a1 a2 g1 g2 kk ka) (tok H b s) (prev H L b s) j := by
  pointwise [val_main_v62, val_main_v61, val_main_v60, val_main_v59, val_main_v58, val_main_v57, val_main_v56, val_main_v55, val_main_v54, val_main_v53, val_main_v52]
  simp only [shiftA_apply]
  show Ideal.div (Ideal.ofBits FTy.f32 1065353216#32) (Ideal.ofBits FTy.f32 1065353216#32 + Ideal.exp (-_)) = _
  rw [Layer.word_one]
  rfl
theorem gate_apply (b : Fin 32) (s : Fin 4) (j : Fin 512) :
    val_main_v70 (F := Ideal) H L mw g1 g2 (ix3 b s j) = gate (weightsOf I mu mw w0 w1 w2 a0 a1 a2 g1 g2 kk ka) (tok H b s) (prev H L b s) j := by
  have e : ∀ k, val_main_v69 (F := Ideal) H L mw g1 (ix3 b s k)
      = Ideal.logistic (lin (fun d => shift (tok H b s d) (prev H L b s d) (mw (ix2 (2 : Fin 3) d))) (fun d k => g1 (ix2 d k)) k) := fun k => by
    pointwise [val_main_v69, val_main_v68, val_main_v67, val_main_v66, val_main_v65, val_main_v64, val_main_v63]
    simp only [shiftG_apply]
    show Ideal.div (Ideal.ofBits FTy.f32 1065353216#32) (Ideal.ofBits FTy.f32 1065353216#32 + Ideal.exp (-_)) = _
    rw [Layer.word_one]
    rfl
  pointwise [val_main_v70]
  simp only [e]
  rfl
theorem keyIn_apply (b : Fin 32) (s : Fin 4) (j : Fin 512) :
    val_main_v90 (F := Ideal) H L I mu mw a0 a1 a2 ka (ix3 b s j) = keyIn (weightsOf I mu mw w0 w1 w2 a0 a1 a2 g1 g2 kk ka) (tok H b s) (prev H L b s) j := by
  pointwise [val_main_v90, val_main_v89, val_main_v88, val_main_v87, val_main_v86, val_main_v85, val_main_v84, val_main_v83]
  rw [key_apply H L I mu mw w0 w1 w2 a0 a1 a2 g1 g2 kk ka, rate_apply H L I mu mw w0 w1 w2 a0 a1 a2 g1 g2 kk ka]
  rfl
theorem unit_apply (b : Fin 32) (s : Fin 4) (h : Fin 8) (d : Fin 64) :
    val_main_v82 (F := Ideal) H L I mu kk (ix4 b s h d) = unitKey (weightsOf I mu mw w0 w1 w2 a0 a1 a2 g1 g2 kk ka) (tok H b s) (prev H L b s) ⟨h * 64 + d, by omega⟩ := by
  pointwise [val_main_v82, val_main_v81, val_main_v80, val_main_v79, val_main_v78, val_main_v77, val_main_v76, val_main_v75, val_main_v74, val_main_v73, val_main_v72, val_main_v71]
  simp only [key_apply H L I mu mw w0 w1 w2 a0 a1 a2 g1 g2 kk ka]
  show Ideal.div _ (max (Ideal.sqrt (Ideal.ofBits FTy.f32 0#32 + _)) (Ideal.ofBits FTy.f32 0x2B8CBCCC#32)) = _
  rw [Layer.word_zero]
  refine congrArg (fun z => Ideal.div (scaledKey (weightsOf I mu mw w0 w1 w2 a0 a1 a2 g1 g2 kk ka) (tok H b s) (prev H L b s) ⟨h * 64 + d, by omega⟩) (max (Ideal.sqrt z) (Ideal.ofBits FTy.f32 0x2B8CBCCC#32)))
    ((zero_add _).trans (Finset.sum_congr rfl fun x _ => ?_))
  exact congrArg (fun i => scaledKey (weightsOf I mu mw w0 w1 w2 a0 a1 a2 g1 g2 kk ka) (tok H b s) (prev H L b s) i * scaledKey (weightsOf I mu mw w0 w1 w2 a0 a1 a2 g1 g2 kk ka) (tok H b s) (prev H L b s) i) (Fin.ext (by show h.val * 64 + x.val = 64 * ((h.val * 64 + d.val) / 64) + x.val; omega))

theorem tok_row (b : Fin 32) (s : Fin 4) (R : ℕ) (hb : b.val = R / 4) (hs : s.val = R % 4) : tok H b s = seqRow H R := by
  unfold tok seqRow
  have e : b = ⟨R / 4 % 32, by omega⟩ := Fin.ext (by show b.val = R / 4 % 32; omega)
  have f : s = ⟨R % 4, by omega⟩ := Fin.ext hs
  rw [e, f]
theorem prev_row (b : Fin 32) (s : Fin 4) (R : ℕ) (hb : b.val = R / 4) (hs : s.val = R % 4) : prev H L b s = prevRow H L R := by
  unfold prev prevRow
  split
  · have e : b = ⟨R / 4 % 32, by omega⟩ := Fin.ext (by show b.val = R / 4 % 32; omega)
    rw [if_pos (show R % 4 = 0 by omega), e]; rfl
  · rw [if_neg (show ¬R % 4 = 0 by omega), ← tok_row H b ⟨s.val - 1, by omega⟩ (R - 1) (by omega) (by show s.val - 1 = (R - 1) % 4; omega)]
    rfl

theorem result91 : val_main_v91 (F := Ideal) H L I mu = rows (recep (weightsOf I mu mw w0 w1 w2 a0 a1 a2 g1 g2 kk ka)) H L := by
  funext y
  have hy : y = ix2 (y 0) (y 1) := by funext a; fin_cases a <;> rfl
  have hr : ∀ (r : Fin 128) (j : Fin 512), val_main_v91 (F := Ideal) H L I mu (ix2 r j) = rows (recep (weightsOf I mu mw w0 w1 w2 a0 a1 a2 g1 g2 kk ka)) H L (ix2 r j) := fun r j => by
    have et : tok H ⟨r.val / 4, by omega⟩ ⟨r.val % 4, by omega⟩ = seqRow H r := tok_row H _ _ r rfl rfl
    have ep : prev H L ⟨r.val / 4, by omega⟩ ⟨r.val % 4, by omega⟩ = prevRow H L r := prev_row H L _ _ r rfl rfl
    show _ = recep (weightsOf I mu mw w0 w1 w2 a0 a1 a2 g1 g2 kk ka) (seqRow H r) (prevRow H L r) j
    rw [← et, ← ep]
    pointwise [val_main_v91]
    exact recep_apply H L I mu mw w0 w1 w2 a0 a1 a2 g1 g2 kk ka _ _ _
  rw [hy]
  exact hr _ _
theorem result94 : val_main_v94 (F := Ideal) H L mw w0 w1 w2 = rows (decay (weightsOf I mu mw w0 w1 w2 a0 a1 a2 g1 g2 kk ka)) H L := by
  funext y
  have hy : y = ix2 (y 0) (y 1) := by funext a; fin_cases a <;> rfl
  have hr : ∀ (r : Fin 128) (j : Fin 512), val_main_v94 (F := Ideal) H L mw w0 w1 w2 (ix2 r j) = rows (decay (weightsOf I mu mw w0 w1 w2 a0 a1 a2 g1 g2 kk ka)) H L (ix2 r j) := fun r j => by
    have et : tok H ⟨r.val / 4, by omega⟩ ⟨r.val % 4, by omega⟩ = seqRow H r := tok_row H _ _ r rfl rfl
    have ep : prev H L ⟨r.val / 4, by omega⟩ ⟨r.val % 4, by omega⟩ = prevRow H L r := prev_row H L _ _ r rfl rfl
    show _ = decay (weightsOf I mu mw w0 w1 w2 a0 a1 a2 g1 g2 kk ka) (seqRow H r) (prevRow H L r) j
    rw [← et, ← ep]
    pointwise [val_main_v94]
    exact decay_apply H L I mu mw w0 w1 w2 a0 a1 a2 g1 g2 kk ka _ _ _
  rw [hy]
  exact hr _ _
theorem result95 : val_main_v95 (F := Ideal) H L I mu mw a0 a1 a2 ka = rows (keyIn (weightsOf I mu mw w0 w1 w2 a0 a1 a2 g1 g2 kk ka)) H L := by
  funext y
  have hy : y = ix2 (y 0) (y 1) := by funext a; fin_cases a <;> rfl
  have hr : ∀ (r : Fin 128) (j : Fin 512), val_main_v95 (F := Ideal) H L I mu mw a0 a1 a2 ka (ix2 r j) = rows (keyIn (weightsOf I mu mw w0 w1 w2 a0 a1 a2 g1 g2 kk ka)) H L (ix2 r j) := fun r j => by
    have et : tok H ⟨r.val / 4, by omega⟩ ⟨r.val % 4, by omega⟩ = seqRow H r := tok_row H _ _ r rfl rfl
    have ep : prev H L ⟨r.val / 4, by omega⟩ ⟨r.val % 4, by omega⟩ = prevRow H L r := prev_row H L _ _ r rfl rfl
    show _ = keyIn (weightsOf I mu mw w0 w1 w2 a0 a1 a2 g1 g2 kk ka) (seqRow H r) (prevRow H L r) j
    rw [← et, ← ep]
    pointwise [val_main_v95]
    exact keyIn_apply H L I mu mw w0 w1 w2 a0 a1 a2 g1 g2 kk ka _ _ _
  rw [hy]
  exact hr _ _
theorem result97 : val_main_v97 (F := Ideal) H L I mu kk = rows (removal (weightsOf I mu mw w0 w1 w2 a0 a1 a2 g1 g2 kk ka)) H L := by
  funext y
  have hy : y = ix2 (y 0) (y 1) := by funext a; fin_cases a <;> rfl
  have hr : ∀ (r : Fin 128) (j : Fin 512), val_main_v97 (F := Ideal) H L I mu kk (ix2 r j) = rows (removal (weightsOf I mu mw w0 w1 w2 a0 a1 a2 g1 g2 kk ka)) H L (ix2 r j) := fun r j => by
    have et : tok H ⟨r.val / 4, by omega⟩ ⟨r.val % 4, by omega⟩ = seqRow H r := tok_row H _ _ r rfl rfl
    have ep : prev H L ⟨r.val / 4, by omega⟩ ⟨r.val % 4, by omega⟩ = prevRow H L r := prev_row H L _ _ r rfl rfl
    show _ = removal (weightsOf I mu mw w0 w1 w2 a0 a1 a2 g1 g2 kk ka) (seqRow H r) (prevRow H L r) j
    rw [← et, ← ep]
    pointwise [val_main_v97, val_main_v96]
    rw [unit_apply H L I mu mw w0 w1 w2 a0 a1 a2 g1 g2 kk ka]
    exact congrArg (fun i => -unitKey (weightsOf I mu mw w0 w1 w2 a0 a1 a2 g1 g2 kk ka) _ _ i) (Fin.ext (by show j.val / 64 * 64 + j.val % 64 = j.val; omega))
  rw [hy]
  exact hr _ _
theorem result100 : val_main_v100 (F := Ideal) H L I mu mw a0 a1 a2 kk = rows (insertion (weightsOf I mu mw w0 w1 w2 a0 a1 a2 g1 g2 kk ka)) H L := by
  funext y
  have hy : y = ix2 (y 0) (y 1) := by funext a; fin_cases a <;> rfl
  have hr : ∀ (r : Fin 128) (j : Fin 512), val_main_v100 (F := Ideal) H L I mu mw a0 a1 a2 kk (ix2 r j) = rows (insertion (weightsOf I mu mw w0 w1 w2 a0 a1 a2 g1 g2 kk ka)) H L (ix2 r j) := fun r j => by
    have et : tok H ⟨r.val / 4, by omega⟩ ⟨r.val % 4, by omega⟩ = seqRow H r := tok_row H _ _ r rfl rfl
    have ep : prev H L ⟨r.val / 4, by omega⟩ ⟨r.val % 4, by omega⟩ = prevRow H L r := prev_row H L _ _ r rfl rfl
    show _ = insertion (weightsOf I mu mw w0 w1 w2 a0 a1 a2 g1 g2 kk ka) (seqRow H r) (prevRow H L r) j
    rw [← et, ← ep]
    pointwise [val_main_v100, val_main_v99, val_main_v98]
    rw [unit_apply H L I mu mw w0 w1 w2 a0 a1 a2 g1 g2 kk ka, rate_apply H L I mu mw w0 w1 w2 a0 a1 a2 g1 g2 kk ka]
    exact congrArg (fun i => unitKey (weightsOf I mu mw w0 w1 w2 a0 a1 a2 g1 g2 kk ka) _ _ i * rate (weightsOf I mu mw w0 w1 w2 a0 a1 a2 g1 g2 kk ka) _ _ j) (Fin.ext (by show j.val / 64 * 64 + j.val % 64 = j.val; omega))
  rw [hy]
  exact hr _ _
theorem result101 : val_main_v101 (F := Ideal) H L I mu = rows (val (weightsOf I mu mw w0 w1 w2 a0 a1 a2 g1 g2 kk ka)) H L := by
  funext y
  have hy : y = ix2 (y 0) (y 1) := by funext a; fin_cases a <;> rfl
  have hr : ∀ (r : Fin 128) (j : Fin 512), val_main_v101 (F := Ideal) H L I mu (ix2 r j) = rows (val (weightsOf I mu mw w0 w1 w2 a0 a1 a2 g1 g2 kk ka)) H L (ix2 r j) := fun r j => by
    have et : tok H ⟨r.val / 4, by omega⟩ ⟨r.val % 4, by omega⟩ = seqRow H r := tok_row H _ _ r rfl rfl
    have ep : prev H L ⟨r.val / 4, by omega⟩ ⟨r.val % 4, by omega⟩ = prevRow H L r := prev_row H L _ _ r rfl rfl
    show _ = val (weightsOf I mu mw w0 w1 w2 a0 a1 a2 g1 g2 kk ka) (seqRow H r) (prevRow H L r) j
    rw [← et, ← ep]
    pointwise [val_main_v101]
    exact val_apply H L I mu mw w0 w1 w2 a0 a1 a2 g1 g2 kk ka _ _ _
  rw [hy]
  exact hr _ _
theorem result102 : val_main_v102 (F := Ideal) H L mw g1 g2 = rows (gate (weightsOf I mu mw w0 w1 w2 a0 a1 a2 g1 g2 kk ka)) H L := by
  funext y
  have hy : y = ix2 (y 0) (y 1) := by funext a; fin_cases a <;> rfl
  have hr : ∀ (r : Fin 128) (j : Fin 512), val_main_v102 (F := Ideal) H L mw g1 g2 (ix2 r j) = rows (gate (weightsOf I mu mw w0 w1 w2 a0 a1 a2 g1 g2 kk ka)) H L (ix2 r j) := fun r j => by
    have et : tok H ⟨r.val / 4, by omega⟩ ⟨r.val % 4, by omega⟩ = seqRow H r := tok_row H _ _ r rfl rfl
    have ep : prev H L ⟨r.val / 4, by omega⟩ ⟨r.val % 4, by omega⟩ = prevRow H L r := prev_row H L _ _ r rfl rfl
    show _ = gate (weightsOf I mu mw w0 w1 w2 a0 a1 a2 g1 g2 kk ka) (seqRow H r) (prevRow H L r) j
    rw [← et, ← ep]
    pointwise [val_main_v102]
    exact gate_apply H L I mu mw w0 w1 w2 a0 a1 a2 g1 g2 kk ka _ _ _
  rw [hy]
  exact hr _ _
theorem result106 : val_main_v106 (F := Ideal) H I = rows (fun x _ => query (weightsOf I mu mw w0 w1 w2 a0 a1 a2 g1 g2 kk ka) x) H L := by
  funext y
  have hy : y = ix2 (y 0) (y 1) := by funext a; fin_cases a <;> rfl
  have hr : ∀ (r : Fin 128) (j : Fin 512), val_main_v106 (F := Ideal) H I (ix2 r j) = rows (fun x _ => query (weightsOf I mu mw w0 w1 w2 a0 a1 a2 g1 g2 kk ka) x) H L (ix2 r j) := fun r j => by
    have et : tok H ⟨r.val / 4, by omega⟩ ⟨r.val % 4, by omega⟩ = seqRow H r := tok_row H _ _ r rfl rfl
    have ep : prev H L ⟨r.val / 4, by omega⟩ ⟨r.val % 4, by omega⟩ = prevRow H L r := prev_row H L _ _ r rfl rfl
    show _ = query (weightsOf I mu mw w0 w1 w2 a0 a1 a2 g1 g2 kk ka) (seqRow H r) j
    rw [← et]
    pointwise [val_main_v106, val_main_v105, val_main_v104, val_main_v103, val_main_v3, val_main_v2, val_main_v0]
    rfl
  rw [hy]
  exact hr _ _
theorem result107 : val_main_v107 (F := Ideal) H I = rows (fun x _ => attnKey (weightsOf I mu mw w0 w1 w2 a0 a1 a2 g1 g2 kk ka) x) H L := by
  funext y
  have hy : y = ix2 (y 0) (y 1) := by funext a; fin_cases a <;> rfl
  have hr : ∀ (r : Fin 128) (j : Fin 512), val_main_v107 (F := Ideal) H I (ix2 r j) = rows (fun x _ => attnKey (weightsOf I mu mw w0 w1 w2 a0 a1 a2 g1 g2 kk ka) x) H L (ix2 r j) := fun r j => by
    have et : tok H ⟨r.val / 4, by omega⟩ ⟨r.val % 4, by omega⟩ = seqRow H r := tok_row H _ _ r rfl rfl
    have ep : prev H L ⟨r.val / 4, by omega⟩ ⟨r.val % 4, by omega⟩ = prevRow H L r := prev_row H L _ _ r rfl rfl
    show _ = attnKey (weightsOf I mu mw w0 w1 w2 a0 a1 a2 g1 g2 kk ka) (seqRow H r) j
    rw [← et]
    pointwise [val_main_v107, val_main_v4, val_main_v2, val_main_v0]
    rfl
  rw [hy]
  exact hr _ _
theorem result108 : val_main_v108 (F := Ideal) H I = rows (fun x _ => attnVal (weightsOf I mu mw w0 w1 w2 a0 a1 a2 g1 g2 kk ka) x) H L := by
  funext y
  have hy : y = ix2 (y 0) (y 1) := by funext a; fin_cases a <;> rfl
  have hr : ∀ (r : Fin 128) (j : Fin 512), val_main_v108 (F := Ideal) H I (ix2 r j) = rows (fun x _ => attnVal (weightsOf I mu mw w0 w1 w2 a0 a1 a2 g1 g2 kk ka) x) H L (ix2 r j) := fun r j => by
    have et : tok H ⟨r.val / 4, by omega⟩ ⟨r.val % 4, by omega⟩ = seqRow H r := tok_row H _ _ r rfl rfl
    have ep : prev H L ⟨r.val / 4, by omega⟩ ⟨r.val % 4, by omega⟩ = prevRow H L r := prev_row H L _ _ r rfl rfl
    show _ = attnVal (weightsOf I mu mw w0 w1 w2 a0 a1 a2 g1 g2 kk ka) (seqRow H r) j
    rw [← et]
    pointwise [val_main_v108, val_main_v5, val_main_v2, val_main_v0]
    rfl
  rw [hy]
  exact hr _ _
theorem result110 : val_main_v110 (F := Ideal) H I = rows (fun x _ => attnKey (weightsOf I mu mw w0 w1 w2 a0 a1 a2 g1 g2 kk ka) x) H L := by
  funext y
  have hy : y = ix2 (y 0) (y 1) := by funext a; fin_cases a <;> rfl
  have hr : ∀ (r : Fin 128) (j : Fin 512), val_main_v110 (F := Ideal) H I (ix2 r j) = rows (fun x _ => attnKey (weightsOf I mu mw w0 w1 w2 a0 a1 a2 g1 g2 kk ka) x) H L (ix2 r j) := fun r j => by
    have et : tok H ⟨r.val / 4, by omega⟩ ⟨r.val % 4, by omega⟩ = seqRow H r := tok_row H _ _ r rfl rfl
    have ep : prev H L ⟨r.val / 4, by omega⟩ ⟨r.val % 4, by omega⟩ = prevRow H L r := prev_row H L _ _ r rfl rfl
    show _ = attnKey (weightsOf I mu mw w0 w1 w2 a0 a1 a2 g1 g2 kk ka) (seqRow H r) j
    rw [← et]
    pointwise [val_main_v110, val_main_v109, val_main_v4, val_main_v2, val_main_v0]
    rfl
  rw [hy]
  exact hr _ _
theorem result112 : val_main_v112 (F := Ideal) H I = rows (fun x _ => attnVal (weightsOf I mu mw w0 w1 w2 a0 a1 a2 g1 g2 kk ka) x) H L := by
  funext y
  have hy : y = ix2 (y 0) (y 1) := by funext a; fin_cases a <;> rfl
  have hr : ∀ (r : Fin 128) (j : Fin 512), val_main_v112 (F := Ideal) H I (ix2 r j) = rows (fun x _ => attnVal (weightsOf I mu mw w0 w1 w2 a0 a1 a2 g1 g2 kk ka) x) H L (ix2 r j) := fun r j => by
    have et : tok H ⟨r.val / 4, by omega⟩ ⟨r.val % 4, by omega⟩ = seqRow H r := tok_row H _ _ r rfl rfl
    have ep : prev H L ⟨r.val / 4, by omega⟩ ⟨r.val % 4, by omega⟩ = prevRow H L r := prev_row H L _ _ r rfl rfl
    show _ = attnVal (weightsOf I mu mw w0 w1 w2 a0 a1 a2 g1 g2 kk ka) (seqRow H r) j
    rw [← et]
    pointwise [val_main_v112, val_main_v111, val_main_v5, val_main_v2, val_main_v0]
    rfl
  rw [hy]
  exact hr _ _
end Cert.Reference4Ideal.Tile
-- ==== Proof.MixerWords.lean ====
/- The run of the mixer-input program as it is written for machine words. -/
module

public import proofs.«01_k».proof.Proof.Gen.Kernel4.Launch
public import proofs.«01_k».proof.Proof.Gen.Kernel4.Skeleton
public import proofs.«01_k».proof.Proof.Gen.Kernel4.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel4.Mix

open Cert.Kernel4.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 1740000 in
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 10).trans (((dats 0 c).arrAt_in 10 rfl _).trans ((hA c 10).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

abbrev r0_0 : Rect S128x1024 := Rect.unit (s := S128x1024) ![0, 0] S128x1024.size inb_S128x1024_S128x1024_0_0
abbrev r0_1 : Rect S1024x1536 := Rect.unit (s := S1024x1536) ![0, 0] S1024x1536.size inb_S1024x1536_S1024x1536_0_0
abbrev r0_2 : Rect S128x512 := Rect.unit (s := S128x512) ![0, 0] S128x512.size inb_S128x512_S128x512_0_0
abbrev r0_3 : Rect S1x1536 := Rect.unit (s := S1x1536) ![0, 0] S1x1536.size inb_S1x1536_S1x1536_0_0
abbrev r0_4 : Rect S3x1024 := Rect.unit (s := S3x1024) ![0, 0] S1x1024.size inb_S3x1024_S1x1024_0_0
abbrev r0_5 : Rect S3x1024 := Rect.unit (s := S3x1024) ![1, 0] S1x1024.size inb_S3x1024_S1x1024_1_0
abbrev r0_6 : Rect S3x1024 := Rect.unit (s := S3x1024) ![2, 0] S1x1024.size inb_S3x1024_S1x1024_2_0
abbrev r0_7 : Rect S1024x64 := Rect.unit (s := S1024x64) ![0, 0] S1024x64.size inb_S1024x64_S1024x64_0_0
abbrev r0_8 : Rect S64x512 := Rect.unit (s := S64x512) ![0, 0] S64x512.size inb_S64x512_S64x512_0_0
abbrev r0_9 : Rect S1x512 := Rect.unit (s := S1x512) ![0, 0] S1x512.size inb_S1x512_S1x512_0_0
abbrev r0_10 : Rect S1024x160 := Rect.unit (s := S1024x160) ![0, 0] S1024x160.size inb_S1024x160_S1024x160_0_0
abbrev r0_11 : Rect S160x512 := Rect.unit (s := S160x512) ![0, 0] S160x512.size inb_S160x512_S160x512_0_0
abbrev r0_12 : Rect S512x512 := Rect.unit (s := S512x512) ![0, 0] S512x512.size inb_S512x512_S512x512_0_0

def k0_pay31 (x0 : Vec F S128x1024 .f32) (x1 : Vec F S128x1024 .f32) (x2 : Vec F S1024x1536 .bf16) (x3 : Vec F S1024x64 .bf16) (x4 : Vec F S64x512 .bf16) (x5 : Vec F S1024x64 .bf16) (x6 : Vec F S64x512 .bf16) (x7 : Vec F S1024x160 .bf16) (x8 : Vec F S160x512 .bf16) (x9 : Vec F S1x1536 .f32) (x10 : Vec F S3x1024 .f32) (x11 : Vec F S1x512 .f32) (x12 : Vec F S1x512 .f32) (x13 : Vec F S1x512 .f32) (x14 : Vec F S1x512 .f32) (x15 : Vec F S512x512 .bf16) (x16 : Vec F S1024x1536 .bf16) : FVec F S128x1024 .f32 :=
  k0_pay4 (View.ld x0 r0_0) -- `v1`
def k0_pay32 (x0 : Vec F S128x1024 .f32) (x1 : Vec F S128x1024 .f32) (x2 : Vec F S1024x1536 .bf16) (x3 : Vec F S1024x64 .bf16) (x4 : Vec F S64x512 .bf16) (x5 : Vec F S1024x64 .bf16) (x6 : Vec F S64x512 .bf16) (x7 : Vec F S1024x160 .bf16) (x8 : Vec F S160x512 .bf16) (x9 : Vec F S1x1536 .f32) (x10 : Vec F S3x1024 .f32) (x11 : Vec F S1x512 .f32) (x12 : Vec F S1x512 .f32) (x13 : Vec F S1x512 .f32) (x14 : Vec F S1x512 .f32) (x15 : Vec F S512x512 .bf16) (x16 : Vec F S1024x1536 .bf16) : IVec S128x1 1 :=
  k0_pay5 -- `v20`
def k0_pay33 (x0 : Vec F S128x1024 .f32) (x1 : Vec F S128x1024 .f32) (x2 : Vec F S1024x1536 .bf16) (x3 : Vec F S1024x64 .bf16) (x4 : Vec F S64x512 .bf16) (x5 : Vec F S1024x64 .bf16) (x6 : Vec F S64x512 .bf16) (x7 : Vec F S1024x160 .bf16) (x8 : Vec F S160x512 .bf16) (x9 : Vec F S1x1536 .f32) (x10 : Vec F S3x1024 .f32) (x11 : Vec F S1x512 .f32) (x12 : Vec F S1x512 .f32) (x13 : Vec F S1x512 .f32) (x14 : Vec F S1x512 .f32) (x15 : Vec F S512x512 .bf16) (x16 : Vec F S1024x1536 .bf16) : FVec F S128x1536 .f32 :=
  k0_pay6 (View.ld x0 r0_0) (View.ld x2 r0_1) -- `v24`
def k0_pay34 (x0 : Vec F S128x1024 .f32) (x1 : Vec F S128x1024 .f32) (x2 : Vec F S1024x1536 .bf16) (x3 : Vec F S1024x64 .bf16) (x4 : Vec F S64x512 .bf16) (x5 : Vec F S1024x64 .bf16) (x6 : Vec F S64x512 .bf16) (x7 : Vec F S1024x160 .bf16) (x8 : Vec F S160x512 .bf16) (x9 : Vec F S1x1536 .f32) (x10 : Vec F S3x1024 .f32) (x11 : Vec F S1x512 .f32) (x12 : Vec F S1x512 .f32) (x13 : Vec F S1x512 .f32) (x14 : Vec F S1x512 .f32) (x15 : Vec F S512x512 .bf16) (x16 : Vec F S1024x1536 .bf16) : FVec F S128x1536 .f32 :=
  k0_pay7 (View.ld x1 r0_0) (View.ld x2 r0_1) -- `v30`
def k0_pay35 (x0 : Vec F S128x1024 .f32) (x1 : Vec F S128x1024 .f32) (x2 : Vec F S1024x1536 .bf16) (x3 : Vec F S1024x64 .bf16) (x4 : Vec F S64x512 .bf16) (x5 : Vec F S1024x64 .bf16) (x6 : Vec F S64x512 .bf16) (x7 : Vec F S1024x160 .bf16) (x8 : Vec F S160x512 .bf16) (x9 : Vec F S1x1536 .f32) (x10 : Vec F S3x1024 .f32) (x11 : Vec F S1x512 .f32) (x12 : Vec F S1x512 .f32) (x13 : Vec F S1x512 .f32) (x14 : Vec F S1x512 .f32) (x15 : Vec F S512x512 .bf16) (x16 : Vec F S1024x1536 .bf16) : FVec F S128x1024 .f32 :=
  k0_pay8 (View.ld x0 r0_0) (View.ld x1 r0_0) -- `v36`
def k0_pay36 (x0 : Vec F S128x1024 .f32) (x1 : Vec F S128x1024 .f32) (x2 : Vec F S1024x1536 .bf16) (x3 : Vec F S1024x64 .bf16) (x4 : Vec F S64x512 .bf16) (x5 : Vec F S1024x64 .bf16) (x6 : Vec F S64x512 .bf16) (x7 : Vec F S1024x160 .bf16) (x8 : Vec F S160x512 .bf16) (x9 : Vec F S1x1536 .f32) (x10 : Vec F S3x1024 .f32) (x11 : Vec F S1x512 .f32) (x12 : Vec F S1x512 .f32) (x13 : Vec F S1x512 .f32) (x14 : Vec F S1x512 .f32) (x15 : Vec F S512x512 .bf16) (x16 : Vec F S1024x1536 .bf16) : FVec F S128x1536 .f32 :=
  k0_pay9 (View.ld x0 r0_0) (View.ld x2 r0_1) -- `v37`
def k0_pay37 (x0 : Vec F S128x1024 .f32) (x1 : Vec F S128x1024 .f32) (x2 : Vec F S1024x1536 .bf16) (x3 : Vec F S1024x64 .bf16) (x4 : Vec F S64x512 .bf16) (x5 : Vec F S1024x64 .bf16) (x6 : Vec F S64x512 .bf16) (x7 : Vec F S1024x160 .bf16) (x8 : Vec F S160x512 .bf16) (x9 : Vec F S1x1536 .f32) (x10 : Vec F S3x1024 .f32) (x11 : Vec F S1x512 .f32) (x12 : Vec F S1x512 .f32) (x13 : Vec F S1x512 .f32) (x14 : Vec F S1x512 .f32) (x15 : Vec F S512x512 .bf16) (x16 : Vec F S1024x1536 .bf16) : FVec F S128x512 .f32 :=
  k0_pay18 (k0_pay32 x0 x1 x2 x3 x4 x5 x6 x7 x8 x9 x10 x11 x12 x13 x14 x15 x16) (k0_pay33 x0 x1 x2 x3 x4 x5 x6 x7 x8 x9 x10 x11 x12 x13 x14 x15 x16) (k0_pay34 x0 x1 x2 x3 x4 x5 x6 x7 x8 x9 x10 x11 x12 x13 x14 x15 x16) (k0_pay36 x0 x1 x2 x3 x4 x5 x6 x7 x8 x9 x10 x11 x12 x13 x14 x15 x16) (View.ld x9 r0_3) -- `v65`
def k0_pay38 (x0 : Vec F S128x1024 .f32) (x1 : Vec F S128x1024 .f32) (x2 : Vec F S1024x1536 .bf16) (x3 : Vec F S1024x64 .bf16) (x4 : Vec F S64x512 .bf16) (x5 : Vec F S1024x64 .bf16) (x6 : Vec F S64x512 .bf16) (x7 : Vec F S1024x160 .bf16) (x8 : Vec F S160x512 .bf16) (x9 : Vec F S1x1536 .f32) (x10 : Vec F S3x1024 .f32) (x11 : Vec F S1x512 .f32) (x12 : Vec F S1x512 .f32) (x13 : Vec F S1x512 .f32) (x14 : Vec F S1x512 .f32) (x15 : Vec F S512x512 .bf16) (x16 : Vec F S1024x1536 .bf16) : FVec F S128x1024 .f32 :=
  k0_pay20 (k0_pay31 x0 x1 x2 x3 x4 x5 x6 x7 x8 x9 x10 x11 x12 x13 x14 x15 x16) (k0_pay35 x0 x1 x2 x3 x4 x5 x6 x7 x8 x9 x10 x11 x12 x13 x14 x15 x16) -- `v67`
def k0_pay39 (x0 : Vec F S128x1024 .f32) (x1 : Vec F S128x1024 .f32) (x2 : Vec F S1024x1536 .bf16) (x3 : Vec F S1024x64 .bf16) (x4 : Vec F S64x512 .bf16) (x5 : Vec F S1024x64 .bf16) (x6 : Vec F S64x512 .bf16) (x7 : Vec F S1024x160 .bf16) (x8 : Vec F S160x512 .bf16) (x9 : Vec F S1x1536 .f32) (x10 : Vec F S3x1024 .f32) (x11 : Vec F S1x512 .f32) (x12 : Vec F S1x512 .f32) (x13 : Vec F S1x512 .f32) (x14 : Vec F S1x512 .f32) (x15 : Vec F S512x512 .bf16) (x16 : Vec F S1024x1536 .bf16) : FVec F S1x512 .f32 :=
  k0_pay24 (View.ld x12 r0_9) -- `v108`
def k0_pay40 (x0 : Vec F S128x1024 .f32) (x1 : Vec F S128x1024 .f32) (x2 : Vec F S1024x1536 .bf16) (x3 : Vec F S1024x64 .bf16) (x4 : Vec F S64x512 .bf16) (x5 : Vec F S1024x64 .bf16) (x6 : Vec F S64x512 .bf16) (x7 : Vec F S1024x160 .bf16) (x8 : Vec F S160x512 .bf16) (x9 : Vec F S1x1536 .f32) (x10 : Vec F S3x1024 .f32) (x11 : Vec F S1x512 .f32) (x12 : Vec F S1x512 .f32) (x13 : Vec F S1x512 .f32) (x14 : Vec F S1x512 .f32) (x15 : Vec F S512x512 .bf16) (x16 : Vec F S1024x1536 .bf16) : FVec F S128x64 .f32 :=
  k0_pay25 (k0_pay31 x0 x1 x2 x3 x4 x5 x6 x7 x8 x9 x10 x11 x12 x13 x14 x15 x16) (k0_pay38 x0 x1 x2 x3 x4 x5 x6 x7 x8 x9 x10 x11 x12 x13 x14 x15 x16) (View.ld x10 r0_5) (View.ld x5 r0_7) -- `v112`
def k0_pay41 (x0 : Vec F S128x1024 .f32) (x1 : Vec F S128x1024 .f32) (x2 : Vec F S1024x1536 .bf16) (x3 : Vec F S1024x64 .bf16) (x4 : Vec F S64x512 .bf16) (x5 : Vec F S1024x64 .bf16) (x6 : Vec F S64x512 .bf16) (x7 : Vec F S1024x160 .bf16) (x8 : Vec F S160x512 .bf16) (x9 : Vec F S1x1536 .f32) (x10 : Vec F S3x1024 .f32) (x11 : Vec F S1x512 .f32) (x12 : Vec F S1x512 .f32) (x13 : Vec F S1x512 .f32) (x14 : Vec F S1x512 .f32) (x15 : Vec F S512x512 .bf16) (x16 : Vec F S1024x1536 .bf16) : FVec F S128x512 .f32 :=
  k0_pay28 (k0_pay37 x0 x1 x2 x3 x4 x5 x6 x7 x8 x9 x10 x11 x12 x13 x14 x15 x16) (View.ld x13 r0_9) (View.ld x15 r0_12) -- `v141`

def out0_17 (x0 : Vec F S128x1024 .f32) (x1 : Vec F S128x1024 .f32) (x2 : Vec F S1024x1536 .bf16) (x3 : Vec F S1024x64 .bf16) (x4 : Vec F S64x512 .bf16) (x5 : Vec F S1024x64 .bf16) (x6 : Vec F S64x512 .bf16) (x7 : Vec F S1024x160 .bf16) (x8 : Vec F S160x512 .bf16) (x9 : Vec F S1x1536 .f32) (x10 : Vec F S3x1024 .f32) (x11 : Vec F S1x512 .f32) (x12 : Vec F S1x512 .f32) (x13 : Vec F S1x512 .f32) (x14 : Vec F S1x512 .f32) (x15 : Vec F S512x512 .bf16) (x16 : Vec F S1024x1536 .bf16) : Vec F S128x512 .f32 :=
  View.canon [⟨r0_2, k0_pay17 (k0_pay32 x0 x1 x2 x3 x4 x5 x6 x7 x8 x9 x10 x11 x12 x13 x14 x15 x16) (k0_pay33 x0 x1 x2 x3 x4 x5 x6 x7 x8 x9 x10 x11 x12 x13 x14 x15 x16) (k0_pay34 x0 x1 x2 x3 x4 x5 x6 x7 x8 x9 x10 x11 x12 x13 x14 x15 x16) (k0_pay36 x0 x1 x2 x3 x4 x5 x6 x7 x8 x9 x10 x11 x12 x13 x14 x15 x16) (View.ld x9 r0_3)⟩]

theorem cover0_17 (p0 : Vec F S128x512 .f32) (y : S128x512.Idx) :
    ∃ pc ∈ ([⟨r0_2, p0⟩] : List (View.Piece (Elt F) S128x512 .f32)), y ∈ pc.1.set :=
  View.cover_of_tiled [⟨r0_2, p0⟩] S128x512.size (by rfl) y

def out0_18 (x0 : Vec F S128x1024 .f32) (x1 : Vec F S128x1024 .f32) (x2 : Vec F S1024x1536 .bf16) (x3 : Vec F S1024x64 .bf16) (x4 : Vec F S64x512 .bf16) (x5 : Vec F S1024x64 .bf16) (x6 : Vec F S64x512 .bf16) (x7 : Vec F S1024x160 .bf16) (x8 : Vec F S160x512 .bf16) (x9 : Vec F S1x1536 .f32) (x10 : Vec F S3x1024 .f32) (x11 : Vec F S1x512 .f32) (x12 : Vec F S1x512 .f32) (x13 : Vec F S1x512 .f32) (x14 : Vec F S1x512 .f32) (x15 : Vec F S512x512 .bf16) (x16 : Vec F S1024x1536 .bf16) : Vec F S128x512 .f32 :=
  View.canon [⟨r0_2, k0_pay29 (k0_pay23 (k0_pay21 (k0_pay31 x0 x1 x2 x3 x4 x5 x6 x7 x8 x9 x10 x11 x12 x13 x14 x15 x16) (k0_pay35 x0 x1 x2 x3 x4 x5 x6 x7 x8 x9 x10 x11 x12 x13 x14 x15 x16) (View.ld x10 r0_4)) (View.ld x3 r0_7) (View.ld x4 r0_8) (View.ld x11 r0_9))⟩]

theorem cover0_18 (p0 : Vec F S128x512 .f32) (y : S128x512.Idx) :
    ∃ pc ∈ ([⟨r0_2, p0⟩] : List (View.Piece (Elt F) S128x512 .f32)), y ∈ pc.1.set :=
  View.cover_of_tiled [⟨r0_2, p0⟩] S128x512.size (by rfl) y

def out0_19 (x0 : Vec F S128x1024 .f32) (x1 : Vec F S128x1024 .f32) (x2 : Vec F S1024x1536 .bf16) (x3 : Vec F S1024x64 .bf16) (x4 : Vec F S64x512 .bf16) (x5 : Vec F S1024x64 .bf16) (x6 : Vec F S64x512 .bf16) (x7 : Vec F S1024x160 .bf16) (x8 : Vec F S160x512 .bf16) (x9 : Vec F S1x1536 .f32) (x10 : Vec F S3x1024 .f32) (x11 : Vec F S1x512 .f32) (x12 : Vec F S1x512 .f32) (x13 : Vec F S1x512 .f32) (x14 : Vec F S1x512 .f32) (x15 : Vec F S512x512 .bf16) (x16 : Vec F S1024x1536 .bf16) : Vec F S128x512 .f32 :=
  View.canon [⟨r0_2, k0_pay1 (k0_pay37 x0 x1 x2 x3 x4 x5 x6 x7 x8 x9 x10 x11 x12 x13 x14 x15 x16) (k0_pay30 (k0_pay39 x0 x1 x2 x3 x4 x5 x6 x7 x8 x9 x10 x11 x12 x13 x14 x15 x16) (k0_pay40 x0 x1 x2 x3 x4 x5 x6 x7 x8 x9 x10 x11 x12 x13 x14 x15 x16) (View.ld x6 r0_8)) (View.ld x14 r0_9)⟩]

theorem cover0_19 (p0 : Vec F S128x512 .f32) (y : S128x512.Idx) :
    ∃ pc ∈ ([⟨r0_2, p0⟩] : List (View.Piece (Elt F) S128x512 .f32)), y ∈ pc.1.set :=
  View.cover_of_tiled [⟨r0_2, p0⟩] S128x512.size (by rfl) y

def out0_20 (x0 : Vec F S128x1024 .f32) (x1 : Vec F S128x1024 .f32) (x2 : Vec F S1024x1536 .bf16) (x3 : Vec F S1024x64 .bf16) (x4 : Vec F S64x512 .bf16) (x5 : Vec F S1024x64 .bf16) (x6 : Vec F S64x512 .bf16) (x7 : Vec F S1024x160 .bf16) (x8 : Vec F S160x512 .bf16) (x9 : Vec F S1x1536 .f32) (x10 : Vec F S3x1024 .f32) (x11 : Vec F S1x512 .f32) (x12 : Vec F S1x512 .f32) (x13 : Vec F S1x512 .f32) (x14 : Vec F S1x512 .f32) (x15 : Vec F S512x512 .bf16) (x16 : Vec F S1024x1536 .bf16) : Vec F S128x512 .f32 :=
  View.canon [⟨r0_2, k0_pay2 (k0_pay41 x0 x1 x2 x3 x4 x5 x6 x7 x8 x9 x10 x11 x12 x13 x14 x15 x16)⟩]

theorem cover0_20 (p0 : Vec F S128x512 .f32) (y : S128x512.Idx) :
    ∃ pc ∈ ([⟨r0_2, p0⟩] : List (View.Piece (Elt F) S128x512 .f32)), y ∈ pc.1.set :=
  View.cover_of_tiled [⟨r0_2, p0⟩] S128x512.size (by rfl) y

def out0_21 (x0 : Vec F S128x1024 .f32) (x1 : Vec F S128x1024 .f32) (x2 : Vec F S1024x1536 .bf16) (x3 : Vec F S1024x64 .bf16) (x4 : Vec F S64x512 .bf16) (x5 : Vec F S1024x64 .bf16) (x6 : Vec F S64x512 .bf16) (x7 : Vec F S1024x160 .bf16) (x8 : Vec F S160x512 .bf16) (x9 : Vec F S1x1536 .f32) (x10 : Vec F S3x1024 .f32) (x11 : Vec F S1x512 .f32) (x12 : Vec F S1x512 .f32) (x13 : Vec F S1x512 .f32) (x14 : Vec F S1x512 .f32) (x15 : Vec F S512x512 .bf16) (x16 : Vec F S1024x1536 .bf16) : Vec F S128x512 .f32 :=
  View.canon [⟨r0_2, k0_pay3 (k0_pay26 (k0_pay39 x0 x1 x2 x3 x4 x5 x6 x7 x8 x9 x10 x11 x12 x13 x14 x15 x16) (k0_pay40 x0 x1 x2 x3 x4 x5 x6 x7 x8 x9 x10 x11 x12 x13 x14 x15 x16) (View.ld x6 r0_8)) (k0_pay41 x0 x1 x2 x3 x4 x5 x6 x7 x8 x9 x10 x11 x12 x13 x14 x15 x16)⟩]

theorem cover0_21 (p0 : Vec F S128x512 .f32) (y : S128x512.Idx) :
    ∃ pc ∈ ([⟨r0_2, p0⟩] : List (View.Piece (Elt F) S128x512 .f32)), y ∈ pc.1.set :=
  View.cover_of_tiled [⟨r0_2, p0⟩] S128x512.size (by rfl) y

def out0_22 (x0 : Vec F S128x1024 .f32) (x1 : Vec F S128x1024 .f32) (x2 : Vec F S1024x1536 .bf16) (x3 : Vec F S1024x64 .bf16) (x4 : Vec F S64x512 .bf16) (x5 : Vec F S1024x64 .bf16) (x6 : Vec F S64x512 .bf16) (x7 : Vec F S1024x160 .bf16) (x8 : Vec F S160x512 .bf16) (x9 : Vec F S1x1536 .f32) (x10 : Vec F S3x1024 .f32) (x11 : Vec F S1x512 .f32) (x12 : Vec F S1x512 .f32) (x13 : Vec F S1x512 .f32) (x14 : Vec F S1x512 .f32) (x15 : Vec F S512x512 .bf16) (x16 : Vec F S1024x1536 .bf16) : Vec F S128x512 .f32 :=
  View.canon [⟨r0_2, k0_pay19 (k0_pay32 x0 x1 x2 x3 x4 x5 x6 x7 x8 x9 x10 x11 x12 x13 x14 x15 x16) (k0_pay33 x0 x1 x2 x3 x4 x5 x6 x7 x8 x9 x10 x11 x12 x13 x14 x15 x16) (k0_pay34 x0 x1 x2 x3 x4 x5 x6 x7 x8 x9 x10 x11 x12 x13 x14 x15 x16) (k0_pay36 x0 x1 x2 x3 x4 x5 x6 x7 x8 x9 x10 x11 x12 x13 x14 x15 x16) (View.ld x9 r0_3)⟩]

theorem cover0_22 (p0 : Vec F S128x512 .f32) (y : S128x512.Idx) :
    ∃ pc ∈ ([⟨r0_2, p0⟩] : List (View.Piece (Elt F) S128x512 .f32)), y ∈ pc.1.set :=
  View.cover_of_tiled [⟨r0_2, p0⟩] S128x512.size (by rfl) y

def out0_23 (x0 : Vec F S128x1024 .f32) (x1 : Vec F S128x1024 .f32) (x2 : Vec F S1024x1536 .bf16) (x3 : Vec F S1024x64 .bf16) (x4 : Vec F S64x512 .bf16) (x5 : Vec F S1024x64 .bf16) (x6 : Vec F S64x512 .bf16) (x7 : Vec F S1024x160 .bf16) (x8 : Vec F S160x512 .bf16) (x9 : Vec F S1x1536 .f32) (x10 : Vec F S3x1024 .f32) (x11 : Vec F S1x512 .f32) (x12 : Vec F S1x512 .f32) (x13 : Vec F S1x512 .f32) (x14 : Vec F S1x512 .f32) (x15 : Vec F S512x512 .bf16) (x16 : Vec F S1024x1536 .bf16) : Vec F S128x512 .f32 :=
  View.canon [⟨r0_2, k0_pay27 (k0_pay22 (k0_pay31 x0 x1 x2 x3 x4 x5 x6 x7 x8 x9 x10 x11 x12 x13 x14 x15 x16) (k0_pay38 x0 x1 x2 x3 x4 x5 x6 x7 x8 x9 x10 x11 x12 x13 x14 x15 x16) (View.ld x10 r0_6)) (View.ld x7 r0_10) (View.ld x8 r0_11)⟩]

theorem cover0_23 (p0 : Vec F S128x512 .f32) (y : S128x512.Idx) :
    ∃ pc ∈ ([⟨r0_2, p0⟩] : List (View.Piece (Elt F) S128x512 .f32)), y ∈ pc.1.set :=
  View.cover_of_tiled [⟨r0_2, p0⟩] S128x512.size (by rfl) y

def out0_24 (x0 : Vec F S128x1024 .f32) (x1 : Vec F S128x1024 .f32) (x2 : Vec F S1024x1536 .bf16) (x3 : Vec F S1024x64 .bf16) (x4 : Vec F S64x512 .bf16) (x5 : Vec F S1024x64 .bf16) (x6 : Vec F S64x512 .bf16) (x7 : Vec F S1024x160 .bf16) (x8 : Vec F S160x512 .bf16) (x9 : Vec F S1x1536 .f32) (x10 : Vec F S3x1024 .f32) (x11 : Vec F S1x512 .f32) (x12 : Vec F S1x512 .f32) (x13 : Vec F S1x512 .f32) (x14 : Vec F S1x512 .f32) (x15 : Vec F S512x512 .bf16) (x16 : Vec F S1024x1536 .bf16) : Vec F S128x512 .bf16 :=
  View.canon [⟨r0_2, k0_pay11 (k0_pay31 x0 x1 x2 x3 x4 x5 x6 x7 x8 x9 x10 x11 x12 x13 x14 x15 x16) (View.ld x16 r0_1)⟩]

theorem cover0_24 (p0 : Vec F S128x512 .bf16) (y : S128x512.Idx) :
    ∃ pc ∈ ([⟨r0_2, p0⟩] : List (View.Piece (Elt F) S128x512 .bf16)), y ∈ pc.1.set :=
  View.cover_of_tiled [⟨r0_2, p0⟩] S128x512.size (by rfl) y

def out0_25 (x0 : Vec F S128x1024 .f32) (x1 : Vec F S128x1024 .f32) (x2 : Vec F S1024x1536 .bf16) (x3 : Vec F S1024x64 .bf16) (x4 : Vec F S64x512 .bf16) (x5 : Vec F S1024x64 .bf16) (x6 : Vec F S64x512 .bf16) (x7 : Vec F S1024x160 .bf16) (x8 : Vec F S160x512 .bf16) (x9 : Vec F S1x1536 .f32) (x10 : Vec F S3x1024 .f32) (x11 : Vec F S1x512 .f32) (x12 : Vec F S1x512 .f32) (x13 : Vec F S1x512 .f32) (x14 : Vec F S1x512 .f32) (x15 : Vec F S512x512 .bf16) (x16 : Vec F S1024x1536 .bf16) : Vec F S128x512 .f32 :=
  View.canon [⟨r0_2, k0_pay12 (k0_pay31 x0 x1 x2 x3 x4 x5 x6 x7 x8 x9 x10 x11 x12 x13 x14 x15 x16) (View.ld x16 r0_1)⟩]

theorem cover0_25 (p0 : Vec F S128x512 .f32) (y : S128x512.Idx) :
    ∃ pc ∈ ([⟨r0_2, p0⟩] : List (View.Piece (Elt F) S128x512 .f32)), y ∈ pc.1.set :=
  View.cover_of_tiled [⟨r0_2, p0⟩] S128x512.size (by rfl) y

def out0_26 (x0 : Vec F S128x1024 .f32) (x1 : Vec F S128x1024 .f32) (x2 : Vec F S1024x1536 .bf16) (x3 : Vec F S1024x64 .bf16) (x4 : Vec F S64x512 .bf16) (x5 : Vec F S1024x64 .bf16) (x6 : Vec F S64x512 .bf16) (x7 : Vec F S1024x160 .bf16) (x8 : Vec F S160x512 .bf16) (x9 : Vec F S1x1536 .f32) (x10 : Vec F S3x1024 .f32) (x11 : Vec F S1x512 .f32) (x12 : Vec F S1x512 .f32) (x13 : Vec F S1x512 .f32) (x14 : Vec F S1x512 .f32) (x15 : Vec F S512x512 .bf16) (x16 : Vec F S1024x1536 .bf16) : Vec F S128x512 .f32 :=
  View.canon [⟨r0_2, k0_pay13 (k0_pay31 x0 x1 x2 x3 x4 x5 x6 x7 x8 x9 x10 x11 x12 x13 x14 x15 x16) (View.ld x16 r0_1)⟩]

theorem cover0_26 (p0 : Vec F S128x512 .f32) (y : S128x512.Idx) :
    ∃ pc ∈ ([⟨r0_2, p0⟩] : List (View.Piece (Elt F) S128x512 .f32)), y ∈ pc.1.set :=
  View.cover_of_tiled [⟨r0_2, p0⟩] S128x512.size (by rfl) y

def out0_27 (x0 : Vec F S128x1024 .f32) (x1 : Vec F S128x1024 .f32) (x2 : Vec F S1024x1536 .bf16) (x3 : Vec F S1024x64 .bf16) (x4 : Vec F S64x512 .bf16) (x5 : Vec F S1024x64 .bf16) (x6 : Vec F S64x512 .bf16) (x7 : Vec F S1024x160 .bf16) (x8 : Vec F S160x512 .bf16) (x9 : Vec F S1x1536 .f32) (x10 : Vec F S3x1024 .f32) (x11 : Vec F S1x512 .f32) (x12 : Vec F S1x512 .f32) (x13 : Vec F S1x512 .f32) (x14 : Vec F S1x512 .f32) (x15 : Vec F S512x512 .bf16) (x16 : Vec F S1024x1536 .bf16) : Vec F S128x512 .bf16 :=
  View.canon [⟨r0_2, k0_pay14 (k0_pay31 x0 x1 x2 x3 x4 x5 x6 x7 x8 x9 x10 x11 x12 x13 x14 x15 x16) (View.ld x16 r0_1)⟩]

theorem cover0_27 (p0 : Vec F S128x512 .bf16) (y : S128x512.Idx) :
    ∃ pc ∈ ([⟨r0_2, p0⟩] : List (View.Piece (Elt F) S128x512 .bf16)), y ∈ pc.1.set :=
  View.cover_of_tiled [⟨r0_2, p0⟩] S128x512.size (by rfl) y

def out0_28 (x0 : Vec F S128x1024 .f32) (x1 : Vec F S128x1024 .f32) (x2 : Vec F S1024x1536 .bf16) (x3 : Vec F S1024x64 .bf16) (x4 : Vec F S64x512 .bf16) (x5 : Vec F S1024x64 .bf16) (x6 : Vec F S64x512 .bf16) (x7 : Vec F S1024x160 .bf16) (x8 : Vec F S160x512 .bf16) (x9 : Vec F S1x1536 .f32) (x10 : Vec F S3x1024 .f32) (x11 : Vec F S1x512 .f32) (x12 : Vec F S1x512 .f32) (x13 : Vec F S1x512 .f32) (x14 : Vec F S1x512 .f32) (x15 : Vec F S512x512 .bf16) (x16 : Vec F S1024x1536 .bf16) : Vec F S128x512 .bf16 :=
  View.canon [⟨r0_2, k0_pay15 (k0_pay31 x0 x1 x2 x3 x4 x5 x6 x7 x8 x9 x10 x11 x12 x13 x14 x15 x16) (View.ld x16 r0_1)⟩]

theorem cover0_28 (p0 : Vec F S128x512 .bf16) (y : S128x512.Idx) :
    ∃ pc ∈ ([⟨r0_2, p0⟩] : List (View.Piece (Elt F) S128x512 .bf16)), y ∈ pc.1.set :=
  View.cover_of_tiled [⟨r0_2, p0⟩] S128x512.size (by rfl) y

set_option maxHeartbeats 1000000 in
theorem sound_kernel (c : Dev nD) (E : Set ℕ) (i : grid0.Coords) (arg1 : Memref sig .tc .vmem S128x1024 .f32) (harg1 : arg1.IsWhole) (arg2 : Memref sig .tc .vmem S128x1024 .f32) (harg2 : arg2.IsWhole) (arg3 : Memref sig .tc .vmem S1024x1536 .bf16) (harg3 : arg3.IsWhole) (arg4 : Memref sig .tc .vmem S1024x64 .bf16) (harg4 : arg4.IsWhole) (arg5 : Memref sig .tc .vmem S64x512 .bf16) (harg5 : arg5.IsWhole) (arg6 : Memref sig .tc .vmem S1024x64 .bf16) (harg6 : arg6.IsWhole) (arg7 : Memref sig .tc .vmem S64x512 .bf16) (harg7 : arg7.IsWhole) (arg8 : Memref sig .tc .vmem S1024x160 .bf16) (harg8 : arg8.IsWhole) (arg9 : Memref sig .tc .vmem S160x512 .bf16) (harg9 : arg9.IsWhole) (arg10 : Memref sig .tc .vmem S1x1536 .f32) (harg10 : arg10.IsWhole) (arg11 : Memref sig .tc .vmem S3x1024 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S512x512 .bf16) (harg16 : arg16.IsWhole) (arg17 : Memref sig .tc .vmem S1024x1536 .bf16) (harg17 : arg17.IsWhole) (arg18 : Memref sig .tc .vmem S128x512 .f32) (harg18 : arg18.IsWhole) (arg19 : Memref sig .tc .vmem S128x512 .f32) (harg19 : arg19.IsWhole) (arg20 : Memref sig .tc .vmem S128x512 .f32) (harg20 : arg20.IsWhole) (arg21 : Memref sig .tc .vmem S128x512 .f32) (harg21 : arg21.IsWhole) (arg22 : Memref sig .tc .vmem S128x512 .f32) (harg22 : arg22.IsWhole) (arg23 : Memref sig .tc .vmem S128x512 .f32) (harg23 : arg23.IsWhole) (arg24 : Memref sig .tc .vmem S128x512 .f32) (harg24 : arg24.IsWhole) (arg25 : Memref sig .tc .vmem S128x512 .bf16) (harg25 : arg25.IsWhole) (arg26 : Memref sig .tc .vmem S128x512 .f32) (harg26 : arg26.IsWhole) (arg27 : Memref sig .tc .vmem S128x512 .f32) (harg27 : arg27.IsWhole) (arg28 : Memref sig .tc .vmem S128x512 .bf16) (harg28 : arg28.IsWhole) (arg29 : Memref sig .tc .vmem S128x512 .bf16) (harg29 : arg29.IsWhole)
    (x0 : Vec F S128x1024 .f32) (x1 : Vec F S128x1024 .f32) (x2 : Vec F S1024x1536 .bf16) (x3 : Vec F S1024x64 .bf16) (x4 : Vec F S64x512 .bf16) (x5 : Vec F S1024x64 .bf16) (x6 : Vec F S64x512 .bf16) (x7 : Vec F S1024x160 .bf16) (x8 : Vec F S160x512 .bf16) (x9 : Vec F S1x1536 .f32) (x10 : Vec F S3x1024 .f32) (x11 : Vec F S1x512 .f32) (x12 : Vec F S1x512 .f32) (x13 : Vec F S1x512 .f32) (x14 : Vec F S1x512 .f32) (x15 : Vec F S512x512 .bf16) (x16 : Vec F S1024x1536 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare (out0_17 x0 x1 x2 x3 x4 x5 x6 x7 x8 x9 x10 x11 x12 x13 x14 x15 x16) ∗ owns (c : Thread nD τ) arg19 fullShare (out0_18 x0 x1 x2 x3 x4 x5 x6 x7 x8 x9 x10 x11 x12 x13 x14 x15 x16) ∗ owns (c : Thread nD τ) arg20 fullShare (out0_19 x0 x1 x2 x3 x4 x5 x6 x7 x8 x9 x10 x11 x12 x13 x14 x15 x16) ∗ owns (c : Thread nD τ) arg21 fullShare (out0_20 x0 x1 x2 x3 x4 x5 x6 x7 x8 x9 x10 x11 x12 x13 x14 x15 x16) ∗ owns (c : Thread nD τ) arg22 fullShare (out0_21 x0 x1 x2 x3 x4 x5 x6 x7 x8 x9 x10 x11 x12 x13 x14 x15 x16) ∗ owns (c : Thread nD τ) arg23 fullShare (out0_22 x0 x1 x2 x3 x4 x5 x6 x7 x8 x9 x10 x11 x12 x13 x14 x15 x16) ∗ owns (c : Thread nD τ) arg24 fullShare (out0_23 x0 x1 x2 x3 x4 x5 x6 x7 x8 x9 x10 x11 x12 x13 x14 x15 x16) ∗ owns (c : Thread nD τ) arg25 fullShare (out0_24 x0 x1 x2 x3 x4 x5 x6 x7 x8 x9 x10 x11 x12 x13 x14 x15 x16) ∗ owns (c : Thread nD τ) arg26 fullShare (out0_25 x0 x1 x2 x3 x4 x5 x6 x7 x8 x9 x10 x11 x12 x13 x14 x15 x16) ∗ owns (c : Thread nD τ) arg27 fullShare (out0_26 x0 x1 x2 x3 x4 x5 x6 x7 x8 x9 x10 x11 x12 x13 x14 x15 x16) ∗ owns (c : Thread nD τ) arg28 fullShare (out0_27 x0 x1 x2 x3 x4 x5 x6 x7 x8 x9 x10 x11 x12 x13 x14 x15 x16) ∗ owns (c : Thread nD τ) arg29 fullShare (out0_28 x0 x1 x2 x3 x4 x5 x6 x7 x8 x9 x10 x11 x12 x13 x14 x15 x16)) -∗ K ⟨⟩))
      ⊢ wp frame (wpE (defs₀ (F := F)) Variants.none c none) E (cc0_mixer_prep i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  simp only [cc0_mixer_prep_eq_skeleton]; unfold cc0_mixer_prep_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, Hk⟩
  subst hf0 hf1 hf2 hf3 hf4 hf5 hf6 hf7 hf8 hf9 hf10 hf11 hf12 hf13 hf14 hf15 hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _)).trans ?_
    rfl
  isplitl [H25]
  · iexists _; isplitr
    swap; · iexact H25
    ipureintro
    refine (View.read_writes_eq_canon _ _ _ (cover0_25 _)).trans ?_
    rfl
  isplitl [H26]
  · iexists _; isplitr
    swap; · iexact H26
    ipureintro
    refine (View.read_writes_eq_canon _ _ _ (cover0_26 _)).trans ?_
    rfl
  isplitl [H27]
  · iexists _; isplitr
    swap; · iexact H27
    ipureintro
    refine (View.read_writes_eq_canon _ _ _ (cover0_27 _)).trans ?_
    rfl
  iexists _; isplitr
  swap; · iexact H28
  ipureintro
  refine (View.read_writes_eq_canon _ _ _ (cover0_28 _)).trans ?_
  rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨27, _⟩ => out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨28, _⟩ => out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨_ + 29, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_27 (c : Dev nD) (t : Fin cfg0.N) : (dats m 0 c).after 27 t = out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_28 (c : Dev nD) (t : Fin cfg0.N) : (dats m 0 c).after 28 t = out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t))

set_option maxHeartbeats 8000000 in
/-- The body at a point keeps what is asked of it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  iintro ⟨H0, H1, H2, H3, H4, H5, H6, H7, H8, H9, H10, H11, H12, H13, H14, H15, H16, H17, H18, H19, H20, H21, H22, H23, H24, H25, H26, H27, H28⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  iexact H28

theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- What is asked of the body at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 8000000 in
/-- The whole program runs to the end, with the arrays as the data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.Kernel4.Mix

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import proofs.«01_k».proof.Proof.Gen.Reference4Ideal.Read
public import proofs.«01_k».proof.Proof.Ref
public import proofs.«01_k».proof.Proof.FfnRef
public import proofs.«01_k».proof.Proof.MergeRef
public import proofs.«01_k».proof.Proof.MixerFinal
public import proofs.«01_k».proof.Proof.MixerRef
public import proofs.«01_k».proof.Proof.MixerWords
public import Idealize.ShloMosaic.Adequacy
public import Idealize.ShloMosaic.Init

@[expose] public section

noncomputable section

namespace Cert.Proof

open Idealize.ShloMosaic Idealize.SL.Sem

/-- The attention kernel on machine floats: it ends, keeps its arguments and leaves every counter at zero. -/
theorem frame_kernel : Cert.quiescent_Kernel := fun m ρ _ => Cert.Kernel.Gen.frame (F := Bits) m ρ

theorem frame_kernelIdeal : Cert.quiescent_KernelIdeal := fun m ρ _ => Cert.KernelIdeal.Gen.frame (F := Ideal) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Both runs of the attention end with `attn` of the arguments. -/
theorem value : Cert.algebraic_KernelIdeal_ReferenceIdeal := by
  intro m g m' g' _ hargs
  refine ⟨fun c => (Cert.KernelIdeal.Gen.dats m 0 c).arrAt 5 Cert.KernelIdeal.cfg0.N, Cert.KernelIdeal.Value.run_blocks (F := Ideal) m g,
    (θ_run Cert.ReferenceIdeal.defs _ _).mono (fun r h c => ⟨(h c).1.trans ?_, (h c).2⟩) (Cert.ReferenceIdeal.Value.run (F := Ideal) m' g')⟩
  obtain ⟨e0, e1, e2, e3⟩ := hargs c
  rw [Cert.ReferenceIdeal.Read.val_main_v23_eq, e0, e1, e2, e3]
  exact (Cert.ReferenceIdeal.Attn.result _ _ _ _).trans (Cert.KernelIdeal.Attn.final m c).symm

/-- The feed-forward layer kernel on machine floats. -/
theorem frame_kernel2 : Cert.quiescent_Kernel2 := fun m ρ _ => Cert.Kernel2.Gen.frame (F := Bits) m ρ

theorem frame_kernelIdeal2 : Cert.quiescent_Kernel2Ideal := fun m ρ _ => Cert.Kernel2Ideal.Gen.frame (F := Ideal) m ρ

theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Both runs of the feed-forward layer end with `layer` of the arguments. -/
theorem value2 : Cert.algebraic_Kernel2Ideal_Reference2Ideal := by
  intro m g m' g' _ hargs
  refine ⟨fun c => (Cert.Kernel2Ideal.Gen.dats m 0 c).arrAt 6 Cert.Kernel2Ideal.cfg0.N, Cert.Kernel2Ideal.Value.run_blocks (F := Ideal) m g,
    (θ_run Cert.Reference2Ideal.defs _ _).mono (fun r h c => ⟨(h c).1.trans ?_, (h c).2⟩) (Cert.Reference2Ideal.Value.run (F := Ideal) m' g')⟩
  obtain ⟨e0, e1, e2, e3, e4⟩ := hargs c
  rw [Cert.Reference2Ideal.Read.val_main_v35_eq, e0, e1, e2, e3, e4]
  exact (Cert.Reference2Ideal.Ffn.result _ _ _ _ _).trans (Cert.Kernel2Ideal.Ffn.final m c).symm

/-- The merge layer kernel on machine floats. -/
theorem frame_kernel3 : Cert.quiescent_Kernel3 := fun m ρ _ => Cert.Kernel3.Gen.frame (F := Bits) m ρ

theorem frame_kernelIdeal3 : Cert.quiescent_Kernel3Ideal := fun m ρ _ => Cert.Kernel3Ideal.Gen.frame (F := Ideal) m ρ

theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Both runs of the merge layer end with `layer` of the arguments. -/
theorem value3 : Cert.algebraic_Kernel3Ideal_Reference3Ideal := by
  intro m g m' g' _ hargs
  refine ⟨fun c => (Cert.Kernel3Ideal.Gen.dats m 0 c).arrAt 9 Cert.Kernel3Ideal.cfg0.N, Cert.Kernel3Ideal.Value.run_blocks (F := Ideal) m g,
    (θ_run Cert.Reference3Ideal.defs _ _).mono (fun r h c => ⟨(h c).1.trans ?_, (h c).2⟩) (Cert.Reference3Ideal.Value.run (F := Ideal) m' g')⟩
  obtain ⟨e0, e1, e2, e3, e4, e5, e6, e7⟩ := hargs c
  rw [Cert.Reference3Ideal.Read.val_main_v44_eq, e0, e1, e2, e3, e4, e5, e6, e7]
  exact (Cert.Reference3Ideal.Merge.result _ _ _ _ _ _ _ _).trans (Cert.Kernel3Ideal.Merge.final m c).symm

/-- The mixer's projection kernel on machine floats. -/
theorem frame_kernel4 : Cert.quiescent_Kernel4 := fun m ρ _ => Cert.Kernel4.Mix.frame (F := Bits) m ρ

theorem frame_kernelIdeal4 : Cert.quiescent_Kernel4Ideal := fun m ρ _ => Cert.Kernel4Ideal.Mix.frame (F := Ideal) m ρ

theorem frame_reference4 : Cert.quiescent_Reference4Ideal := fun m ρ _ =>
  (θ_run Cert.Reference4Ideal.defs _ _).mono
    (fun r h => ⟨fun c => let ⟨_, _, _, _, _, _, _, _, _, _, _, _, k⟩ := h c; k, sem_eq_zero_of_no_sems (by decide) r.2⟩)
    (Cert.Reference4Ideal.Value.run (F := Ideal) m ρ)

set_option maxHeartbeats 4000000 in
/-- Both runs of the mixer's projections end with the rows of the same twelve functions of the arguments. -/
theorem value4 : Cert.algebraic_Kernel4Ideal_Reference4Ideal := by
  intro m g m' g' _ hargs
  refine ⟨fun c => (Cert.Kernel4Ideal.Mix.dats m 0 c).arrAt 17 Cert.Kernel4Ideal.cfg0.N,
    fun c => (Cert.Kernel4Ideal.Mix.dats m 0 c).arrAt 18 Cert.Kernel4Ideal.cfg0.N,
    fun c => (Cert.Kernel4Ideal.Mix.dats m 0 c).arrAt 19 Cert.Kernel4Ideal.cfg0.N,
    fun c => (Cert.Kernel4Ideal.Mix.dats m 0 c).arrAt 20 Cert.Kernel4Ideal.cfg0.N,
    fun c => (Cert.Kernel4Ideal.Mix.dats m 0 c).arrAt 21 Cert.Kernel4Ideal.cfg0.N,
    fun c => (Cert.Kernel4Ideal.Mix.dats m 0 c).arrAt 22 Cert.Kernel4Ideal.cfg0.N,
    fun c => (Cert.Kernel4Ideal.Mix.dats m 0 c).arrAt 23 Cert.Kernel4Ideal.cfg0.N,
    fun c => (Cert.Kernel4Ideal.Mix.dats m 0 c).arrAt 24 Cert.Kernel4Ideal.cfg0.N,
    fun c => (Cert.Kernel4Ideal.Mix.dats m 0 c).arrAt 25 Cert.Kernel4Ideal.cfg0.N,
    fun c => (Cert.Kernel4Ideal.Mix.dats m 0 c).arrAt 26 Cert.Kernel4Ideal.cfg0.N,
    fun c => (Cert.Kernel4Ideal.Mix.dats m 0 c).arrAt 27 Cert.Kernel4Ideal.cfg0.N,
    fun c => (Cert.Kernel4Ideal.Mix.dats m 0 c).arrAt 28 Cert.Kernel4Ideal.cfg0.N,
    Cert.Kernel4Ideal.Mix.run_blocks (F := Ideal) m g,
    (θ_run Cert.Reference4Ideal.defs _ _).mono (fun r h c => ?_) (Cert.Reference4Ideal.Value.run (F := Ideal) m' g')⟩
  obtain ⟨e0, e1, e2, e3, e4, e5, e6, e7, e8, e9, e10, e11, e12, e13, e14⟩ := hargs c
  obtain ⟨h0, h1, h2, h3, h4, h5, h6, h7, h8, h9, h10, h11, kept⟩ := h c
  refine ⟨h0.trans ?_, h1.trans ?_, h2.trans ?_, h3.trans ?_, h4.trans ?_, h5.trans ?_, h6.trans ?_, h7.trans ?_, h8.trans ?_, h9.trans ?_, h10.trans ?_, h11.trans ?_, kept⟩
  · rw [Cert.Reference4Ideal.Read.val_main_v91_eq, e0, e1, e2, e3]
    exact (Cert.Reference4Ideal.Tile.result91 _ _ _ _ _ _ _ _ _ _ _ _ _ _ _).trans (Cert.Kernel4Ideal.Tile.final17 m c).symm
  · rw [Cert.Reference4Ideal.Read.val_main_v94_eq, e0, e1, e4, e5, e6, e7]
    exact (Cert.Reference4Ideal.Tile.result94 _ _ _ _ _ _ _ _ _ _ _ _ _ _ _).trans (Cert.Kernel4Ideal.Tile.final18 m c).symm
  · rw [Cert.Reference4Ideal.Read.val_main_v95_eq, e0, e1, e2, e3, e4, e8, e9, e10, e14]
    exact (Cert.Reference4Ideal.Tile.result95 _ _ _ _ _ _ _ _ _ _ _ _ _ _ _).trans (Cert.Kernel4Ideal.Tile.final19 m c).symm
  · rw [Cert.Reference4Ideal.Read.val_main_v97_eq, e0, e1, e2, e3, e13]
    exact (Cert.Reference4Ideal.Tile.result97 _ _ _ _ _ _ _ _ _ _ _ _ _ _ _).trans (Cert.Kernel4Ideal.Tile.final20 m c).symm
  · rw [Cert.Reference4Ideal.Read.val_main_v100_eq, e0, e1, e2, e3, e4, e8, e9, e10, e13]
    exact (Cert.Reference4Ideal.Tile.result100 _ _ _ _ _ _ _ _ _ _ _ _ _ _ _).trans (Cert.Kernel4Ideal.Tile.final21 m c).symm
  · rw [Cert.Reference4Ideal.Read.val_main_v101_eq, e0, e1, e2, e3]
    exact (Cert.Reference4Ideal.Tile.result101 _ _ _ _ _ _ _ _ _ _ _ _ _ _ _).trans (Cert.Kernel4Ideal.Tile.final22 m c).symm
  · rw [Cert.Reference4Ideal.Read.val_main_v102_eq, e0, e1, e4, e11, e12]
    exact (Cert.Reference4Ideal.Tile.result102 _ _ _ _ _ _ _ _ _ _ _ _ _ _ _).trans (Cert.Kernel4Ideal.Tile.final23 m c).symm
  · rw [Cert.Reference4Ideal.Read.val_main_v106_eq, e0, e2]
    exact (Cert.Reference4Ideal.Tile.result106 _ _ _ _ _ _ _ _ _ _ _ _ _ _ _).trans (Cert.Kernel4Ideal.Tile.final24 m c).symm
  · rw [Cert.Reference4Ideal.Read.val_main_v107_eq, e0, e2]
    exact (Cert.Reference4Ideal.Tile.result107 _ _ _ _ _ _ _ _ _ _ _ _ _ _ _).trans (Cert.Kernel4Ideal.Tile.final25 m c).symm
  · rw [Cert.Reference4Ideal.Read.val_main_v108_eq, e0, e2]
    exact (Cert.Reference4Ideal.Tile.result108 _ _ _ _ _ _ _ _ _ _ _ _ _ _ _).trans (Cert.Kernel4Ideal.Tile.final26 m c).symm
  · rw [Cert.Reference4Ideal.Read.val_main_v110_eq, e0, e2]
    exact (Cert.Reference4Ideal.Tile.result110 _ _ _ _ _ _ _ _ _ _ _ _ _ _ _).trans (Cert.Kernel4Ideal.Tile.final27 m c).symm
  · rw [Cert.Reference4Ideal.Read.val_main_v112_eq, e0, e2]
    exact (Cert.Reference4Ideal.Tile.result112 _ _ _ _ _ _ _ _ _ _ _ _ _ _ _).trans (Cert.Kernel4Ideal.Tile.final28 m c).symm

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  frame_kernel, frame_kernelIdeal, frame_reference, frame_kernel2, frame_kernelIdeal2, frame_reference2, frame_kernel3, frame_kernelIdeal3,
  frame_reference3, frame_kernel4, frame_kernelIdeal4, frame_reference4, trivial, value, trivial, value2, trivial, value3, trivial, value4⟩

end Cert.Proof

end
